-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 256]⟩ ⟨2, ![512, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S32x256 : Shape := ⟨2, ![32, 256]⟩
abbrev S16x32x256 : Shape := ⟨3, ![16, 32, 256]⟩
abbrev S16 : Shape := ⟨1, ![16]⟩
abbrev S_ : Shape := ⟨0, ![]⟩
abbrev S128x256 : Shape := ⟨2, ![128, 256]⟩
abbrev S128x512 : Shape := ⟨2, ![128, 512]⟩
abbrev S1 : Shape := ⟨1, ![1]⟩
abbrev S1x32x256 : Shape := ⟨3, ![1, 32, 256]⟩

abbrev nBuf : Space → Nat
  | .hbm => 8
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S32x256, .f32⟩
  | .local _ .vmem, ⟨0, _⟩ => ⟨S512x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S32x256, .f32⟩
  | .local _ .vmem, ⟨8, _⟩ => ⟨S512x256, .f32⟩
  | .local _ .vmem, ⟨9, _⟩ => ⟨S512x256, .bf16⟩
  | .local _ .vmem, ⟨10, _⟩ => ⟨S512x256, .f32⟩
  | .local _ .vmem, ⟨11, _⟩ => ⟨S512x256, .bf16⟩
  | .local _ .vmem, ⟨12, _⟩ => ⟨S16x32x256, .bf16⟩
  | .local _ .vmem, ⟨13, _⟩ => ⟨S16x32x256, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  (ofTc nBuf bufTy 1 104 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c0_i32_135 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v199 : BitVec 32 := Scalar.subi v2 c0_i32_135
  let c16_i32_136 : BitVec 32 := 16#32
  let c0_i32_137 : BitVec 32 := 0#32
  let v200 : BitVec 1 := Scalar.cmpi .eq c16_i32_136 c0_i32_137
  let c1_i32_138 : BitVec 32 := 1#32
  let v201 : BitVec 32 := Scalar.select v200 c1_i32_138 c16_i32_136
  let v202 : BitVec 32 := Scalar.remsi v199 v201
  let c0_i32_140 : BitVec 32 := 0#32
  let v204 : BitVec 1 := Scalar.cmpi .slt v202 c0_i32_140
  let c0_i32_141 : BitVec 32 := 0#32
  let v205 : BitVec 1 := Scalar.cmpi .slt v201 c0_i32_141
  let v206 : BitVec 1 := Scalar.xori v204 v205
  let c0_i32_139 : BitVec 32 := 0#32
  let v203 : BitVec 1 := Scalar.cmpi .ne v202 c0_i32_139
  let v207 : BitVec 1 := Scalar.andi v206 v203
  let v208 : BitVec 32 := Scalar.addi v202 v201
  let v209 : BitVec 32 := Scalar.select v207 v208 v202
  let c32_i32 : BitVec 32 := 32#32
  let v210 : BitVec 32 := Scalar.muli v209 c32_i32
  let v211 : Index := Scalar.indexCast v210
  let c0 : Index := 0#32
  ![v211.toNat, 0]
def k0_dev16 (d0 : Dev nD) : Nat :=
  let c0_i32_318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_307 : BitVec 32 := 15#32
  let v503 : BitVec 32 := Scalar.subi v2 c15_i32_307
  let c16_i32_308 : BitVec 32 := 16#32
  let c0_i32_309 : BitVec 32 := 0#32
  let v504 : BitVec 1 := Scalar.cmpi .eq c16_i32_308 c0_i32_309
  let c1_i32_310 : BitVec 32 := 1#32
  let v505 : BitVec 32 := Scalar.select v504 c1_i32_310 c16_i32_308
  let v506 : BitVec 32 := Scalar.remsi v503 v505
  let c0_i32_312 : BitVec 32 := 0#32
  let v508 : BitVec 1 := Scalar.cmpi .slt v506 c0_i32_312
  let c0_i32_313 : BitVec 32 := 0#32
  let v509 : BitVec 1 := Scalar.cmpi .slt v505 c0_i32_313
  let v510 : BitVec 1 := Scalar.xori v508 v509
  let c0_i32_311 : BitVec 32 := 0#32
  let v507 : BitVec 1 := Scalar.cmpi .ne v506 c0_i32_311
  let v511 : BitVec 1 := Scalar.andi v510 v507
  let v512 : BitVec 32 := Scalar.addi v506 v505
  let v513 : BitVec 32 := Scalar.select v511 v512 v506
  let c1_i32_317 : BitVec 32 := 1#32
  let v514 : BitVec 32 := Scalar.muli v513 c1_i32_317
  let v515 : BitVec 32 := Scalar.addi c0_i32_318 v514
  v515.toNat
def k0_dev17 (d0 : Dev nD) : Nat :=
  let c0_i32_333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_322 : BitVec 32 := 14#32
  let v523 : BitVec 32 := Scalar.subi v2 c14_i32_322
  let c16_i32_323 : BitVec 32 := 16#32
  let c0_i32_324 : BitVec 32 := 0#32
  let v524 : BitVec 1 := Scalar.cmpi .eq c16_i32_323 c0_i32_324
  let c1_i32_325 : BitVec 32 := 1#32
  let v525 : BitVec 32 := Scalar.select v524 c1_i32_325 c16_i32_323
  let v526 : BitVec 32 := Scalar.remsi v523 v525
  let c0_i32_327 : BitVec 32 := 0#32
  let v528 : BitVec 1 := Scalar.cmpi .slt v526 c0_i32_327
  let c0_i32_328 : BitVec 32 := 0#32
  let v529 : BitVec 1 := Scalar.cmpi .slt v525 c0_i32_328
  let v530 : BitVec 1 := Scalar.xori v528 v529
  let c0_i32_326 : BitVec 32 := 0#32
  let v527 : BitVec 1 := Scalar.cmpi .ne v526 c0_i32_326
  let v531 : BitVec 1 := Scalar.andi v530 v527
  let v532 : BitVec 32 := Scalar.addi v526 v525
  let v533 : BitVec 32 := Scalar.select v531 v532 v526
  let c1_i32_332 : BitVec 32 := 1#32
  let v534 : BitVec 32 := Scalar.muli v533 c1_i32_332
  let v535 : BitVec 32 := Scalar.addi c0_i32_333 v534
  v535.toNat
def k0_dev18 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_337 : BitVec 32 := 13#32
  let v543 : BitVec 32 := Scalar.subi v2 c13_i32_337
  let c16_i32_338 : BitVec 32 := 16#32
  let c0_i32_339 : BitVec 32 := 0#32
  let v544 : BitVec 1 := Scalar.cmpi .eq c16_i32_338 c0_i32_339
  let c1_i32_340 : BitVec 32 := 1#32
  let v545 : BitVec 32 := Scalar.select v544 c1_i32_340 c16_i32_338
  let v546 : BitVec 32 := Scalar.remsi v543 v545
  let c0_i32_342 : BitVec 32 := 0#32
  let v548 : BitVec 1 := Scalar.cmpi .slt v546 c0_i32_342
  let c0_i32_343 : BitVec 32 := 0#32
  let v549 : BitVec 1 := Scalar.cmpi .slt v545 c0_i32_343
  let v550 : BitVec 1 := Scalar.xori v548 v549
  let c0_i32_341 : BitVec 32 := 0#32
  let v547 : BitVec 1 := Scalar.cmpi .ne v546 c0_i32_341
  let v551 : BitVec 1 := Scalar.andi v550 v547
  let v552 : BitVec 32 := Scalar.addi v546 v545
  let v553 : BitVec 32 := Scalar.select v551 v552 v546
  let c1_i32_347 : BitVec 32 := 1#32
  let v554 : BitVec 32 := Scalar.muli v553 c1_i32_347
  let v555 : BitVec 32 := Scalar.addi c0_i32_348 v554
  v555.toNat
def k0_dev19 (d0 : Dev nD) : Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_352 : BitVec 32 := 12#32
  let v563 : BitVec 32 := Scalar.subi v2 c12_i32_352
  let c16_i32_353 : BitVec 32 := 16#32
  let c0_i32_354 : BitVec 32 := 0#32
  let v564 : BitVec 1 := Scalar.cmpi .eq c16_i32_353 c0_i32_354
  let c1_i32_355 : BitVec 32 := 1#32
  let v565 : BitVec 32 := Scalar.select v564 c1_i32_355 c16_i32_353
  let v566 : BitVec 32 := Scalar.remsi v563 v565
  let c0_i32_357 : BitVec 32 := 0#32
  let v568 : BitVec 1 := Scalar.cmpi .slt v566 c0_i32_357
  let c0_i32_358 : BitVec 32 := 0#32
  let v569 : BitVec 1 := Scalar.cmpi .slt v565 c0_i32_358
  let v570 : BitVec 1 := Scalar.xori v568 v569
  let c0_i32_356 : BitVec 32 := 0#32
  let v567 : BitVec 1 := Scalar.cmpi .ne v566 c0_i32_356
  let v571 : BitVec 1 := Scalar.andi v570 v567
  let v572 : BitVec 32 := Scalar.addi v566 v565
  let v573 : BitVec 32 := Scalar.select v571 v572 v566
  let c1_i32_362 : BitVec 32 := 1#32
  let v574 : BitVec 32 := Scalar.muli v573 c1_i32_362
  let v575 : BitVec 32 := Scalar.addi c0_i32_363 v574
  v575.toNat
def k0_dev20 (d0 : Dev nD) : Nat :=
  let c0_i32_391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_380 : BitVec 32 := 11#32
  let v599 : BitVec 32 := Scalar.subi v2 c11_i32_380
  let c16_i32_381 : BitVec 32 := 16#32
  let c0_i32_382 : BitVec 32 := 0#32
  let v600 : BitVec 1 := Scalar.cmpi .eq c16_i32_381 c0_i32_382
  let c1_i32_383 : BitVec 32 := 1#32
  let v601 : BitVec 32 := Scalar.select v600 c1_i32_383 c16_i32_381
  let v602 : BitVec 32 := Scalar.remsi v599 v601
  let c0_i32_385 : BitVec 32 := 0#32
  let v604 : BitVec 1 := Scalar.cmpi .slt v602 c0_i32_385
  let c0_i32_386 : BitVec 32 := 0#32
  let v605 : BitVec 1 := Scalar.cmpi .slt v601 c0_i32_386
  let v606 : BitVec 1 := Scalar.xori v604 v605
  let c0_i32_384 : BitVec 32 := 0#32
  let v603 : BitVec 1 := Scalar.cmpi .ne v602 c0_i32_384
  let v607 : BitVec 1 := Scalar.andi v606 v603
  let v608 : BitVec 32 := Scalar.addi v602 v601
  let v609 : BitVec 32 := Scalar.select v607 v608 v602
  let c1_i32_390 : BitVec 32 := 1#32
  let v610 : BitVec 32 := Scalar.muli v609 c1_i32_390
  let v611 : BitVec 32 := Scalar.addi c0_i32_391 v610
  v611.toNat
def k0_dev21 (d0 : Dev nD) : Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_395 : BitVec 32 := 10#32
  let v619 : BitVec 32 := Scalar.subi v2 c10_i32_395
  let c16_i32_396 : BitVec 32 := 16#32
  let c0_i32_397 : BitVec 32 := 0#32
  let v620 : BitVec 1 := Scalar.cmpi .eq c16_i32_396 c0_i32_397
  let c1_i32_398 : BitVec 32 := 1#32
  let v621 : BitVec 32 := Scalar.select v620 c1_i32_398 c16_i32_396
  let v622 : BitVec 32 := Scalar.remsi v619 v621
  let c0_i32_400 : BitVec 32 := 0#32
  let v624 : BitVec 1 := Scalar.cmpi .slt v622 c0_i32_400
  let c0_i32_401 : BitVec 32 := 0#32
  let v625 : BitVec 1 := Scalar.cmpi .slt v621 c0_i32_401
  let v626 : BitVec 1 := Scalar.xori v624 v625
  let c0_i32_399 : BitVec 32 := 0#32
  let v623 : BitVec 1 := Scalar.cmpi .ne v622 c0_i32_399
  let v627 : BitVec 1 := Scalar.andi v626 v623
  let v628 : BitVec 32 := Scalar.addi v622 v621
  let v629 : BitVec 32 := Scalar.select v627 v628 v622
  let c1_i32_405 : BitVec 32 := 1#32
  let v630 : BitVec 32 := Scalar.muli v629 c1_i32_405
  let v631 : BitVec 32 := Scalar.addi c0_i32_406 v630
  v631.toNat
def k0_dev22 (d0 : Dev nD) : Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_410 : BitVec 32 := 9#32
  let v639 : BitVec 32 := Scalar.subi v2 c9_i32_410
  let c16_i32_411 : BitVec 32 := 16#32
  let c0_i32_412 : BitVec 32 := 0#32
  let v640 : BitVec 1 := Scalar.cmpi .eq c16_i32_411 c0_i32_412
  let c1_i32_413 : BitVec 32 := 1#32
  let v641 : BitVec 32 := Scalar.select v640 c1_i32_413 c16_i32_411
  let v642 : BitVec 32 := Scalar.remsi v639 v641
  let c0_i32_415 : BitVec 32 := 0#32
  let v644 : BitVec 1 := Scalar.cmpi .slt v642 c0_i32_415
  let c0_i32_416 : BitVec 32 := 0#32
  let v645 : BitVec 1 := Scalar.cmpi .slt v641 c0_i32_416
  let v646 : BitVec 1 := Scalar.xori v644 v645
  let c0_i32_414 : BitVec 32 := 0#32
  let v643 : BitVec 1 := Scalar.cmpi .ne v642 c0_i32_414
  let v647 : BitVec 1 := Scalar.andi v646 v643
  let v648 : BitVec 32 := Scalar.addi v642 v641
  let v649 : BitVec 32 := Scalar.select v647 v648 v642
  let c1_i32_420 : BitVec 32 := 1#32
  let v650 : BitVec 32 := Scalar.muli v649 c1_i32_420
  let v651 : BitVec 32 := Scalar.addi c0_i32_421 v650
  v651.toNat
def k0_dev23 (d0 : Dev nD) : Nat :=
  let c0_i32_436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_425 : BitVec 32 := 8#32
  let v659 : BitVec 32 := Scalar.subi v2 c8_i32_425
  let c16_i32_426 : BitVec 32 := 16#32
  let c0_i32_427 : BitVec 32 := 0#32
  let v660 : BitVec 1 := Scalar.cmpi .eq c16_i32_426 c0_i32_427
  let c1_i32_428 : BitVec 32 := 1#32
  let v661 : BitVec 32 := Scalar.select v660 c1_i32_428 c16_i32_426
  let v662 : BitVec 32 := Scalar.remsi v659 v661
  let c0_i32_430 : BitVec 32 := 0#32
  let v664 : BitVec 1 := Scalar.cmpi .slt v662 c0_i32_430
  let c0_i32_431 : BitVec 32 := 0#32
  let v665 : BitVec 1 := Scalar.cmpi .slt v661 c0_i32_431
  let v666 : BitVec 1 := Scalar.xori v664 v665
  let c0_i32_429 : BitVec 32 := 0#32
  let v663 : BitVec 1 := Scalar.cmpi .ne v662 c0_i32_429
  let v667 : BitVec 1 := Scalar.andi v666 v663
  let v668 : BitVec 32 := Scalar.addi v662 v661
  let v669 : BitVec 32 := Scalar.select v667 v668 v662
  let c1_i32_435 : BitVec 32 := 1#32
  let v670 : BitVec 32 := Scalar.muli v669 c1_i32_435
  let v671 : BitVec 32 := Scalar.addi c0_i32_436 v670
  v671.toNat
def k0_dev24 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_453 : BitVec 32 := 7#32
  let v695 : BitVec 32 := Scalar.subi v2 c7_i32_453
  let c16_i32_454 : BitVec 32 := 16#32
  let c0_i32_455 : BitVec 32 := 0#32
  let v696 : BitVec 1 := Scalar.cmpi .eq c16_i32_454 c0_i32_455
  let c1_i32_456 : BitVec 32 := 1#32
  let v697 : BitVec 32 := Scalar.select v696 c1_i32_456 c16_i32_454
  let v698 : BitVec 32 := Scalar.remsi v695 v697
  let c0_i32_458 : BitVec 32 := 0#32
  let v700 : BitVec 1 := Scalar.cmpi .slt v698 c0_i32_458
  let c0_i32_459 : BitVec 32 := 0#32
  let v701 : BitVec 1 := Scalar.cmpi .slt v697 c0_i32_459
  let v702 : BitVec 1 := Scalar.xori v700 v701
  let c0_i32_457 : BitVec 32 := 0#32
  let v699 : BitVec 1 := Scalar.cmpi .ne v698 c0_i32_457
  let v703 : BitVec 1 := Scalar.andi v702 v699
  let v704 : BitVec 32 := Scalar.addi v698 v697
  let v705 : BitVec 32 := Scalar.select v703 v704 v698
  let c1_i32_463 : BitVec 32 := 1#32
  let v706 : BitVec 32 := Scalar.muli v705 c1_i32_463
  let v707 : BitVec 32 := Scalar.addi c0_i32_464 v706
  v707.toNat
def k0_dev25 (d0 : Dev nD) : Nat :=
  let c0_i32_479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_468 : BitVec 32 := 6#32
  let v715 : BitVec 32 := Scalar.subi v2 c6_i32_468
  let c16_i32_469 : BitVec 32 := 16#32
  let c0_i32_470 : BitVec 32 := 0#32
  let v716 : BitVec 1 := Scalar.cmpi .eq c16_i32_469 c0_i32_470
  let c1_i32_471 : BitVec 32 := 1#32
  let v717 : BitVec 32 := Scalar.select v716 c1_i32_471 c16_i32_469
  let v718 : BitVec 32 := Scalar.remsi v715 v717
  let c0_i32_473 : BitVec 32 := 0#32
  let v720 : BitVec 1 := Scalar.cmpi .slt v718 c0_i32_473
  let c0_i32_474 : BitVec 32 := 0#32
  let v721 : BitVec 1 := Scalar.cmpi .slt v717 c0_i32_474
  let v722 : BitVec 1 := Scalar.xori v720 v721
  let c0_i32_472 : BitVec 32 := 0#32
  let v719 : BitVec 1 := Scalar.cmpi .ne v718 c0_i32_472
  let v723 : BitVec 1 := Scalar.andi v722 v719
  let v724 : BitVec 32 := Scalar.addi v718 v717
  let v725 : BitVec 32 := Scalar.select v723 v724 v718
  let c1_i32_478 : BitVec 32 := 1#32
  let v726 : BitVec 32 := Scalar.muli v725 c1_i32_478
  let v727 : BitVec 32 := Scalar.addi c0_i32_479 v726
  v727.toNat
def k0_dev26 (d0 : Dev nD) : Nat :=
  let c0_i32_494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_483 : BitVec 32 := 5#32
  let v735 : BitVec 32 := Scalar.subi v2 c5_i32_483
  let c16_i32_484 : BitVec 32 := 16#32
  let c0_i32_485 : BitVec 32 := 0#32
  let v736 : BitVec 1 := Scalar.cmpi .eq c16_i32_484 c0_i32_485
  let c1_i32_486 : BitVec 32 := 1#32
  let v737 : BitVec 32 := Scalar.select v736 c1_i32_486 c16_i32_484
  let v738 : BitVec 32 := Scalar.remsi v735 v737
  let c0_i32_488 : BitVec 32 := 0#32
  let v740 : BitVec 1 := Scalar.cmpi .slt v738 c0_i32_488
  let c0_i32_489 : BitVec 32 := 0#32
  let v741 : BitVec 1 := Scalar.cmpi .slt v737 c0_i32_489
  let v742 : BitVec 1 := Scalar.xori v740 v741
  let c0_i32_487 : BitVec 32 := 0#32
  let v739 : BitVec 1 := Scalar.cmpi .ne v738 c0_i32_487
  let v743 : BitVec 1 := Scalar.andi v742 v739
  let v744 : BitVec 32 := Scalar.addi v738 v737
  let v745 : BitVec 32 := Scalar.select v743 v744 v738
  let c1_i32_493 : BitVec 32 := 1#32
  let v746 : BitVec 32 := Scalar.muli v745 c1_i32_493
  let v747 : BitVec 32 := Scalar.addi c0_i32_494 v746
  v747.toNat
def k0_dev27 (d0 : Dev nD) : Nat :=
  let c0_i32_509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_498 : BitVec 32 := 4#32
  let v755 : BitVec 32 := Scalar.subi v2 c4_i32_498
  let c16_i32_499 : BitVec 32 := 16#32
  let c0_i32_500 : BitVec 32 := 0#32
  let v756 : BitVec 1 := Scalar.cmpi .eq c16_i32_499 c0_i32_500
  let c1_i32_501 : BitVec 32 := 1#32
  let v757 : BitVec 32 := Scalar.select v756 c1_i32_501 c16_i32_499
  let v758 : BitVec 32 := Scalar.remsi v755 v757
  let c0_i32_503 : BitVec 32 := 0#32
  let v760 : BitVec 1 := Scalar.cmpi .slt v758 c0_i32_503
  let c0_i32_504 : BitVec 32 := 0#32
  let v761 : BitVec 1 := Scalar.cmpi .slt v757 c0_i32_504
  let v762 : BitVec 1 := Scalar.xori v760 v761
  let c0_i32_502 : BitVec 32 := 0#32
  let v759 : BitVec 1 := Scalar.cmpi .ne v758 c0_i32_502
  let v763 : BitVec 1 := Scalar.andi v762 v759
  let v764 : BitVec 32 := Scalar.addi v758 v757
  let v765 : BitVec 32 := Scalar.select v763 v764 v758
  let c1_i32_508 : BitVec 32 := 1#32
  let v766 : BitVec 32 := Scalar.muli v765 c1_i32_508
  let v767 : BitVec 32 := Scalar.addi c0_i32_509 v766
  v767.toNat
def k0_dev28 (d0 : Dev nD) : Nat :=
  let c0_i32_537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_526 : BitVec 32 := 3#32
  let v791 : BitVec 32 := Scalar.subi v2 c3_i32_526
  let c16_i32_527 : BitVec 32 := 16#32
  let c0_i32_528 : BitVec 32 := 0#32
  let v792 : BitVec 1 := Scalar.cmpi .eq c16_i32_527 c0_i32_528
  let c1_i32_529 : BitVec 32 := 1#32
  let v793 : BitVec 32 := Scalar.select v792 c1_i32_529 c16_i32_527
  let v794 : BitVec 32 := Scalar.remsi v791 v793
  let c0_i32_531 : BitVec 32 := 0#32
  let v796 : BitVec 1 := Scalar.cmpi .slt v794 c0_i32_531
  let c0_i32_532 : BitVec 32 := 0#32
  let v797 : BitVec 1 := Scalar.cmpi .slt v793 c0_i32_532
  let v798 : BitVec 1 := Scalar.xori v796 v797
  let c0_i32_530 : BitVec 32 := 0#32
  let v795 : BitVec 1 := Scalar.cmpi .ne v794 c0_i32_530
  let v799 : BitVec 1 := Scalar.andi v798 v795
  let v800 : BitVec 32 := Scalar.addi v794 v793
  let v801 : BitVec 32 := Scalar.select v799 v800 v794
  let c1_i32_536 : BitVec 32 := 1#32
  let v802 : BitVec 32 := Scalar.muli v801 c1_i32_536
  let v803 : BitVec 32 := Scalar.addi c0_i32_537 v802
  v803.toNat
def k0_dev29 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_541 : BitVec 32 := 2#32
  let v811 : BitVec 32 := Scalar.subi v2 c2_i32_541
  let c16_i32_542 : BitVec 32 := 16#32
  let c0_i32_543 : BitVec 32 := 0#32
  let v812 : BitVec 1 := Scalar.cmpi .eq c16_i32_542 c0_i32_543
  let c1_i32_544 : BitVec 32 := 1#32
  let v813 : BitVec 32 := Scalar.select v812 c1_i32_544 c16_i32_542
  let v814 : BitVec 32 := Scalar.remsi v811 v813
  let c0_i32_546 : BitVec 32 := 0#32
  let v816 : BitVec 1 := Scalar.cmpi .slt v814 c0_i32_546
  let c0_i32_547 : BitVec 32 := 0#32
  let v817 : BitVec 1 := Scalar.cmpi .slt v813 c0_i32_547
  let v818 : BitVec 1 := Scalar.xori v816 v817
  let c0_i32_545 : BitVec 32 := 0#32
  let v815 : BitVec 1 := Scalar.cmpi .ne v814 c0_i32_545
  let v819 : BitVec 1 := Scalar.andi v818 v815
  let v820 : BitVec 32 := Scalar.addi v814 v813
  let v821 : BitVec 32 := Scalar.select v819 v820 v814
  let c1_i32_551 : BitVec 32 := 1#32
  let v822 : BitVec 32 := Scalar.muli v821 c1_i32_551
  let v823 : BitVec 32 := Scalar.addi c0_i32_552 v822
  v823.toNat
def k0_dev30 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_556 : BitVec 32 := 1#32
  let v831 : BitVec 32 := Scalar.subi v2 c1_i32_556
  let c16_i32_557 : BitVec 32 := 16#32
  let c0_i32_558 : BitVec 32 := 0#32
  let v832 : BitVec 1 := Scalar.cmpi .eq c16_i32_557 c0_i32_558
  let c1_i32_559 : BitVec 32 := 1#32
  let v833 : BitVec 32 := Scalar.select v832 c1_i32_559 c16_i32_557
  let v834 : BitVec 32 := Scalar.remsi v831 v833
  let c0_i32_561 : BitVec 32 := 0#32
  let v836 : BitVec 1 := Scalar.cmpi .slt v834 c0_i32_561
  let c0_i32_562 : BitVec 32 := 0#32
  let v837 : BitVec 1 := Scalar.cmpi .slt v833 c0_i32_562
  let v838 : BitVec 1 := Scalar.xori v836 v837
  let c0_i32_560 : BitVec 32 := 0#32
  let v835 : BitVec 1 := Scalar.cmpi .ne v834 c0_i32_560
  let v839 : BitVec 1 := Scalar.andi v838 v835
  let v840 : BitVec 32 := Scalar.addi v834 v833
  let v841 : BitVec 32 := Scalar.select v839 v840 v834
  let c1_i32_566 : BitVec 32 := 1#32
  let v842 : BitVec 32 := Scalar.muli v841 c1_i32_566
  let v843 : BitVec 32 := Scalar.addi c0_i32_567 v842
  v843.toNat
def k0_dev31 (d0 : Dev nD) : Nat :=
  let c0_i32_871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_861 : BitVec 32 := 15#32
  let v1096 : BitVec 32 := Scalar.addi v2 c15_i32_861
  let c16_i32_862 : BitVec 32 := 16#32
  let c0_i32_863 : BitVec 32 := 0#32
  let v1097 : BitVec 1 := Scalar.cmpi .eq c16_i32_862 c0_i32_863
  let c1_i32_864 : BitVec 32 := 1#32
  let v1098 : BitVec 32 := Scalar.select v1097 c1_i32_864 c16_i32_862
  let v1099 : BitVec 32 := Scalar.remsi v1096 v1098
  let c0_i32_866 : BitVec 32 := 0#32
  let v1101 : BitVec 1 := Scalar.cmpi .slt v1099 c0_i32_866
  let c0_i32_867 : BitVec 32 := 0#32
  let v1102 : BitVec 1 := Scalar.cmpi .slt v1098 c0_i32_867
  let v1103 : BitVec 1 := Scalar.xori v1101 v1102
  let c0_i32_865 : BitVec 32 := 0#32
  let v1100 : BitVec 1 := Scalar.cmpi .ne v1099 c0_i32_865
  let v1104 : BitVec 1 := Scalar.andi v1103 v1100
  let v1105 : BitVec 32 := Scalar.addi v1099 v1098
  let v1106 : BitVec 32 := Scalar.select v1104 v1105 v1099
  let c1_i32_870 : BitVec 32 := 1#32
  let v1107 : BitVec 32 := Scalar.muli v1106 c1_i32_870
  let v1108 : BitVec 32 := Scalar.addi c0_i32_871 v1107
  v1108.toNat
def k0_dev32 (d0 : Dev nD) : Nat :=
  let c0_i32_886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_876 : BitVec 32 := 14#32
  let v1115 : BitVec 32 := Scalar.addi v2 c14_i32_876
  let c16_i32_877 : BitVec 32 := 16#32
  let c0_i32_878 : BitVec 32 := 0#32
  let v1116 : BitVec 1 := Scalar.cmpi .eq c16_i32_877 c0_i32_878
  let c1_i32_879 : BitVec 32 := 1#32
  let v1117 : BitVec 32 := Scalar.select v1116 c1_i32_879 c16_i32_877
  let v1118 : BitVec 32 := Scalar.remsi v1115 v1117
  let c0_i32_881 : BitVec 32 := 0#32
  let v1120 : BitVec 1 := Scalar.cmpi .slt v1118 c0_i32_881
  let c0_i32_882 : BitVec 32 := 0#32
  let v1121 : BitVec 1 := Scalar.cmpi .slt v1117 c0_i32_882
  let v1122 : BitVec 1 := Scalar.xori v1120 v1121
  let c0_i32_880 : BitVec 32 := 0#32
  let v1119 : BitVec 1 := Scalar.cmpi .ne v1118 c0_i32_880
  let v1123 : BitVec 1 := Scalar.andi v1122 v1119
  let v1124 : BitVec 32 := Scalar.addi v1118 v1117
  let v1125 : BitVec 32 := Scalar.select v1123 v1124 v1118
  let c1_i32_885 : BitVec 32 := 1#32
  let v1126 : BitVec 32 := Scalar.muli v1125 c1_i32_885
  let v1127 : BitVec 32 := Scalar.addi c0_i32_886 v1126
  v1127.toNat
def k0_dev33 (d0 : Dev nD) : Nat :=
  let c0_i32_901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_891 : BitVec 32 := 13#32
  let v1134 : BitVec 32 := Scalar.addi v2 c13_i32_891
  let c16_i32_892 : BitVec 32 := 16#32
  let c0_i32_893 : BitVec 32 := 0#32
  let v1135 : BitVec 1 := Scalar.cmpi .eq c16_i32_892 c0_i32_893
  let c1_i32_894 : BitVec 32 := 1#32
  let v1136 : BitVec 32 := Scalar.select v1135 c1_i32_894 c16_i32_892
  let v1137 : BitVec 32 := Scalar.remsi v1134 v1136
  let c0_i32_896 : BitVec 32 := 0#32
  let v1139 : BitVec 1 := Scalar.cmpi .slt v1137 c0_i32_896
  let c0_i32_897 : BitVec 32 := 0#32
  let v1140 : BitVec 1 := Scalar.cmpi .slt v1136 c0_i32_897
  let v1141 : BitVec 1 := Scalar.xori v1139 v1140
  let c0_i32_895 : BitVec 32 := 0#32
  let v1138 : BitVec 1 := Scalar.cmpi .ne v1137 c0_i32_895
  let v1142 : BitVec 1 := Scalar.andi v1141 v1138
  let v1143 : BitVec 32 := Scalar.addi v1137 v1136
  let v1144 : BitVec 32 := Scalar.select v1142 v1143 v1137
  let c1_i32_900 : BitVec 32 := 1#32
  let v1145 : BitVec 32 := Scalar.muli v1144 c1_i32_900
  let v1146 : BitVec 32 := Scalar.addi c0_i32_901 v1145
  v1146.toNat
def k0_dev34 (d0 : Dev nD) : Nat :=
  let c0_i32_916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_906 : BitVec 32 := 12#32
  let v1153 : BitVec 32 := Scalar.addi v2 c12_i32_906
  let c16_i32_907 : BitVec 32 := 16#32
  let c0_i32_908 : BitVec 32 := 0#32
  let v1154 : BitVec 1 := Scalar.cmpi .eq c16_i32_907 c0_i32_908
  let c1_i32_909 : BitVec 32 := 1#32
  let v1155 : BitVec 32 := Scalar.select v1154 c1_i32_909 c16_i32_907
  let v1156 : BitVec 32 := Scalar.remsi v1153 v1155
  let c0_i32_911 : BitVec 32 := 0#32
  let v1158 : BitVec 1 := Scalar.cmpi .slt v1156 c0_i32_911
  let c0_i32_912 : BitVec 32 := 0#32
  let v1159 : BitVec 1 := Scalar.cmpi .slt v1155 c0_i32_912
  let v1160 : BitVec 1 := Scalar.xori v1158 v1159
  let c0_i32_910 : BitVec 32 := 0#32
  let v1157 : BitVec 1 := Scalar.cmpi .ne v1156 c0_i32_910
  let v1161 : BitVec 1 := Scalar.andi v1160 v1157
  let v1162 : BitVec 32 := Scalar.addi v1156 v1155
  let v1163 : BitVec 32 := Scalar.select v1161 v1162 v1156
  let c1_i32_915 : BitVec 32 := 1#32
  let v1164 : BitVec 32 := Scalar.muli v1163 c1_i32_915
  let v1165 : BitVec 32 := Scalar.addi c0_i32_916 v1164
  v1165.toNat
def k0_dev35 (d0 : Dev nD) : Nat :=
  let c0_i32_931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_921 : BitVec 32 := 11#32
  let v1172 : BitVec 32 := Scalar.addi v2 c11_i32_921
  let c16_i32_922 : BitVec 32 := 16#32
  let c0_i32_923 : BitVec 32 := 0#32
  let v1173 : BitVec 1 := Scalar.cmpi .eq c16_i32_922 c0_i32_923
  let c1_i32_924 : BitVec 32 := 1#32
  let v1174 : BitVec 32 := Scalar.select v1173 c1_i32_924 c16_i32_922
  let v1175 : BitVec 32 := Scalar.remsi v1172 v1174
  let c0_i32_926 : BitVec 32 := 0#32
  let v1177 : BitVec 1 := Scalar.cmpi .slt v1175 c0_i32_926
  let c0_i32_927 : BitVec 32 := 0#32
  let v1178 : BitVec 1 := Scalar.cmpi .slt v1174 c0_i32_927
  let v1179 : BitVec 1 := Scalar.xori v1177 v1178
  let c0_i32_925 : BitVec 32 := 0#32
  let v1176 : BitVec 1 := Scalar.cmpi .ne v1175 c0_i32_925
  let v1180 : BitVec 1 := Scalar.andi v1179 v1176
  let v1181 : BitVec 32 := Scalar.addi v1175 v1174
  let v1182 : BitVec 32 := Scalar.select v1180 v1181 v1175
  let c1_i32_930 : BitVec 32 := 1#32
  let v1183 : BitVec 32 := Scalar.muli v1182 c1_i32_930
  let v1184 : BitVec 32 := Scalar.addi c0_i32_931 v1183
  v1184.toNat
def k0_dev36 (d0 : Dev nD) : Nat :=
  let c0_i32_946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_936 : BitVec 32 := 10#32
  let v1191 : BitVec 32 := Scalar.addi v2 c10_i32_936
  let c16_i32_937 : BitVec 32 := 16#32
  let c0_i32_938 : BitVec 32 := 0#32
  let v1192 : BitVec 1 := Scalar.cmpi .eq c16_i32_937 c0_i32_938
  let c1_i32_939 : BitVec 32 := 1#32
  let v1193 : BitVec 32 := Scalar.select v1192 c1_i32_939 c16_i32_937
  let v1194 : BitVec 32 := Scalar.remsi v1191 v1193
  let c0_i32_941 : BitVec 32 := 0#32
  let v1196 : BitVec 1 := Scalar.cmpi .slt v1194 c0_i32_941
  let c0_i32_942 : BitVec 32 := 0#32
  let v1197 : BitVec 1 := Scalar.cmpi .slt v1193 c0_i32_942
  let v1198 : BitVec 1 := Scalar.xori v1196 v1197
  let c0_i32_940 : BitVec 32 := 0#32
  let v1195 : BitVec 1 := Scalar.cmpi .ne v1194 c0_i32_940
  let v1199 : BitVec 1 := Scalar.andi v1198 v1195
  let v1200 : BitVec 32 := Scalar.addi v1194 v1193
  let v1201 : BitVec 32 := Scalar.select v1199 v1200 v1194
  let c1_i32_945 : BitVec 32 := 1#32
  let v1202 : BitVec 32 := Scalar.muli v1201 c1_i32_945
  let v1203 : BitVec 32 := Scalar.addi c0_i32_946 v1202
  v1203.toNat
def k0_dev37 (d0 : Dev nD) : Nat :=
  let c0_i32_961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_951 : BitVec 32 := 9#32
  let v1210 : BitVec 32 := Scalar.addi v2 c9_i32_951
  let c16_i32_952 : BitVec 32 := 16#32
  let c0_i32_953 : BitVec 32 := 0#32
  let v1211 : BitVec 1 := Scalar.cmpi .eq c16_i32_952 c0_i32_953
  let c1_i32_954 : BitVec 32 := 1#32
  let v1212 : BitVec 32 := Scalar.select v1211 c1_i32_954 c16_i32_952
  let v1213 : BitVec 32 := Scalar.remsi v1210 v1212
  let c0_i32_956 : BitVec 32 := 0#32
  let v1215 : BitVec 1 := Scalar.cmpi .slt v1213 c0_i32_956
  let c0_i32_957 : BitVec 32 := 0#32
  let v1216 : BitVec 1 := Scalar.cmpi .slt v1212 c0_i32_957
  let v1217 : BitVec 1 := Scalar.xori v1215 v1216
  let c0_i32_955 : BitVec 32 := 0#32
  let v1214 : BitVec 1 := Scalar.cmpi .ne v1213 c0_i32_955
  let v1218 : BitVec 1 := Scalar.andi v1217 v1214
  let v1219 : BitVec 32 := Scalar.addi v1213 v1212
  let v1220 : BitVec 32 := Scalar.select v1218 v1219 v1213
  let c1_i32_960 : BitVec 32 := 1#32
  let v1221 : BitVec 32 := Scalar.muli v1220 c1_i32_960
  let v1222 : BitVec 32 := Scalar.addi c0_i32_961 v1221
  v1222.toNat
def k0_dev38 (d0 : Dev nD) : Nat :=
  let c0_i32_976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_966 : BitVec 32 := 8#32
  let v1229 : BitVec 32 := Scalar.addi v2 c8_i32_966
  let c16_i32_967 : BitVec 32 := 16#32
  let c0_i32_968 : BitVec 32 := 0#32
  let v1230 : BitVec 1 := Scalar.cmpi .eq c16_i32_967 c0_i32_968
  let c1_i32_969 : BitVec 32 := 1#32
  let v1231 : BitVec 32 := Scalar.select v1230 c1_i32_969 c16_i32_967
  let v1232 : BitVec 32 := Scalar.remsi v1229 v1231
  let c0_i32_971 : BitVec 32 := 0#32
  let v1234 : BitVec 1 := Scalar.cmpi .slt v1232 c0_i32_971
  let c0_i32_972 : BitVec 32 := 0#32
  let v1235 : BitVec 1 := Scalar.cmpi .slt v1231 c0_i32_972
  let v1236 : BitVec 1 := Scalar.xori v1234 v1235
  let c0_i32_970 : BitVec 32 := 0#32
  let v1233 : BitVec 1 := Scalar.cmpi .ne v1232 c0_i32_970
  let v1237 : BitVec 1 := Scalar.andi v1236 v1233
  let v1238 : BitVec 32 := Scalar.addi v1232 v1231
  let v1239 : BitVec 32 := Scalar.select v1237 v1238 v1232
  let c1_i32_975 : BitVec 32 := 1#32
  let v1240 : BitVec 32 := Scalar.muli v1239 c1_i32_975
  let v1241 : BitVec 32 := Scalar.addi c0_i32_976 v1240
  v1241.toNat
def k0_dev39 (d0 : Dev nD) : Nat :=
  let c0_i32_991 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_981 : BitVec 32 := 7#32
  let v1248 : BitVec 32 := Scalar.addi v2 c7_i32_981
  let c16_i32_982 : BitVec 32 := 16#32
  let c0_i32_983 : BitVec 32 := 0#32
  let v1249 : BitVec 1 := Scalar.cmpi .eq c16_i32_982 c0_i32_983
  let c1_i32_984 : BitVec 32 := 1#32
  let v1250 : BitVec 32 := Scalar.select v1249 c1_i32_984 c16_i32_982
  let v1251 : BitVec 32 := Scalar.remsi v1248 v1250
  let c0_i32_986 : BitVec 32 := 0#32
  let v1253 : BitVec 1 := Scalar.cmpi .slt v1251 c0_i32_986
  let c0_i32_987 : BitVec 32 := 0#32
  let v1254 : BitVec 1 := Scalar.cmpi .slt v1250 c0_i32_987
  let v1255 : BitVec 1 := Scalar.xori v1253 v1254
  let c0_i32_985 : BitVec 32 := 0#32
  let v1252 : BitVec 1 := Scalar.cmpi .ne v1251 c0_i32_985
  let v1256 : BitVec 1 := Scalar.andi v1255 v1252
  let v1257 : BitVec 32 := Scalar.addi v1251 v1250
  let v1258 : BitVec 32 := Scalar.select v1256 v1257 v1251
  let c1_i32_990 : BitVec 32 := 1#32
  let v1259 : BitVec 32 := Scalar.muli v1258 c1_i32_990
  let v1260 : BitVec 32 := Scalar.addi c0_i32_991 v1259
  v1260.toNat
def k0_dev40 (d0 : Dev nD) : Nat :=
  let c0_i32_1006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_996 : BitVec 32 := 6#32
  let v1267 : BitVec 32 := Scalar.addi v2 c6_i32_996
  let c16_i32_997 : BitVec 32 := 16#32
  let c0_i32_998 : BitVec 32 := 0#32
  let v1268 : BitVec 1 := Scalar.cmpi .eq c16_i32_997 c0_i32_998
  let c1_i32_999 : BitVec 32 := 1#32
  let v1269 : BitVec 32 := Scalar.select v1268 c1_i32_999 c16_i32_997
  let v1270 : BitVec 32 := Scalar.remsi v1267 v1269
  let c0_i32_1001 : BitVec 32 := 0#32
  let v1272 : BitVec 1 := Scalar.cmpi .slt v1270 c0_i32_1001
  let c0_i32_1002 : BitVec 32 := 0#32
  let v1273 : BitVec 1 := Scalar.cmpi .slt v1269 c0_i32_1002
  let v1274 : BitVec 1 := Scalar.xori v1272 v1273
  let c0_i32_1000 : BitVec 32 := 0#32
  let v1271 : BitVec 1 := Scalar.cmpi .ne v1270 c0_i32_1000
  let v1275 : BitVec 1 := Scalar.andi v1274 v1271
  let v1276 : BitVec 32 := Scalar.addi v1270 v1269
  let v1277 : BitVec 32 := Scalar.select v1275 v1276 v1270
  let c1_i32_1005 : BitVec 32 := 1#32
  let v1278 : BitVec 32 := Scalar.muli v1277 c1_i32_1005
  let v1279 : BitVec 32 := Scalar.addi c0_i32_1006 v1278
  v1279.toNat
def k0_dev41 (d0 : Dev nD) : Nat :=
  let c0_i32_1021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1011 : BitVec 32 := 5#32
  let v1286 : BitVec 32 := Scalar.addi v2 c5_i32_1011
  let c16_i32_1012 : BitVec 32 := 16#32
  let c0_i32_1013 : BitVec 32 := 0#32
  let v1287 : BitVec 1 := Scalar.cmpi .eq c16_i32_1012 c0_i32_1013
  let c1_i32_1014 : BitVec 32 := 1#32
  let v1288 : BitVec 32 := Scalar.select v1287 c1_i32_1014 c16_i32_1012
  let v1289 : BitVec 32 := Scalar.remsi v1286 v1288
  let c0_i32_1016 : BitVec 32 := 0#32
  let v1291 : BitVec 1 := Scalar.cmpi .slt v1289 c0_i32_1016
  let c0_i32_1017 : BitVec 32 := 0#32
  let v1292 : BitVec 1 := Scalar.cmpi .slt v1288 c0_i32_1017
  let v1293 : BitVec 1 := Scalar.xori v1291 v1292
  let c0_i32_1015 : BitVec 32 := 0#32
  let v1290 : BitVec 1 := Scalar.cmpi .ne v1289 c0_i32_1015
  let v1294 : BitVec 1 := Scalar.andi v1293 v1290
  let v1295 : BitVec 32 := Scalar.addi v1289 v1288
  let v1296 : BitVec 32 := Scalar.select v1294 v1295 v1289
  let c1_i32_1020 : BitVec 32 := 1#32
  let v1297 : BitVec 32 := Scalar.muli v1296 c1_i32_1020
  let v1298 : BitVec 32 := Scalar.addi c0_i32_1021 v1297
  v1298.toNat
def k0_dev42 (d0 : Dev nD) : Nat :=
  let c0_i32_1036 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1026 : BitVec 32 := 4#32
  let v1305 : BitVec 32 := Scalar.addi v2 c4_i32_1026
  let c16_i32_1027 : BitVec 32 := 16#32
  let c0_i32_1028 : BitVec 32 := 0#32
  let v1306 : BitVec 1 := Scalar.cmpi .eq c16_i32_1027 c0_i32_1028
  let c1_i32_1029 : BitVec 32 := 1#32
  let v1307 : BitVec 32 := Scalar.select v1306 c1_i32_1029 c16_i32_1027
  let v1308 : BitVec 32 := Scalar.remsi v1305 v1307
  let c0_i32_1031 : BitVec 32 := 0#32
  let v1310 : BitVec 1 := Scalar.cmpi .slt v1308 c0_i32_1031
  let c0_i32_1032 : BitVec 32 := 0#32
  let v1311 : BitVec 1 := Scalar.cmpi .slt v1307 c0_i32_1032
  let v1312 : BitVec 1 := Scalar.xori v1310 v1311
  let c0_i32_1030 : BitVec 32 := 0#32
  let v1309 : BitVec 1 := Scalar.cmpi .ne v1308 c0_i32_1030
  let v1313 : BitVec 1 := Scalar.andi v1312 v1309
  let v1314 : BitVec 32 := Scalar.addi v1308 v1307
  let v1315 : BitVec 32 := Scalar.select v1313 v1314 v1308
  let c1_i32_1035 : BitVec 32 := 1#32
  let v1316 : BitVec 32 := Scalar.muli v1315 c1_i32_1035
  let v1317 : BitVec 32 := Scalar.addi c0_i32_1036 v1316
  v1317.toNat
def k0_dev43 (d0 : Dev nD) : Nat :=
  let c0_i32_1051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1041 : BitVec 32 := 3#32
  let v1324 : BitVec 32 := Scalar.addi v2 c3_i32_1041
  let c16_i32_1042 : BitVec 32 := 16#32
  let c0_i32_1043 : BitVec 32 := 0#32
  let v1325 : BitVec 1 := Scalar.cmpi .eq c16_i32_1042 c0_i32_1043
  let c1_i32_1044 : BitVec 32 := 1#32
  let v1326 : BitVec 32 := Scalar.select v1325 c1_i32_1044 c16_i32_1042
  let v1327 : BitVec 32 := Scalar.remsi v1324 v1326
  let c0_i32_1046 : BitVec 32 := 0#32
  let v1329 : BitVec 1 := Scalar.cmpi .slt v1327 c0_i32_1046
  let c0_i32_1047 : BitVec 32 := 0#32
  let v1330 : BitVec 1 := Scalar.cmpi .slt v1326 c0_i32_1047
  let v1331 : BitVec 1 := Scalar.xori v1329 v1330
  let c0_i32_1045 : BitVec 32 := 0#32
  let v1328 : BitVec 1 := Scalar.cmpi .ne v1327 c0_i32_1045
  let v1332 : BitVec 1 := Scalar.andi v1331 v1328
  let v1333 : BitVec 32 := Scalar.addi v1327 v1326
  let v1334 : BitVec 32 := Scalar.select v1332 v1333 v1327
  let c1_i32_1050 : BitVec 32 := 1#32
  let v1335 : BitVec 32 := Scalar.muli v1334 c1_i32_1050
  let v1336 : BitVec 32 := Scalar.addi c0_i32_1051 v1335
  v1336.toNat
def k0_dev44 (d0 : Dev nD) : Nat :=
  let c0_i32_1066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1056 : BitVec 32 := 2#32
  let v1343 : BitVec 32 := Scalar.addi v2 c2_i32_1056
  let c16_i32_1057 : BitVec 32 := 16#32
  let c0_i32_1058 : BitVec 32 := 0#32
  let v1344 : BitVec 1 := Scalar.cmpi .eq c16_i32_1057 c0_i32_1058
  let c1_i32_1059 : BitVec 32 := 1#32
  let v1345 : BitVec 32 := Scalar.select v1344 c1_i32_1059 c16_i32_1057
  let v1346 : BitVec 32 := Scalar.remsi v1343 v1345
  let c0_i32_1061 : BitVec 32 := 0#32
  let v1348 : BitVec 1 := Scalar.cmpi .slt v1346 c0_i32_1061
  let c0_i32_1062 : BitVec 32 := 0#32
  let v1349 : BitVec 1 := Scalar.cmpi .slt v1345 c0_i32_1062
  let v1350 : BitVec 1 := Scalar.xori v1348 v1349
  let c0_i32_1060 : BitVec 32 := 0#32
  let v1347 : BitVec 1 := Scalar.cmpi .ne v1346 c0_i32_1060
  let v1351 : BitVec 1 := Scalar.andi v1350 v1347
  let v1352 : BitVec 32 := Scalar.addi v1346 v1345
  let v1353 : BitVec 32 := Scalar.select v1351 v1352 v1346
  let c1_i32_1065 : BitVec 32 := 1#32
  let v1354 : BitVec 32 := Scalar.muli v1353 c1_i32_1065
  let v1355 : BitVec 32 := Scalar.addi c0_i32_1066 v1354
  v1355.toNat
def k0_dev45 (d0 : Dev nD) : Nat :=
  let c0_i32_1081 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1071 : BitVec 32 := 1#32
  let v1362 : BitVec 32 := Scalar.addi v2 c1_i32_1071
  let c16_i32_1072 : BitVec 32 := 16#32
  let c0_i32_1073 : BitVec 32 := 0#32
  let v1363 : BitVec 1 := Scalar.cmpi .eq c16_i32_1072 c0_i32_1073
  let c1_i32_1074 : BitVec 32 := 1#32
  let v1364 : BitVec 32 := Scalar.select v1363 c1_i32_1074 c16_i32_1072
  let v1365 : BitVec 32 := Scalar.remsi v1362 v1364
  let c0_i32_1076 : BitVec 32 := 0#32
  let v1367 : BitVec 1 := Scalar.cmpi .slt v1365 c0_i32_1076
  let c0_i32_1077 : BitVec 32 := 0#32
  let v1368 : BitVec 1 := Scalar.cmpi .slt v1364 c0_i32_1077
  let v1369 : BitVec 1 := Scalar.xori v1367 v1368
  let c0_i32_1075 : BitVec 32 := 0#32
  let v1366 : BitVec 1 := Scalar.cmpi .ne v1365 c0_i32_1075
  let v1370 : BitVec 1 := Scalar.andi v1369 v1366
  let v1371 : BitVec 32 := Scalar.addi v1365 v1364
  let v1372 : BitVec 32 := Scalar.select v1370 v1371 v1365
  let c1_i32_1080 : BitVec 32 := 1#32
  let v1373 : BitVec 32 := Scalar.muli v1372 c1_i32_1080
  let v1374 : BitVec 32 := Scalar.addi c0_i32_1081 v1373
  v1374.toNat
def k0_dev46 (d0 : Dev nD) : Nat :=
  let c0_i32_1142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1131 : BitVec 32 := 15#32
  let v1422 : BitVec 32 := Scalar.subi v2 c15_i32_1131
  let c16_i32_1132 : BitVec 32 := 16#32
  let c0_i32_1133 : BitVec 32 := 0#32
  let v1423 : BitVec 1 := Scalar.cmpi .eq c16_i32_1132 c0_i32_1133
  let c1_i32_1134 : BitVec 32 := 1#32
  let v1424 : BitVec 32 := Scalar.select v1423 c1_i32_1134 c16_i32_1132
  let v1425 : BitVec 32 := Scalar.remsi v1422 v1424
  let c0_i32_1136 : BitVec 32 := 0#32
  let v1427 : BitVec 1 := Scalar.cmpi .slt v1425 c0_i32_1136
  let c0_i32_1137 : BitVec 32 := 0#32
  let v1428 : BitVec 1 := Scalar.cmpi .slt v1424 c0_i32_1137
  let v1429 : BitVec 1 := Scalar.xori v1427 v1428
  let c0_i32_1135 : BitVec 32 := 0#32
  let v1426 : BitVec 1 := Scalar.cmpi .ne v1425 c0_i32_1135
  let v1430 : BitVec 1 := Scalar.andi v1429 v1426
  let v1431 : BitVec 32 := Scalar.addi v1425 v1424
  let v1432 : BitVec 32 := Scalar.select v1430 v1431 v1425
  let c1_i32_1141 : BitVec 32 := 1#32
  let v1433 : BitVec 32 := Scalar.muli v1432 c1_i32_1141
  let v1434 : BitVec 32 := Scalar.addi c0_i32_1142 v1433
  v1434.toNat
def k0_dev47 (d0 : Dev nD) : Nat :=
  let c0_i32_1158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1147 : BitVec 32 := 14#32
  let v1442 : BitVec 32 := Scalar.subi v2 c14_i32_1147
  let c16_i32_1148 : BitVec 32 := 16#32
  let c0_i32_1149 : BitVec 32 := 0#32
  let v1443 : BitVec 1 := Scalar.cmpi .eq c16_i32_1148 c0_i32_1149
  let c1_i32_1150 : BitVec 32 := 1#32
  let v1444 : BitVec 32 := Scalar.select v1443 c1_i32_1150 c16_i32_1148
  let v1445 : BitVec 32 := Scalar.remsi v1442 v1444
  let c0_i32_1152 : BitVec 32 := 0#32
  let v1447 : BitVec 1 := Scalar.cmpi .slt v1445 c0_i32_1152
  let c0_i32_1153 : BitVec 32 := 0#32
  let v1448 : BitVec 1 := Scalar.cmpi .slt v1444 c0_i32_1153
  let v1449 : BitVec 1 := Scalar.xori v1447 v1448
  let c0_i32_1151 : BitVec 32 := 0#32
  let v1446 : BitVec 1 := Scalar.cmpi .ne v1445 c0_i32_1151
  let v1450 : BitVec 1 := Scalar.andi v1449 v1446
  let v1451 : BitVec 32 := Scalar.addi v1445 v1444
  let v1452 : BitVec 32 := Scalar.select v1450 v1451 v1445
  let c1_i32_1157 : BitVec 32 := 1#32
  let v1453 : BitVec 32 := Scalar.muli v1452 c1_i32_1157
  let v1454 : BitVec 32 := Scalar.addi c0_i32_1158 v1453
  v1454.toNat
def k0_dev48 (d0 : Dev nD) : Nat :=
  let c0_i32_1174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1163 : BitVec 32 := 13#32
  let v1462 : BitVec 32 := Scalar.subi v2 c13_i32_1163
  let c16_i32_1164 : BitVec 32 := 16#32
  let c0_i32_1165 : BitVec 32 := 0#32
  let v1463 : BitVec 1 := Scalar.cmpi .eq c16_i32_1164 c0_i32_1165
  let c1_i32_1166 : BitVec 32 := 1#32
  let v1464 : BitVec 32 := Scalar.select v1463 c1_i32_1166 c16_i32_1164
  let v1465 : BitVec 32 := Scalar.remsi v1462 v1464
  let c0_i32_1168 : BitVec 32 := 0#32
  let v1467 : BitVec 1 := Scalar.cmpi .slt v1465 c0_i32_1168
  let c0_i32_1169 : BitVec 32 := 0#32
  let v1468 : BitVec 1 := Scalar.cmpi .slt v1464 c0_i32_1169
  let v1469 : BitVec 1 := Scalar.xori v1467 v1468
  let c0_i32_1167 : BitVec 32 := 0#32
  let v1466 : BitVec 1 := Scalar.cmpi .ne v1465 c0_i32_1167
  let v1470 : BitVec 1 := Scalar.andi v1469 v1466
  let v1471 : BitVec 32 := Scalar.addi v1465 v1464
  let v1472 : BitVec 32 := Scalar.select v1470 v1471 v1465
  let c1_i32_1173 : BitVec 32 := 1#32
  let v1473 : BitVec 32 := Scalar.muli v1472 c1_i32_1173
  let v1474 : BitVec 32 := Scalar.addi c0_i32_1174 v1473
  v1474.toNat
def k0_dev49 (d0 : Dev nD) : Nat :=
  let c0_i32_1190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1179 : BitVec 32 := 12#32
  let v1482 : BitVec 32 := Scalar.subi v2 c12_i32_1179
  let c16_i32_1180 : BitVec 32 := 16#32
  let c0_i32_1181 : BitVec 32 := 0#32
  let v1483 : BitVec 1 := Scalar.cmpi .eq c16_i32_1180 c0_i32_1181
  let c1_i32_1182 : BitVec 32 := 1#32
  let v1484 : BitVec 32 := Scalar.select v1483 c1_i32_1182 c16_i32_1180
  let v1485 : BitVec 32 := Scalar.remsi v1482 v1484
  let c0_i32_1184 : BitVec 32 := 0#32
  let v1487 : BitVec 1 := Scalar.cmpi .slt v1485 c0_i32_1184
  let c0_i32_1185 : BitVec 32 := 0#32
  let v1488 : BitVec 1 := Scalar.cmpi .slt v1484 c0_i32_1185
  let v1489 : BitVec 1 := Scalar.xori v1487 v1488
  let c0_i32_1183 : BitVec 32 := 0#32
  let v1486 : BitVec 1 := Scalar.cmpi .ne v1485 c0_i32_1183
  let v1490 : BitVec 1 := Scalar.andi v1489 v1486
  let v1491 : BitVec 32 := Scalar.addi v1485 v1484
  let v1492 : BitVec 32 := Scalar.select v1490 v1491 v1485
  let c1_i32_1189 : BitVec 32 := 1#32
  let v1493 : BitVec 32 := Scalar.muli v1492 c1_i32_1189
  let v1494 : BitVec 32 := Scalar.addi c0_i32_1190 v1493
  v1494.toNat
def k0_dev50 (d0 : Dev nD) : Nat :=
  let c0_i32_1251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1240 : BitVec 32 := 11#32
  let v1543 : BitVec 32 := Scalar.subi v2 c11_i32_1240
  let c16_i32_1241 : BitVec 32 := 16#32
  let c0_i32_1242 : BitVec 32 := 0#32
  let v1544 : BitVec 1 := Scalar.cmpi .eq c16_i32_1241 c0_i32_1242
  let c1_i32_1243 : BitVec 32 := 1#32
  let v1545 : BitVec 32 := Scalar.select v1544 c1_i32_1243 c16_i32_1241
  let v1546 : BitVec 32 := Scalar.remsi v1543 v1545
  let c0_i32_1245 : BitVec 32 := 0#32
  let v1548 : BitVec 1 := Scalar.cmpi .slt v1546 c0_i32_1245
  let c0_i32_1246 : BitVec 32 := 0#32
  let v1549 : BitVec 1 := Scalar.cmpi .slt v1545 c0_i32_1246
  let v1550 : BitVec 1 := Scalar.xori v1548 v1549
  let c0_i32_1244 : BitVec 32 := 0#32
  let v1547 : BitVec 1 := Scalar.cmpi .ne v1546 c0_i32_1244
  let v1551 : BitVec 1 := Scalar.andi v1550 v1547
  let v1552 : BitVec 32 := Scalar.addi v1546 v1545
  let v1553 : BitVec 32 := Scalar.select v1551 v1552 v1546
  let c1_i32_1250 : BitVec 32 := 1#32
  let v1554 : BitVec 32 := Scalar.muli v1553 c1_i32_1250
  let v1555 : BitVec 32 := Scalar.addi c0_i32_1251 v1554
  v1555.toNat
def k0_dev51 (d0 : Dev nD) : Nat :=
  let c0_i32_1267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1256 : BitVec 32 := 10#32
  let v1563 : BitVec 32 := Scalar.subi v2 c10_i32_1256
  let c16_i32_1257 : BitVec 32 := 16#32
  let c0_i32_1258 : BitVec 32 := 0#32
  let v1564 : BitVec 1 := Scalar.cmpi .eq c16_i32_1257 c0_i32_1258
  let c1_i32_1259 : BitVec 32 := 1#32
  let v1565 : BitVec 32 := Scalar.select v1564 c1_i32_1259 c16_i32_1257
  let v1566 : BitVec 32 := Scalar.remsi v1563 v1565
  let c0_i32_1261 : BitVec 32 := 0#32
  let v1568 : BitVec 1 := Scalar.cmpi .slt v1566 c0_i32_1261
  let c0_i32_1262 : BitVec 32 := 0#32
  let v1569 : BitVec 1 := Scalar.cmpi .slt v1565 c0_i32_1262
  let v1570 : BitVec 1 := Scalar.xori v1568 v1569
  let c0_i32_1260 : BitVec 32 := 0#32
  let v1567 : BitVec 1 := Scalar.cmpi .ne v1566 c0_i32_1260
  let v1571 : BitVec 1 := Scalar.andi v1570 v1567
  let v1572 : BitVec 32 := Scalar.addi v1566 v1565
  let v1573 : BitVec 32 := Scalar.select v1571 v1572 v1566
  let c1_i32_1266 : BitVec 32 := 1#32
  let v1574 : BitVec 32 := Scalar.muli v1573 c1_i32_1266
  let v1575 : BitVec 32 := Scalar.addi c0_i32_1267 v1574
  v1575.toNat
def k0_dev52 (d0 : Dev nD) : Nat :=
  let c0_i32_1283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1272 : BitVec 32 := 9#32
  let v1583 : BitVec 32 := Scalar.subi v2 c9_i32_1272
  let c16_i32_1273 : BitVec 32 := 16#32
  let c0_i32_1274 : BitVec 32 := 0#32
  let v1584 : BitVec 1 := Scalar.cmpi .eq c16_i32_1273 c0_i32_1274
  let c1_i32_1275 : BitVec 32 := 1#32
  let v1585 : BitVec 32 := Scalar.select v1584 c1_i32_1275 c16_i32_1273
  let v1586 : BitVec 32 := Scalar.remsi v1583 v1585
  let c0_i32_1277 : BitVec 32 := 0#32
  let v1588 : BitVec 1 := Scalar.cmpi .slt v1586 c0_i32_1277
  let c0_i32_1278 : BitVec 32 := 0#32
  let v1589 : BitVec 1 := Scalar.cmpi .slt v1585 c0_i32_1278
  let v1590 : BitVec 1 := Scalar.xori v1588 v1589
  let c0_i32_1276 : BitVec 32 := 0#32
  let v1587 : BitVec 1 := Scalar.cmpi .ne v1586 c0_i32_1276
  let v1591 : BitVec 1 := Scalar.andi v1590 v1587
  let v1592 : BitVec 32 := Scalar.addi v1586 v1585
  let v1593 : BitVec 32 := Scalar.select v1591 v1592 v1586
  let c1_i32_1282 : BitVec 32 := 1#32
  let v1594 : BitVec 32 := Scalar.muli v1593 c1_i32_1282
  let v1595 : BitVec 32 := Scalar.addi c0_i32_1283 v1594
  v1595.toNat
def k0_dev53 (d0 : Dev nD) : Nat :=
  let c0_i32_1299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1288 : BitVec 32 := 8#32
  let v1603 : BitVec 32 := Scalar.subi v2 c8_i32_1288
  let c16_i32_1289 : BitVec 32 := 16#32
  let c0_i32_1290 : BitVec 32 := 0#32
  let v1604 : BitVec 1 := Scalar.cmpi .eq c16_i32_1289 c0_i32_1290
  let c1_i32_1291 : BitVec 32 := 1#32
  let v1605 : BitVec 32 := Scalar.select v1604 c1_i32_1291 c16_i32_1289
  let v1606 : BitVec 32 := Scalar.remsi v1603 v1605
  let c0_i32_1293 : BitVec 32 := 0#32
  let v1608 : BitVec 1 := Scalar.cmpi .slt v1606 c0_i32_1293
  let c0_i32_1294 : BitVec 32 := 0#32
  let v1609 : BitVec 1 := Scalar.cmpi .slt v1605 c0_i32_1294
  let v1610 : BitVec 1 := Scalar.xori v1608 v1609
  let c0_i32_1292 : BitVec 32 := 0#32
  let v1607 : BitVec 1 := Scalar.cmpi .ne v1606 c0_i32_1292
  let v1611 : BitVec 1 := Scalar.andi v1610 v1607
  let v1612 : BitVec 32 := Scalar.addi v1606 v1605
  let v1613 : BitVec 32 := Scalar.select v1611 v1612 v1606
  let c1_i32_1298 : BitVec 32 := 1#32
  let v1614 : BitVec 32 := Scalar.muli v1613 c1_i32_1298
  let v1615 : BitVec 32 := Scalar.addi c0_i32_1299 v1614
  v1615.toNat
def k0_dev54 (d0 : Dev nD) : Nat :=
  let c0_i32_1360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1349 : BitVec 32 := 7#32
  let v1664 : BitVec 32 := Scalar.subi v2 c7_i32_1349
  let c16_i32_1350 : BitVec 32 := 16#32
  let c0_i32_1351 : BitVec 32 := 0#32
  let v1665 : BitVec 1 := Scalar.cmpi .eq c16_i32_1350 c0_i32_1351
  let c1_i32_1352 : BitVec 32 := 1#32
  let v1666 : BitVec 32 := Scalar.select v1665 c1_i32_1352 c16_i32_1350
  let v1667 : BitVec 32 := Scalar.remsi v1664 v1666
  let c0_i32_1354 : BitVec 32 := 0#32
  let v1669 : BitVec 1 := Scalar.cmpi .slt v1667 c0_i32_1354
  let c0_i32_1355 : BitVec 32 := 0#32
  let v1670 : BitVec 1 := Scalar.cmpi .slt v1666 c0_i32_1355
  let v1671 : BitVec 1 := Scalar.xori v1669 v1670
  let c0_i32_1353 : BitVec 32 := 0#32
  let v1668 : BitVec 1 := Scalar.cmpi .ne v1667 c0_i32_1353
  let v1672 : BitVec 1 := Scalar.andi v1671 v1668
  let v1673 : BitVec 32 := Scalar.addi v1667 v1666
  let v1674 : BitVec 32 := Scalar.select v1672 v1673 v1667
  let c1_i32_1359 : BitVec 32 := 1#32
  let v1675 : BitVec 32 := Scalar.muli v1674 c1_i32_1359
  let v1676 : BitVec 32 := Scalar.addi c0_i32_1360 v1675
  v1676.toNat
def k0_dev55 (d0 : Dev nD) : Nat :=
  let c0_i32_1376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1365 : BitVec 32 := 6#32
  let v1684 : BitVec 32 := Scalar.subi v2 c6_i32_1365
  let c16_i32_1366 : BitVec 32 := 16#32
  let c0_i32_1367 : BitVec 32 := 0#32
  let v1685 : BitVec 1 := Scalar.cmpi .eq c16_i32_1366 c0_i32_1367
  let c1_i32_1368 : BitVec 32 := 1#32
  let v1686 : BitVec 32 := Scalar.select v1685 c1_i32_1368 c16_i32_1366
  let v1687 : BitVec 32 := Scalar.remsi v1684 v1686
  let c0_i32_1370 : BitVec 32 := 0#32
  let v1689 : BitVec 1 := Scalar.cmpi .slt v1687 c0_i32_1370
  let c0_i32_1371 : BitVec 32 := 0#32
  let v1690 : BitVec 1 := Scalar.cmpi .slt v1686 c0_i32_1371
  let v1691 : BitVec 1 := Scalar.xori v1689 v1690
  let c0_i32_1369 : BitVec 32 := 0#32
  let v1688 : BitVec 1 := Scalar.cmpi .ne v1687 c0_i32_1369
  let v1692 : BitVec 1 := Scalar.andi v1691 v1688
  let v1693 : BitVec 32 := Scalar.addi v1687 v1686
  let v1694 : BitVec 32 := Scalar.select v1692 v1693 v1687
  let c1_i32_1375 : BitVec 32 := 1#32
  let v1695 : BitVec 32 := Scalar.muli v1694 c1_i32_1375
  let v1696 : BitVec 32 := Scalar.addi c0_i32_1376 v1695
  v1696.toNat
def k0_dev56 (d0 : Dev nD) : Nat :=
  let c0_i32_1392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1381 : BitVec 32 := 5#32
  let v1704 : BitVec 32 := Scalar.subi v2 c5_i32_1381
  let c16_i32_1382 : BitVec 32 := 16#32
  let c0_i32_1383 : BitVec 32 := 0#32
  let v1705 : BitVec 1 := Scalar.cmpi .eq c16_i32_1382 c0_i32_1383
  let c1_i32_1384 : BitVec 32 := 1#32
  let v1706 : BitVec 32 := Scalar.select v1705 c1_i32_1384 c16_i32_1382
  let v1707 : BitVec 32 := Scalar.remsi v1704 v1706
  let c0_i32_1386 : BitVec 32 := 0#32
  let v1709 : BitVec 1 := Scalar.cmpi .slt v1707 c0_i32_1386
  let c0_i32_1387 : BitVec 32 := 0#32
  let v1710 : BitVec 1 := Scalar.cmpi .slt v1706 c0_i32_1387
  let v1711 : BitVec 1 := Scalar.xori v1709 v1710
  let c0_i32_1385 : BitVec 32 := 0#32
  let v1708 : BitVec 1 := Scalar.cmpi .ne v1707 c0_i32_1385
  let v1712 : BitVec 1 := Scalar.andi v1711 v1708
  let v1713 : BitVec 32 := Scalar.addi v1707 v1706
  let v1714 : BitVec 32 := Scalar.select v1712 v1713 v1707
  let c1_i32_1391 : BitVec 32 := 1#32
  let v1715 : BitVec 32 := Scalar.muli v1714 c1_i32_1391
  let v1716 : BitVec 32 := Scalar.addi c0_i32_1392 v1715
  v1716.toNat
def k0_dev57 (d0 : Dev nD) : Nat :=
  let c0_i32_1408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1397 : BitVec 32 := 4#32
  let v1724 : BitVec 32 := Scalar.subi v2 c4_i32_1397
  let c16_i32_1398 : BitVec 32 := 16#32
  let c0_i32_1399 : BitVec 32 := 0#32
  let v1725 : BitVec 1 := Scalar.cmpi .eq c16_i32_1398 c0_i32_1399
  let c1_i32_1400 : BitVec 32 := 1#32
  let v1726 : BitVec 32 := Scalar.select v1725 c1_i32_1400 c16_i32_1398
  let v1727 : BitVec 32 := Scalar.remsi v1724 v1726
  let c0_i32_1402 : BitVec 32 := 0#32
  let v1729 : BitVec 1 := Scalar.cmpi .slt v1727 c0_i32_1402
  let c0_i32_1403 : BitVec 32 := 0#32
  let v1730 : BitVec 1 := Scalar.cmpi .slt v1726 c0_i32_1403
  let v1731 : BitVec 1 := Scalar.xori v1729 v1730
  let c0_i32_1401 : BitVec 32 := 0#32
  let v1728 : BitVec 1 := Scalar.cmpi .ne v1727 c0_i32_1401
  let v1732 : BitVec 1 := Scalar.andi v1731 v1728
  let v1733 : BitVec 32 := Scalar.addi v1727 v1726
  let v1734 : BitVec 32 := Scalar.select v1732 v1733 v1727
  let c1_i32_1407 : BitVec 32 := 1#32
  let v1735 : BitVec 32 := Scalar.muli v1734 c1_i32_1407
  let v1736 : BitVec 32 := Scalar.addi c0_i32_1408 v1735
  v1736.toNat
def k0_dev58 (d0 : Dev nD) : Nat :=
  let c0_i32_1461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1450 : BitVec 32 := 3#32
  let v1779 : BitVec 32 := Scalar.subi v2 c3_i32_1450
  let c16_i32_1451 : BitVec 32 := 16#32
  let c0_i32_1452 : BitVec 32 := 0#32
  let v1780 : BitVec 1 := Scalar.cmpi .eq c16_i32_1451 c0_i32_1452
  let c1_i32_1453 : BitVec 32 := 1#32
  let v1781 : BitVec 32 := Scalar.select v1780 c1_i32_1453 c16_i32_1451
  let v1782 : BitVec 32 := Scalar.remsi v1779 v1781
  let c0_i32_1455 : BitVec 32 := 0#32
  let v1784 : BitVec 1 := Scalar.cmpi .slt v1782 c0_i32_1455
  let c0_i32_1456 : BitVec 32 := 0#32
  let v1785 : BitVec 1 := Scalar.cmpi .slt v1781 c0_i32_1456
  let v1786 : BitVec 1 := Scalar.xori v1784 v1785
  let c0_i32_1454 : BitVec 32 := 0#32
  let v1783 : BitVec 1 := Scalar.cmpi .ne v1782 c0_i32_1454
  let v1787 : BitVec 1 := Scalar.andi v1786 v1783
  let v1788 : BitVec 32 := Scalar.addi v1782 v1781
  let v1789 : BitVec 32 := Scalar.select v1787 v1788 v1782
  let c1_i32_1460 : BitVec 32 := 1#32
  let v1790 : BitVec 32 := Scalar.muli v1789 c1_i32_1460
  let v1791 : BitVec 32 := Scalar.addi c0_i32_1461 v1790
  v1791.toNat
def k0_dev59 (d0 : Dev nD) : Nat :=
  let c0_i32_1477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1466 : BitVec 32 := 2#32
  let v1799 : BitVec 32 := Scalar.subi v2 c2_i32_1466
  let c16_i32_1467 : BitVec 32 := 16#32
  let c0_i32_1468 : BitVec 32 := 0#32
  let v1800 : BitVec 1 := Scalar.cmpi .eq c16_i32_1467 c0_i32_1468
  let c1_i32_1469 : BitVec 32 := 1#32
  let v1801 : BitVec 32 := Scalar.select v1800 c1_i32_1469 c16_i32_1467
  let v1802 : BitVec 32 := Scalar.remsi v1799 v1801
  let c0_i32_1471 : BitVec 32 := 0#32
  let v1804 : BitVec 1 := Scalar.cmpi .slt v1802 c0_i32_1471
  let c0_i32_1472 : BitVec 32 := 0#32
  let v1805 : BitVec 1 := Scalar.cmpi .slt v1801 c0_i32_1472
  let v1806 : BitVec 1 := Scalar.xori v1804 v1805
  let c0_i32_1470 : BitVec 32 := 0#32
  let v1803 : BitVec 1 := Scalar.cmpi .ne v1802 c0_i32_1470
  let v1807 : BitVec 1 := Scalar.andi v1806 v1803
  let v1808 : BitVec 32 := Scalar.addi v1802 v1801
  let v1809 : BitVec 32 := Scalar.select v1807 v1808 v1802
  let c1_i32_1476 : BitVec 32 := 1#32
  let v1810 : BitVec 32 := Scalar.muli v1809 c1_i32_1476
  let v1811 : BitVec 32 := Scalar.addi c0_i32_1477 v1810
  v1811.toNat
def k0_dev60 (d0 : Dev nD) : Nat :=
  let c0_i32_1493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1482 : BitVec 32 := 1#32
  let v1819 : BitVec 32 := Scalar.subi v2 c1_i32_1482
  let c16_i32_1483 : BitVec 32 := 16#32
  let c0_i32_1484 : BitVec 32 := 0#32
  let v1820 : BitVec 1 := Scalar.cmpi .eq c16_i32_1483 c0_i32_1484
  let c1_i32_1485 : BitVec 32 := 1#32
  let v1821 : BitVec 32 := Scalar.select v1820 c1_i32_1485 c16_i32_1483
  let v1822 : BitVec 32 := Scalar.remsi v1819 v1821
  let c0_i32_1487 : BitVec 32 := 0#32
  let v1824 : BitVec 1 := Scalar.cmpi .slt v1822 c0_i32_1487
  let c0_i32_1488 : BitVec 32 := 0#32
  let v1825 : BitVec 1 := Scalar.cmpi .slt v1821 c0_i32_1488
  let v1826 : BitVec 1 := Scalar.xori v1824 v1825
  let c0_i32_1486 : BitVec 32 := 0#32
  let v1823 : BitVec 1 := Scalar.cmpi .ne v1822 c0_i32_1486
  let v1827 : BitVec 1 := Scalar.andi v1826 v1823
  let v1828 : BitVec 32 := Scalar.addi v1822 v1821
  let v1829 : BitVec 32 := Scalar.select v1827 v1828 v1822
  let c1_i32_1492 : BitVec 32 := 1#32
  let v1830 : BitVec 32 := Scalar.muli v1829 c1_i32_1492
  let v1831 : BitVec 32 := Scalar.addi c0_i32_1493 v1830
  v1831.toNat
def k0_dev61 (d0 : Dev nD) : Nat :=
  let c0_i32_1917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1907 : BitVec 32 := 15#32
  let v2144 : BitVec 32 := Scalar.addi v2 c15_i32_1907
  let c16_i32_1908 : BitVec 32 := 16#32
  let c0_i32_1909 : BitVec 32 := 0#32
  let v2145 : BitVec 1 := Scalar.cmpi .eq c16_i32_1908 c0_i32_1909
  let c1_i32_1910 : BitVec 32 := 1#32
  let v2146 : BitVec 32 := Scalar.select v2145 c1_i32_1910 c16_i32_1908
  let v2147 : BitVec 32 := Scalar.remsi v2144 v2146
  let c0_i32_1912 : BitVec 32 := 0#32
  let v2149 : BitVec 1 := Scalar.cmpi .slt v2147 c0_i32_1912
  let c0_i32_1913 : BitVec 32 := 0#32
  let v2150 : BitVec 1 := Scalar.cmpi .slt v2146 c0_i32_1913
  let v2151 : BitVec 1 := Scalar.xori v2149 v2150
  let c0_i32_1911 : BitVec 32 := 0#32
  let v2148 : BitVec 1 := Scalar.cmpi .ne v2147 c0_i32_1911
  let v2152 : BitVec 1 := Scalar.andi v2151 v2148
  let v2153 : BitVec 32 := Scalar.addi v2147 v2146
  let v2154 : BitVec 32 := Scalar.select v2152 v2153 v2147
  let c1_i32_1916 : BitVec 32 := 1#32
  let v2155 : BitVec 32 := Scalar.muli v2154 c1_i32_1916
  let v2156 : BitVec 32 := Scalar.addi c0_i32_1917 v2155
  v2156.toNat
def k0_dev62 (d0 : Dev nD) : Nat :=
  let c0_i32_1932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1922 : BitVec 32 := 14#32
  let v2163 : BitVec 32 := Scalar.addi v2 c14_i32_1922
  let c16_i32_1923 : BitVec 32 := 16#32
  let c0_i32_1924 : BitVec 32 := 0#32
  let v2164 : BitVec 1 := Scalar.cmpi .eq c16_i32_1923 c0_i32_1924
  let c1_i32_1925 : BitVec 32 := 1#32
  let v2165 : BitVec 32 := Scalar.select v2164 c1_i32_1925 c16_i32_1923
  let v2166 : BitVec 32 := Scalar.remsi v2163 v2165
  let c0_i32_1927 : BitVec 32 := 0#32
  let v2168 : BitVec 1 := Scalar.cmpi .slt v2166 c0_i32_1927
  let c0_i32_1928 : BitVec 32 := 0#32
  let v2169 : BitVec 1 := Scalar.cmpi .slt v2165 c0_i32_1928
  let v2170 : BitVec 1 := Scalar.xori v2168 v2169
  let c0_i32_1926 : BitVec 32 := 0#32
  let v2167 : BitVec 1 := Scalar.cmpi .ne v2166 c0_i32_1926
  let v2171 : BitVec 1 := Scalar.andi v2170 v2167
  let v2172 : BitVec 32 := Scalar.addi v2166 v2165
  let v2173 : BitVec 32 := Scalar.select v2171 v2172 v2166
  let c1_i32_1931 : BitVec 32 := 1#32
  let v2174 : BitVec 32 := Scalar.muli v2173 c1_i32_1931
  let v2175 : BitVec 32 := Scalar.addi c0_i32_1932 v2174
  v2175.toNat
def k0_dev63 (d0 : Dev nD) : Nat :=
  let c0_i32_1947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1937 : BitVec 32 := 13#32
  let v2182 : BitVec 32 := Scalar.addi v2 c13_i32_1937
  let c16_i32_1938 : BitVec 32 := 16#32
  let c0_i32_1939 : BitVec 32 := 0#32
  let v2183 : BitVec 1 := Scalar.cmpi .eq c16_i32_1938 c0_i32_1939
  let c1_i32_1940 : BitVec 32 := 1#32
  let v2184 : BitVec 32 := Scalar.select v2183 c1_i32_1940 c16_i32_1938
  let v2185 : BitVec 32 := Scalar.remsi v2182 v2184
  let c0_i32_1942 : BitVec 32 := 0#32
  let v2187 : BitVec 1 := Scalar.cmpi .slt v2185 c0_i32_1942
  let c0_i32_1943 : BitVec 32 := 0#32
  let v2188 : BitVec 1 := Scalar.cmpi .slt v2184 c0_i32_1943
  let v2189 : BitVec 1 := Scalar.xori v2187 v2188
  let c0_i32_1941 : BitVec 32 := 0#32
  let v2186 : BitVec 1 := Scalar.cmpi .ne v2185 c0_i32_1941
  let v2190 : BitVec 1 := Scalar.andi v2189 v2186
  let v2191 : BitVec 32 := Scalar.addi v2185 v2184
  let v2192 : BitVec 32 := Scalar.select v2190 v2191 v2185
  let c1_i32_1946 : BitVec 32 := 1#32
  let v2193 : BitVec 32 := Scalar.muli v2192 c1_i32_1946
  let v2194 : BitVec 32 := Scalar.addi c0_i32_1947 v2193
  v2194.toNat
def k0_dev64 (d0 : Dev nD) : Nat :=
  let c0_i32_1962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1952 : BitVec 32 := 12#32
  let v2201 : BitVec 32 := Scalar.addi v2 c12_i32_1952
  let c16_i32_1953 : BitVec 32 := 16#32
  let c0_i32_1954 : BitVec 32 := 0#32
  let v2202 : BitVec 1 := Scalar.cmpi .eq c16_i32_1953 c0_i32_1954
  let c1_i32_1955 : BitVec 32 := 1#32
  let v2203 : BitVec 32 := Scalar.select v2202 c1_i32_1955 c16_i32_1953
  let v2204 : BitVec 32 := Scalar.remsi v2201 v2203
  let c0_i32_1957 : BitVec 32 := 0#32
  let v2206 : BitVec 1 := Scalar.cmpi .slt v2204 c0_i32_1957
  let c0_i32_1958 : BitVec 32 := 0#32
  let v2207 : BitVec 1 := Scalar.cmpi .slt v2203 c0_i32_1958
  let v2208 : BitVec 1 := Scalar.xori v2206 v2207
  let c0_i32_1956 : BitVec 32 := 0#32
  let v2205 : BitVec 1 := Scalar.cmpi .ne v2204 c0_i32_1956
  let v2209 : BitVec 1 := Scalar.andi v2208 v2205
  let v2210 : BitVec 32 := Scalar.addi v2204 v2203
  let v2211 : BitVec 32 := Scalar.select v2209 v2210 v2204
  let c1_i32_1961 : BitVec 32 := 1#32
  let v2212 : BitVec 32 := Scalar.muli v2211 c1_i32_1961
  let v2213 : BitVec 32 := Scalar.addi c0_i32_1962 v2212
  v2213.toNat
def k0_dev65 (d0 : Dev nD) : Nat :=
  let c0_i32_1977 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1967 : BitVec 32 := 11#32
  let v2220 : BitVec 32 := Scalar.addi v2 c11_i32_1967
  let c16_i32_1968 : BitVec 32 := 16#32
  let c0_i32_1969 : BitVec 32 := 0#32
  let v2221 : BitVec 1 := Scalar.cmpi .eq c16_i32_1968 c0_i32_1969
  let c1_i32_1970 : BitVec 32 := 1#32
  let v2222 : BitVec 32 := Scalar.select v2221 c1_i32_1970 c16_i32_1968
  let v2223 : BitVec 32 := Scalar.remsi v2220 v2222
  let c0_i32_1972 : BitVec 32 := 0#32
  let v2225 : BitVec 1 := Scalar.cmpi .slt v2223 c0_i32_1972
  let c0_i32_1973 : BitVec 32 := 0#32
  let v2226 : BitVec 1 := Scalar.cmpi .slt v2222 c0_i32_1973
  let v2227 : BitVec 1 := Scalar.xori v2225 v2226
  let c0_i32_1971 : BitVec 32 := 0#32
  let v2224 : BitVec 1 := Scalar.cmpi .ne v2223 c0_i32_1971
  let v2228 : BitVec 1 := Scalar.andi v2227 v2224
  let v2229 : BitVec 32 := Scalar.addi v2223 v2222
  let v2230 : BitVec 32 := Scalar.select v2228 v2229 v2223
  let c1_i32_1976 : BitVec 32 := 1#32
  let v2231 : BitVec 32 := Scalar.muli v2230 c1_i32_1976
  let v2232 : BitVec 32 := Scalar.addi c0_i32_1977 v2231
  v2232.toNat
def k0_dev66 (d0 : Dev nD) : Nat :=
  let c0_i32_1992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1982 : BitVec 32 := 10#32
  let v2239 : BitVec 32 := Scalar.addi v2 c10_i32_1982
  let c16_i32_1983 : BitVec 32 := 16#32
  let c0_i32_1984 : BitVec 32 := 0#32
  let v2240 : BitVec 1 := Scalar.cmpi .eq c16_i32_1983 c0_i32_1984
  let c1_i32_1985 : BitVec 32 := 1#32
  let v2241 : BitVec 32 := Scalar.select v2240 c1_i32_1985 c16_i32_1983
  let v2242 : BitVec 32 := Scalar.remsi v2239 v2241
  let c0_i32_1987 : BitVec 32 := 0#32
  let v2244 : BitVec 1 := Scalar.cmpi .slt v2242 c0_i32_1987
  let c0_i32_1988 : BitVec 32 := 0#32
  let v2245 : BitVec 1 := Scalar.cmpi .slt v2241 c0_i32_1988
  let v2246 : BitVec 1 := Scalar.xori v2244 v2245
  let c0_i32_1986 : BitVec 32 := 0#32
  let v2243 : BitVec 1 := Scalar.cmpi .ne v2242 c0_i32_1986
  let v2247 : BitVec 1 := Scalar.andi v2246 v2243
  let v2248 : BitVec 32 := Scalar.addi v2242 v2241
  let v2249 : BitVec 32 := Scalar.select v2247 v2248 v2242
  let c1_i32_1991 : BitVec 32 := 1#32
  let v2250 : BitVec 32 := Scalar.muli v2249 c1_i32_1991
  let v2251 : BitVec 32 := Scalar.addi c0_i32_1992 v2250
  v2251.toNat
def k0_dev67 (d0 : Dev nD) : Nat :=
  let c0_i32_2007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1997 : BitVec 32 := 9#32
  let v2258 : BitVec 32 := Scalar.addi v2 c9_i32_1997
  let c16_i32_1998 : BitVec 32 := 16#32
  let c0_i32_1999 : BitVec 32 := 0#32
  let v2259 : BitVec 1 := Scalar.cmpi .eq c16_i32_1998 c0_i32_1999
  let c1_i32_2000 : BitVec 32 := 1#32
  let v2260 : BitVec 32 := Scalar.select v2259 c1_i32_2000 c16_i32_1998
  let v2261 : BitVec 32 := Scalar.remsi v2258 v2260
  let c0_i32_2002 : BitVec 32 := 0#32
  let v2263 : BitVec 1 := Scalar.cmpi .slt v2261 c0_i32_2002
  let c0_i32_2003 : BitVec 32 := 0#32
  let v2264 : BitVec 1 := Scalar.cmpi .slt v2260 c0_i32_2003
  let v2265 : BitVec 1 := Scalar.xori v2263 v2264
  let c0_i32_2001 : BitVec 32 := 0#32
  let v2262 : BitVec 1 := Scalar.cmpi .ne v2261 c0_i32_2001
  let v2266 : BitVec 1 := Scalar.andi v2265 v2262
  let v2267 : BitVec 32 := Scalar.addi v2261 v2260
  let v2268 : BitVec 32 := Scalar.select v2266 v2267 v2261
  let c1_i32_2006 : BitVec 32 := 1#32
  let v2269 : BitVec 32 := Scalar.muli v2268 c1_i32_2006
  let v2270 : BitVec 32 := Scalar.addi c0_i32_2007 v2269
  v2270.toNat
def k0_dev68 (d0 : Dev nD) : Nat :=
  let c0_i32_2022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2012 : BitVec 32 := 8#32
  let v2277 : BitVec 32 := Scalar.addi v2 c8_i32_2012
  let c16_i32_2013 : BitVec 32 := 16#32
  let c0_i32_2014 : BitVec 32 := 0#32
  let v2278 : BitVec 1 := Scalar.cmpi .eq c16_i32_2013 c0_i32_2014
  let c1_i32_2015 : BitVec 32 := 1#32
  let v2279 : BitVec 32 := Scalar.select v2278 c1_i32_2015 c16_i32_2013
  let v2280 : BitVec 32 := Scalar.remsi v2277 v2279
  let c0_i32_2017 : BitVec 32 := 0#32
  let v2282 : BitVec 1 := Scalar.cmpi .slt v2280 c0_i32_2017
  let c0_i32_2018 : BitVec 32 := 0#32
  let v2283 : BitVec 1 := Scalar.cmpi .slt v2279 c0_i32_2018
  let v2284 : BitVec 1 := Scalar.xori v2282 v2283
  let c0_i32_2016 : BitVec 32 := 0#32
  let v2281 : BitVec 1 := Scalar.cmpi .ne v2280 c0_i32_2016
  let v2285 : BitVec 1 := Scalar.andi v2284 v2281
  let v2286 : BitVec 32 := Scalar.addi v2280 v2279
  let v2287 : BitVec 32 := Scalar.select v2285 v2286 v2280
  let c1_i32_2021 : BitVec 32 := 1#32
  let v2288 : BitVec 32 := Scalar.muli v2287 c1_i32_2021
  let v2289 : BitVec 32 := Scalar.addi c0_i32_2022 v2288
  v2289.toNat
def k0_dev69 (d0 : Dev nD) : Nat :=
  let c0_i32_2037 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2027 : BitVec 32 := 7#32
  let v2296 : BitVec 32 := Scalar.addi v2 c7_i32_2027
  let c16_i32_2028 : BitVec 32 := 16#32
  let c0_i32_2029 : BitVec 32 := 0#32
  let v2297 : BitVec 1 := Scalar.cmpi .eq c16_i32_2028 c0_i32_2029
  let c1_i32_2030 : BitVec 32 := 1#32
  let v2298 : BitVec 32 := Scalar.select v2297 c1_i32_2030 c16_i32_2028
  let v2299 : BitVec 32 := Scalar.remsi v2296 v2298
  let c0_i32_2032 : BitVec 32 := 0#32
  let v2301 : BitVec 1 := Scalar.cmpi .slt v2299 c0_i32_2032
  let c0_i32_2033 : BitVec 32 := 0#32
  let v2302 : BitVec 1 := Scalar.cmpi .slt v2298 c0_i32_2033
  let v2303 : BitVec 1 := Scalar.xori v2301 v2302
  let c0_i32_2031 : BitVec 32 := 0#32
  let v2300 : BitVec 1 := Scalar.cmpi .ne v2299 c0_i32_2031
  let v2304 : BitVec 1 := Scalar.andi v2303 v2300
  let v2305 : BitVec 32 := Scalar.addi v2299 v2298
  let v2306 : BitVec 32 := Scalar.select v2304 v2305 v2299
  let c1_i32_2036 : BitVec 32 := 1#32
  let v2307 : BitVec 32 := Scalar.muli v2306 c1_i32_2036
  let v2308 : BitVec 32 := Scalar.addi c0_i32_2037 v2307
  v2308.toNat
def k0_dev70 (d0 : Dev nD) : Nat :=
  let c0_i32_2052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2042 : BitVec 32 := 6#32
  let v2315 : BitVec 32 := Scalar.addi v2 c6_i32_2042
  let c16_i32_2043 : BitVec 32 := 16#32
  let c0_i32_2044 : BitVec 32 := 0#32
  let v2316 : BitVec 1 := Scalar.cmpi .eq c16_i32_2043 c0_i32_2044
  let c1_i32_2045 : BitVec 32 := 1#32
  let v2317 : BitVec 32 := Scalar.select v2316 c1_i32_2045 c16_i32_2043
  let v2318 : BitVec 32 := Scalar.remsi v2315 v2317
  let c0_i32_2047 : BitVec 32 := 0#32
  let v2320 : BitVec 1 := Scalar.cmpi .slt v2318 c0_i32_2047
  let c0_i32_2048 : BitVec 32 := 0#32
  let v2321 : BitVec 1 := Scalar.cmpi .slt v2317 c0_i32_2048
  let v2322 : BitVec 1 := Scalar.xori v2320 v2321
  let c0_i32_2046 : BitVec 32 := 0#32
  let v2319 : BitVec 1 := Scalar.cmpi .ne v2318 c0_i32_2046
  let v2323 : BitVec 1 := Scalar.andi v2322 v2319
  let v2324 : BitVec 32 := Scalar.addi v2318 v2317
  let v2325 : BitVec 32 := Scalar.select v2323 v2324 v2318
  let c1_i32_2051 : BitVec 32 := 1#32
  let v2326 : BitVec 32 := Scalar.muli v2325 c1_i32_2051
  let v2327 : BitVec 32 := Scalar.addi c0_i32_2052 v2326
  v2327.toNat
def k0_dev71 (d0 : Dev nD) : Nat :=
  let c0_i32_2067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2057 : BitVec 32 := 5#32
  let v2334 : BitVec 32 := Scalar.addi v2 c5_i32_2057
  let c16_i32_2058 : BitVec 32 := 16#32
  let c0_i32_2059 : BitVec 32 := 0#32
  let v2335 : BitVec 1 := Scalar.cmpi .eq c16_i32_2058 c0_i32_2059
  let c1_i32_2060 : BitVec 32 := 1#32
  let v2336 : BitVec 32 := Scalar.select v2335 c1_i32_2060 c16_i32_2058
  let v2337 : BitVec 32 := Scalar.remsi v2334 v2336
  let c0_i32_2062 : BitVec 32 := 0#32
  let v2339 : BitVec 1 := Scalar.cmpi .slt v2337 c0_i32_2062
  let c0_i32_2063 : BitVec 32 := 0#32
  let v2340 : BitVec 1 := Scalar.cmpi .slt v2336 c0_i32_2063
  let v2341 : BitVec 1 := Scalar.xori v2339 v2340
  let c0_i32_2061 : BitVec 32 := 0#32
  let v2338 : BitVec 1 := Scalar.cmpi .ne v2337 c0_i32_2061
  let v2342 : BitVec 1 := Scalar.andi v2341 v2338
  let v2343 : BitVec 32 := Scalar.addi v2337 v2336
  let v2344 : BitVec 32 := Scalar.select v2342 v2343 v2337
  let c1_i32_2066 : BitVec 32 := 1#32
  let v2345 : BitVec 32 := Scalar.muli v2344 c1_i32_2066
  let v2346 : BitVec 32 := Scalar.addi c0_i32_2067 v2345
  v2346.toNat
def k0_dev72 (d0 : Dev nD) : Nat :=
  let c0_i32_2082 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2072 : BitVec 32 := 4#32
  let v2353 : BitVec 32 := Scalar.addi v2 c4_i32_2072
  let c16_i32_2073 : BitVec 32 := 16#32
  let c0_i32_2074 : BitVec 32 := 0#32
  let v2354 : BitVec 1 := Scalar.cmpi .eq c16_i32_2073 c0_i32_2074
  let c1_i32_2075 : BitVec 32 := 1#32
  let v2355 : BitVec 32 := Scalar.select v2354 c1_i32_2075 c16_i32_2073
  let v2356 : BitVec 32 := Scalar.remsi v2353 v2355
  let c0_i32_2077 : BitVec 32 := 0#32
  let v2358 : BitVec 1 := Scalar.cmpi .slt v2356 c0_i32_2077
  let c0_i32_2078 : BitVec 32 := 0#32
  let v2359 : BitVec 1 := Scalar.cmpi .slt v2355 c0_i32_2078
  let v2360 : BitVec 1 := Scalar.xori v2358 v2359
  let c0_i32_2076 : BitVec 32 := 0#32
  let v2357 : BitVec 1 := Scalar.cmpi .ne v2356 c0_i32_2076
  let v2361 : BitVec 1 := Scalar.andi v2360 v2357
  let v2362 : BitVec 32 := Scalar.addi v2356 v2355
  let v2363 : BitVec 32 := Scalar.select v2361 v2362 v2356
  let c1_i32_2081 : BitVec 32 := 1#32
  let v2364 : BitVec 32 := Scalar.muli v2363 c1_i32_2081
  let v2365 : BitVec 32 := Scalar.addi c0_i32_2082 v2364
  v2365.toNat
def k0_dev73 (d0 : Dev nD) : Nat :=
  let c0_i32_2097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2087 : BitVec 32 := 3#32
  let v2372 : BitVec 32 := Scalar.addi v2 c3_i32_2087
  let c16_i32_2088 : BitVec 32 := 16#32
  let c0_i32_2089 : BitVec 32 := 0#32
  let v2373 : BitVec 1 := Scalar.cmpi .eq c16_i32_2088 c0_i32_2089
  let c1_i32_2090 : BitVec 32 := 1#32
  let v2374 : BitVec 32 := Scalar.select v2373 c1_i32_2090 c16_i32_2088
  let v2375 : BitVec 32 := Scalar.remsi v2372 v2374
  let c0_i32_2092 : BitVec 32 := 0#32
  let v2377 : BitVec 1 := Scalar.cmpi .slt v2375 c0_i32_2092
  let c0_i32_2093 : BitVec 32 := 0#32
  let v2378 : BitVec 1 := Scalar.cmpi .slt v2374 c0_i32_2093
  let v2379 : BitVec 1 := Scalar.xori v2377 v2378
  let c0_i32_2091 : BitVec 32 := 0#32
  let v2376 : BitVec 1 := Scalar.cmpi .ne v2375 c0_i32_2091
  let v2380 : BitVec 1 := Scalar.andi v2379 v2376
  let v2381 : BitVec 32 := Scalar.addi v2375 v2374
  let v2382 : BitVec 32 := Scalar.select v2380 v2381 v2375
  let c1_i32_2096 : BitVec 32 := 1#32
  let v2383 : BitVec 32 := Scalar.muli v2382 c1_i32_2096
  let v2384 : BitVec 32 := Scalar.addi c0_i32_2097 v2383
  v2384.toNat
def k0_dev74 (d0 : Dev nD) : Nat :=
  let c0_i32_2112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2102 : BitVec 32 := 2#32
  let v2391 : BitVec 32 := Scalar.addi v2 c2_i32_2102
  let c16_i32_2103 : BitVec 32 := 16#32
  let c0_i32_2104 : BitVec 32 := 0#32
  let v2392 : BitVec 1 := Scalar.cmpi .eq c16_i32_2103 c0_i32_2104
  let c1_i32_2105 : BitVec 32 := 1#32
  let v2393 : BitVec 32 := Scalar.select v2392 c1_i32_2105 c16_i32_2103
  let v2394 : BitVec 32 := Scalar.remsi v2391 v2393
  let c0_i32_2107 : BitVec 32 := 0#32
  let v2396 : BitVec 1 := Scalar.cmpi .slt v2394 c0_i32_2107
  let c0_i32_2108 : BitVec 32 := 0#32
  let v2397 : BitVec 1 := Scalar.cmpi .slt v2393 c0_i32_2108
  let v2398 : BitVec 1 := Scalar.xori v2396 v2397
  let c0_i32_2106 : BitVec 32 := 0#32
  let v2395 : BitVec 1 := Scalar.cmpi .ne v2394 c0_i32_2106
  let v2399 : BitVec 1 := Scalar.andi v2398 v2395
  let v2400 : BitVec 32 := Scalar.addi v2394 v2393
  let v2401 : BitVec 32 := Scalar.select v2399 v2400 v2394
  let c1_i32_2111 : BitVec 32 := 1#32
  let v2402 : BitVec 32 := Scalar.muli v2401 c1_i32_2111
  let v2403 : BitVec 32 := Scalar.addi c0_i32_2112 v2402
  v2403.toNat
def k0_dev75 (d0 : Dev nD) : Nat :=
  let c0_i32_2127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2117 : BitVec 32 := 1#32
  let v2410 : BitVec 32 := Scalar.addi v2 c1_i32_2117
  let c16_i32_2118 : BitVec 32 := 16#32
  let c0_i32_2119 : BitVec 32 := 0#32
  let v2411 : BitVec 1 := Scalar.cmpi .eq c16_i32_2118 c0_i32_2119
  let c1_i32_2120 : BitVec 32 := 1#32
  let v2412 : BitVec 32 := Scalar.select v2411 c1_i32_2120 c16_i32_2118
  let v2413 : BitVec 32 := Scalar.remsi v2410 v2412
  let c0_i32_2122 : BitVec 32 := 0#32
  let v2415 : BitVec 1 := Scalar.cmpi .slt v2413 c0_i32_2122
  let c0_i32_2123 : BitVec 32 := 0#32
  let v2416 : BitVec 1 := Scalar.cmpi .slt v2412 c0_i32_2123
  let v2417 : BitVec 1 := Scalar.xori v2415 v2416
  let c0_i32_2121 : BitVec 32 := 0#32
  let v2414 : BitVec 1 := Scalar.cmpi .ne v2413 c0_i32_2121
  let v2418 : BitVec 1 := Scalar.andi v2417 v2414
  let v2419 : BitVec 32 := Scalar.addi v2413 v2412
  let v2420 : BitVec 32 := Scalar.select v2418 v2419 v2413
  let c1_i32_2126 : BitVec 32 := 1#32
  let v2421 : BitVec 32 := Scalar.muli v2420 c1_i32_2126
  let v2422 : BitVec 32 := Scalar.addi c0_i32_2127 v2421
  v2422.toNat
def k0_dev76 (d0 : Dev nD) : Nat :=
  let c0_i32_2188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2177 : BitVec 32 := 15#32
  let v2470 : BitVec 32 := Scalar.subi v2 c15_i32_2177
  let c16_i32_2178 : BitVec 32 := 16#32
  let c0_i32_2179 : BitVec 32 := 0#32
  let v2471 : BitVec 1 := Scalar.cmpi .eq c16_i32_2178 c0_i32_2179
  let c1_i32_2180 : BitVec 32 := 1#32
  let v2472 : BitVec 32 := Scalar.select v2471 c1_i32_2180 c16_i32_2178
  let v2473 : BitVec 32 := Scalar.remsi v2470 v2472
  let c0_i32_2182 : BitVec 32 := 0#32
  let v2475 : BitVec 1 := Scalar.cmpi .slt v2473 c0_i32_2182
  let c0_i32_2183 : BitVec 32 := 0#32
  let v2476 : BitVec 1 := Scalar.cmpi .slt v2472 c0_i32_2183
  let v2477 : BitVec 1 := Scalar.xori v2475 v2476
  let c0_i32_2181 : BitVec 32 := 0#32
  let v2474 : BitVec 1 := Scalar.cmpi .ne v2473 c0_i32_2181
  let v2478 : BitVec 1 := Scalar.andi v2477 v2474
  let v2479 : BitVec 32 := Scalar.addi v2473 v2472
  let v2480 : BitVec 32 := Scalar.select v2478 v2479 v2473
  let c1_i32_2187 : BitVec 32 := 1#32
  let v2481 : BitVec 32 := Scalar.muli v2480 c1_i32_2187
  let v2482 : BitVec 32 := Scalar.addi c0_i32_2188 v2481
  v2482.toNat
def k0_dev77 (d0 : Dev nD) : Nat :=
  let c0_i32_2204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2193 : BitVec 32 := 14#32
  let v2490 : BitVec 32 := Scalar.subi v2 c14_i32_2193
  let c16_i32_2194 : BitVec 32 := 16#32
  let c0_i32_2195 : BitVec 32 := 0#32
  let v2491 : BitVec 1 := Scalar.cmpi .eq c16_i32_2194 c0_i32_2195
  let c1_i32_2196 : BitVec 32 := 1#32
  let v2492 : BitVec 32 := Scalar.select v2491 c1_i32_2196 c16_i32_2194
  let v2493 : BitVec 32 := Scalar.remsi v2490 v2492
  let c0_i32_2198 : BitVec 32 := 0#32
  let v2495 : BitVec 1 := Scalar.cmpi .slt v2493 c0_i32_2198
  let c0_i32_2199 : BitVec 32 := 0#32
  let v2496 : BitVec 1 := Scalar.cmpi .slt v2492 c0_i32_2199
  let v2497 : BitVec 1 := Scalar.xori v2495 v2496
  let c0_i32_2197 : BitVec 32 := 0#32
  let v2494 : BitVec 1 := Scalar.cmpi .ne v2493 c0_i32_2197
  let v2498 : BitVec 1 := Scalar.andi v2497 v2494
  let v2499 : BitVec 32 := Scalar.addi v2493 v2492
  let v2500 : BitVec 32 := Scalar.select v2498 v2499 v2493
  let c1_i32_2203 : BitVec 32 := 1#32
  let v2501 : BitVec 32 := Scalar.muli v2500 c1_i32_2203
  let v2502 : BitVec 32 := Scalar.addi c0_i32_2204 v2501
  v2502.toNat
def k0_dev78 (d0 : Dev nD) : Nat :=
  let c0_i32_2220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2209 : BitVec 32 := 13#32
  let v2510 : BitVec 32 := Scalar.subi v2 c13_i32_2209
  let c16_i32_2210 : BitVec 32 := 16#32
  let c0_i32_2211 : BitVec 32 := 0#32
  let v2511 : BitVec 1 := Scalar.cmpi .eq c16_i32_2210 c0_i32_2211
  let c1_i32_2212 : BitVec 32 := 1#32
  let v2512 : BitVec 32 := Scalar.select v2511 c1_i32_2212 c16_i32_2210
  let v2513 : BitVec 32 := Scalar.remsi v2510 v2512
  let c0_i32_2214 : BitVec 32 := 0#32
  let v2515 : BitVec 1 := Scalar.cmpi .slt v2513 c0_i32_2214
  let c0_i32_2215 : BitVec 32 := 0#32
  let v2516 : BitVec 1 := Scalar.cmpi .slt v2512 c0_i32_2215
  let v2517 : BitVec 1 := Scalar.xori v2515 v2516
  let c0_i32_2213 : BitVec 32 := 0#32
  let v2514 : BitVec 1 := Scalar.cmpi .ne v2513 c0_i32_2213
  let v2518 : BitVec 1 := Scalar.andi v2517 v2514
  let v2519 : BitVec 32 := Scalar.addi v2513 v2512
  let v2520 : BitVec 32 := Scalar.select v2518 v2519 v2513
  let c1_i32_2219 : BitVec 32 := 1#32
  let v2521 : BitVec 32 := Scalar.muli v2520 c1_i32_2219
  let v2522 : BitVec 32 := Scalar.addi c0_i32_2220 v2521
  v2522.toNat
def k0_dev79 (d0 : Dev nD) : Nat :=
  let c0_i32_2236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2225 : BitVec 32 := 12#32
  let v2530 : BitVec 32 := Scalar.subi v2 c12_i32_2225
  let c16_i32_2226 : BitVec 32 := 16#32
  let c0_i32_2227 : BitVec 32 := 0#32
  let v2531 : BitVec 1 := Scalar.cmpi .eq c16_i32_2226 c0_i32_2227
  let c1_i32_2228 : BitVec 32 := 1#32
  let v2532 : BitVec 32 := Scalar.select v2531 c1_i32_2228 c16_i32_2226
  let v2533 : BitVec 32 := Scalar.remsi v2530 v2532
  let c0_i32_2230 : BitVec 32 := 0#32
  let v2535 : BitVec 1 := Scalar.cmpi .slt v2533 c0_i32_2230
  let c0_i32_2231 : BitVec 32 := 0#32
  let v2536 : BitVec 1 := Scalar.cmpi .slt v2532 c0_i32_2231
  let v2537 : BitVec 1 := Scalar.xori v2535 v2536
  let c0_i32_2229 : BitVec 32 := 0#32
  let v2534 : BitVec 1 := Scalar.cmpi .ne v2533 c0_i32_2229
  let v2538 : BitVec 1 := Scalar.andi v2537 v2534
  let v2539 : BitVec 32 := Scalar.addi v2533 v2532
  let v2540 : BitVec 32 := Scalar.select v2538 v2539 v2533
  let c1_i32_2235 : BitVec 32 := 1#32
  let v2541 : BitVec 32 := Scalar.muli v2540 c1_i32_2235
  let v2542 : BitVec 32 := Scalar.addi c0_i32_2236 v2541
  v2542.toNat
def k0_dev80 (d0 : Dev nD) : Nat :=
  let c0_i32_2297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2286 : BitVec 32 := 11#32
  let v2591 : BitVec 32 := Scalar.subi v2 c11_i32_2286
  let c16_i32_2287 : BitVec 32 := 16#32
  let c0_i32_2288 : BitVec 32 := 0#32
  let v2592 : BitVec 1 := Scalar.cmpi .eq c16_i32_2287 c0_i32_2288
  let c1_i32_2289 : BitVec 32 := 1#32
  let v2593 : BitVec 32 := Scalar.select v2592 c1_i32_2289 c16_i32_2287
  let v2594 : BitVec 32 := Scalar.remsi v2591 v2593
  let c0_i32_2291 : BitVec 32 := 0#32
  let v2596 : BitVec 1 := Scalar.cmpi .slt v2594 c0_i32_2291
  let c0_i32_2292 : BitVec 32 := 0#32
  let v2597 : BitVec 1 := Scalar.cmpi .slt v2593 c0_i32_2292
  let v2598 : BitVec 1 := Scalar.xori v2596 v2597
  let c0_i32_2290 : BitVec 32 := 0#32
  let v2595 : BitVec 1 := Scalar.cmpi .ne v2594 c0_i32_2290
  let v2599 : BitVec 1 := Scalar.andi v2598 v2595
  let v2600 : BitVec 32 := Scalar.addi v2594 v2593
  let v2601 : BitVec 32 := Scalar.select v2599 v2600 v2594
  let c1_i32_2296 : BitVec 32 := 1#32
  let v2602 : BitVec 32 := Scalar.muli v2601 c1_i32_2296
  let v2603 : BitVec 32 := Scalar.addi c0_i32_2297 v2602
  v2603.toNat
def k0_dev81 (d0 : Dev nD) : Nat :=
  let c0_i32_2313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2302 : BitVec 32 := 10#32
  let v2611 : BitVec 32 := Scalar.subi v2 c10_i32_2302
  let c16_i32_2303 : BitVec 32 := 16#32
  let c0_i32_2304 : BitVec 32 := 0#32
  let v2612 : BitVec 1 := Scalar.cmpi .eq c16_i32_2303 c0_i32_2304
  let c1_i32_2305 : BitVec 32 := 1#32
  let v2613 : BitVec 32 := Scalar.select v2612 c1_i32_2305 c16_i32_2303
  let v2614 : BitVec 32 := Scalar.remsi v2611 v2613
  let c0_i32_2307 : BitVec 32 := 0#32
  let v2616 : BitVec 1 := Scalar.cmpi .slt v2614 c0_i32_2307
  let c0_i32_2308 : BitVec 32 := 0#32
  let v2617 : BitVec 1 := Scalar.cmpi .slt v2613 c0_i32_2308
  let v2618 : BitVec 1 := Scalar.xori v2616 v2617
  let c0_i32_2306 : BitVec 32 := 0#32
  let v2615 : BitVec 1 := Scalar.cmpi .ne v2614 c0_i32_2306
  let v2619 : BitVec 1 := Scalar.andi v2618 v2615
  let v2620 : BitVec 32 := Scalar.addi v2614 v2613
  let v2621 : BitVec 32 := Scalar.select v2619 v2620 v2614
  let c1_i32_2312 : BitVec 32 := 1#32
  let v2622 : BitVec 32 := Scalar.muli v2621 c1_i32_2312
  let v2623 : BitVec 32 := Scalar.addi c0_i32_2313 v2622
  v2623.toNat
def k0_dev82 (d0 : Dev nD) : Nat :=
  let c0_i32_2329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2318 : BitVec 32 := 9#32
  let v2631 : BitVec 32 := Scalar.subi v2 c9_i32_2318
  let c16_i32_2319 : BitVec 32 := 16#32
  let c0_i32_2320 : BitVec 32 := 0#32
  let v2632 : BitVec 1 := Scalar.cmpi .eq c16_i32_2319 c0_i32_2320
  let c1_i32_2321 : BitVec 32 := 1#32
  let v2633 : BitVec 32 := Scalar.select v2632 c1_i32_2321 c16_i32_2319
  let v2634 : BitVec 32 := Scalar.remsi v2631 v2633
  let c0_i32_2323 : BitVec 32 := 0#32
  let v2636 : BitVec 1 := Scalar.cmpi .slt v2634 c0_i32_2323
  let c0_i32_2324 : BitVec 32 := 0#32
  let v2637 : BitVec 1 := Scalar.cmpi .slt v2633 c0_i32_2324
  let v2638 : BitVec 1 := Scalar.xori v2636 v2637
  let c0_i32_2322 : BitVec 32 := 0#32
  let v2635 : BitVec 1 := Scalar.cmpi .ne v2634 c0_i32_2322
  let v2639 : BitVec 1 := Scalar.andi v2638 v2635
  let v2640 : BitVec 32 := Scalar.addi v2634 v2633
  let v2641 : BitVec 32 := Scalar.select v2639 v2640 v2634
  let c1_i32_2328 : BitVec 32 := 1#32
  let v2642 : BitVec 32 := Scalar.muli v2641 c1_i32_2328
  let v2643 : BitVec 32 := Scalar.addi c0_i32_2329 v2642
  v2643.toNat
def k0_dev83 (d0 : Dev nD) : Nat :=
  let c0_i32_2345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2334 : BitVec 32 := 8#32
  let v2651 : BitVec 32 := Scalar.subi v2 c8_i32_2334
  let c16_i32_2335 : BitVec 32 := 16#32
  let c0_i32_2336 : BitVec 32 := 0#32
  let v2652 : BitVec 1 := Scalar.cmpi .eq c16_i32_2335 c0_i32_2336
  let c1_i32_2337 : BitVec 32 := 1#32
  let v2653 : BitVec 32 := Scalar.select v2652 c1_i32_2337 c16_i32_2335
  let v2654 : BitVec 32 := Scalar.remsi v2651 v2653
  let c0_i32_2339 : BitVec 32 := 0#32
  let v2656 : BitVec 1 := Scalar.cmpi .slt v2654 c0_i32_2339
  let c0_i32_2340 : BitVec 32 := 0#32
  let v2657 : BitVec 1 := Scalar.cmpi .slt v2653 c0_i32_2340
  let v2658 : BitVec 1 := Scalar.xori v2656 v2657
  let c0_i32_2338 : BitVec 32 := 0#32
  let v2655 : BitVec 1 := Scalar.cmpi .ne v2654 c0_i32_2338
  let v2659 : BitVec 1 := Scalar.andi v2658 v2655
  let v2660 : BitVec 32 := Scalar.addi v2654 v2653
  let v2661 : BitVec 32 := Scalar.select v2659 v2660 v2654
  let c1_i32_2344 : BitVec 32 := 1#32
  let v2662 : BitVec 32 := Scalar.muli v2661 c1_i32_2344
  let v2663 : BitVec 32 := Scalar.addi c0_i32_2345 v2662
  v2663.toNat
def k0_dev84 (d0 : Dev nD) : Nat :=
  let c0_i32_2406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2395 : BitVec 32 := 7#32
  let v2712 : BitVec 32 := Scalar.subi v2 c7_i32_2395
  let c16_i32_2396 : BitVec 32 := 16#32
  let c0_i32_2397 : BitVec 32 := 0#32
  let v2713 : BitVec 1 := Scalar.cmpi .eq c16_i32_2396 c0_i32_2397
  let c1_i32_2398 : BitVec 32 := 1#32
  let v2714 : BitVec 32 := Scalar.select v2713 c1_i32_2398 c16_i32_2396
  let v2715 : BitVec 32 := Scalar.remsi v2712 v2714
  let c0_i32_2400 : BitVec 32 := 0#32
  let v2717 : BitVec 1 := Scalar.cmpi .slt v2715 c0_i32_2400
  let c0_i32_2401 : BitVec 32 := 0#32
  let v2718 : BitVec 1 := Scalar.cmpi .slt v2714 c0_i32_2401
  let v2719 : BitVec 1 := Scalar.xori v2717 v2718
  let c0_i32_2399 : BitVec 32 := 0#32
  let v2716 : BitVec 1 := Scalar.cmpi .ne v2715 c0_i32_2399
  let v2720 : BitVec 1 := Scalar.andi v2719 v2716
  let v2721 : BitVec 32 := Scalar.addi v2715 v2714
  let v2722 : BitVec 32 := Scalar.select v2720 v2721 v2715
  let c1_i32_2405 : BitVec 32 := 1#32
  let v2723 : BitVec 32 := Scalar.muli v2722 c1_i32_2405
  let v2724 : BitVec 32 := Scalar.addi c0_i32_2406 v2723
  v2724.toNat
def k0_dev85 (d0 : Dev nD) : Nat :=
  let c0_i32_2422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2411 : BitVec 32 := 6#32
  let v2732 : BitVec 32 := Scalar.subi v2 c6_i32_2411
  let c16_i32_2412 : BitVec 32 := 16#32
  let c0_i32_2413 : BitVec 32 := 0#32
  let v2733 : BitVec 1 := Scalar.cmpi .eq c16_i32_2412 c0_i32_2413
  let c1_i32_2414 : BitVec 32 := 1#32
  let v2734 : BitVec 32 := Scalar.select v2733 c1_i32_2414 c16_i32_2412
  let v2735 : BitVec 32 := Scalar.remsi v2732 v2734
  let c0_i32_2416 : BitVec 32 := 0#32
  let v2737 : BitVec 1 := Scalar.cmpi .slt v2735 c0_i32_2416
  let c0_i32_2417 : BitVec 32 := 0#32
  let v2738 : BitVec 1 := Scalar.cmpi .slt v2734 c0_i32_2417
  let v2739 : BitVec 1 := Scalar.xori v2737 v2738
  let c0_i32_2415 : BitVec 32 := 0#32
  let v2736 : BitVec 1 := Scalar.cmpi .ne v2735 c0_i32_2415
  let v2740 : BitVec 1 := Scalar.andi v2739 v2736
  let v2741 : BitVec 32 := Scalar.addi v2735 v2734
  let v2742 : BitVec 32 := Scalar.select v2740 v2741 v2735
  let c1_i32_2421 : BitVec 32 := 1#32
  let v2743 : BitVec 32 := Scalar.muli v2742 c1_i32_2421
  let v2744 : BitVec 32 := Scalar.addi c0_i32_2422 v2743
  v2744.toNat
def k0_dev86 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2427 : BitVec 32 := 5#32
  let v2752 : BitVec 32 := Scalar.subi v2 c5_i32_2427
  let c16_i32_2428 : BitVec 32 := 16#32
  let c0_i32_2429 : BitVec 32 := 0#32
  let v2753 : BitVec 1 := Scalar.cmpi .eq c16_i32_2428 c0_i32_2429
  let c1_i32_2430 : BitVec 32 := 1#32
  let v2754 : BitVec 32 := Scalar.select v2753 c1_i32_2430 c16_i32_2428
  let v2755 : BitVec 32 := Scalar.remsi v2752 v2754
  let c0_i32_2432 : BitVec 32 := 0#32
  let v2757 : BitVec 1 := Scalar.cmpi .slt v2755 c0_i32_2432
  let c0_i32_2433 : BitVec 32 := 0#32
  let v2758 : BitVec 1 := Scalar.cmpi .slt v2754 c0_i32_2433
  let v2759 : BitVec 1 := Scalar.xori v2757 v2758
  let c0_i32_2431 : BitVec 32 := 0#32
  let v2756 : BitVec 1 := Scalar.cmpi .ne v2755 c0_i32_2431
  let v2760 : BitVec 1 := Scalar.andi v2759 v2756
  let v2761 : BitVec 32 := Scalar.addi v2755 v2754
  let v2762 : BitVec 32 := Scalar.select v2760 v2761 v2755
  let c1_i32_2437 : BitVec 32 := 1#32
  let v2763 : BitVec 32 := Scalar.muli v2762 c1_i32_2437
  let v2764 : BitVec 32 := Scalar.addi c0_i32_2438 v2763
  v2764.toNat
def k0_dev87 (d0 : Dev nD) : Nat :=
  let c0_i32_2454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2443 : BitVec 32 := 4#32
  let v2772 : BitVec 32 := Scalar.subi v2 c4_i32_2443
  let c16_i32_2444 : BitVec 32 := 16#32
  let c0_i32_2445 : BitVec 32 := 0#32
  let v2773 : BitVec 1 := Scalar.cmpi .eq c16_i32_2444 c0_i32_2445
  let c1_i32_2446 : BitVec 32 := 1#32
  let v2774 : BitVec 32 := Scalar.select v2773 c1_i32_2446 c16_i32_2444
  let v2775 : BitVec 32 := Scalar.remsi v2772 v2774
  let c0_i32_2448 : BitVec 32 := 0#32
  let v2777 : BitVec 1 := Scalar.cmpi .slt v2775 c0_i32_2448
  let c0_i32_2449 : BitVec 32 := 0#32
  let v2778 : BitVec 1 := Scalar.cmpi .slt v2774 c0_i32_2449
  let v2779 : BitVec 1 := Scalar.xori v2777 v2778
  let c0_i32_2447 : BitVec 32 := 0#32
  let v2776 : BitVec 1 := Scalar.cmpi .ne v2775 c0_i32_2447
  let v2780 : BitVec 1 := Scalar.andi v2779 v2776
  let v2781 : BitVec 32 := Scalar.addi v2775 v2774
  let v2782 : BitVec 32 := Scalar.select v2780 v2781 v2775
  let c1_i32_2453 : BitVec 32 := 1#32
  let v2783 : BitVec 32 := Scalar.muli v2782 c1_i32_2453
  let v2784 : BitVec 32 := Scalar.addi c0_i32_2454 v2783
  v2784.toNat
def k0_dev88 (d0 : Dev nD) : Nat :=
  let c0_i32_2507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2496 : BitVec 32 := 3#32
  let v2827 : BitVec 32 := Scalar.subi v2 c3_i32_2496
  let c16_i32_2497 : BitVec 32 := 16#32
  let c0_i32_2498 : BitVec 32 := 0#32
  let v2828 : BitVec 1 := Scalar.cmpi .eq c16_i32_2497 c0_i32_2498
  let c1_i32_2499 : BitVec 32 := 1#32
  let v2829 : BitVec 32 := Scalar.select v2828 c1_i32_2499 c16_i32_2497
  let v2830 : BitVec 32 := Scalar.remsi v2827 v2829
  let c0_i32_2501 : BitVec 32 := 0#32
  let v2832 : BitVec 1 := Scalar.cmpi .slt v2830 c0_i32_2501
  let c0_i32_2502 : BitVec 32 := 0#32
  let v2833 : BitVec 1 := Scalar.cmpi .slt v2829 c0_i32_2502
  let v2834 : BitVec 1 := Scalar.xori v2832 v2833
  let c0_i32_2500 : BitVec 32 := 0#32
  let v2831 : BitVec 1 := Scalar.cmpi .ne v2830 c0_i32_2500
  let v2835 : BitVec 1 := Scalar.andi v2834 v2831
  let v2836 : BitVec 32 := Scalar.addi v2830 v2829
  let v2837 : BitVec 32 := Scalar.select v2835 v2836 v2830
  let c1_i32_2506 : BitVec 32 := 1#32
  let v2838 : BitVec 32 := Scalar.muli v2837 c1_i32_2506
  let v2839 : BitVec 32 := Scalar.addi c0_i32_2507 v2838
  v2839.toNat
def k0_dev89 (d0 : Dev nD) : Nat :=
  let c0_i32_2523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2512 : BitVec 32 := 2#32
  let v2847 : BitVec 32 := Scalar.subi v2 c2_i32_2512
  let c16_i32_2513 : BitVec 32 := 16#32
  let c0_i32_2514 : BitVec 32 := 0#32
  let v2848 : BitVec 1 := Scalar.cmpi .eq c16_i32_2513 c0_i32_2514
  let c1_i32_2515 : BitVec 32 := 1#32
  let v2849 : BitVec 32 := Scalar.select v2848 c1_i32_2515 c16_i32_2513
  let v2850 : BitVec 32 := Scalar.remsi v2847 v2849
  let c0_i32_2517 : BitVec 32 := 0#32
  let v2852 : BitVec 1 := Scalar.cmpi .slt v2850 c0_i32_2517
  let c0_i32_2518 : BitVec 32 := 0#32
  let v2853 : BitVec 1 := Scalar.cmpi .slt v2849 c0_i32_2518
  let v2854 : BitVec 1 := Scalar.xori v2852 v2853
  let c0_i32_2516 : BitVec 32 := 0#32
  let v2851 : BitVec 1 := Scalar.cmpi .ne v2850 c0_i32_2516
  let v2855 : BitVec 1 := Scalar.andi v2854 v2851
  let v2856 : BitVec 32 := Scalar.addi v2850 v2849
  let v2857 : BitVec 32 := Scalar.select v2855 v2856 v2850
  let c1_i32_2522 : BitVec 32 := 1#32
  let v2858 : BitVec 32 := Scalar.muli v2857 c1_i32_2522
  let v2859 : BitVec 32 := Scalar.addi c0_i32_2523 v2858
  v2859.toNat
def k0_dev90 (d0 : Dev nD) : Nat :=
  let c0_i32_2539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2528 : BitVec 32 := 1#32
  let v2867 : BitVec 32 := Scalar.subi v2 c1_i32_2528
  let c16_i32_2529 : BitVec 32 := 16#32
  let c0_i32_2530 : BitVec 32 := 0#32
  let v2868 : BitVec 1 := Scalar.cmpi .eq c16_i32_2529 c0_i32_2530
  let c1_i32_2531 : BitVec 32 := 1#32
  let v2869 : BitVec 32 := Scalar.select v2868 c1_i32_2531 c16_i32_2529
  let v2870 : BitVec 32 := Scalar.remsi v2867 v2869
  let c0_i32_2533 : BitVec 32 := 0#32
  let v2872 : BitVec 1 := Scalar.cmpi .slt v2870 c0_i32_2533
  let c0_i32_2534 : BitVec 32 := 0#32
  let v2873 : BitVec 1 := Scalar.cmpi .slt v2869 c0_i32_2534
  let v2874 : BitVec 1 := Scalar.xori v2872 v2873
  let c0_i32_2532 : BitVec 32 := 0#32
  let v2871 : BitVec 1 := Scalar.cmpi .ne v2870 c0_i32_2532
  let v2875 : BitVec 1 := Scalar.andi v2874 v2871
  let v2876 : BitVec 32 := Scalar.addi v2870 v2869
  let v2877 : BitVec 32 := Scalar.select v2875 v2876 v2870
  let c1_i32_2538 : BitVec 32 := 1#32
  let v2878 : BitVec 32 := Scalar.muli v2877 c1_i32_2538
  let v2879 : BitVec 32 := Scalar.addi c0_i32_2539 v2878
  v2879.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x256 : Shape := ⟨2, ![512, 256]⟩
abbrev S256x8192 : Shape := ⟨2, ![256, 8192]⟩
abbrev S8192x256 : Shape := ⟨2, ![8192, 256]⟩
abbrev S512x8192 : Shape := ⟨2, ![512, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x8192, .f32⟩
  | .hbm, ⟨2, _⟩ => ⟨S256x8192, .f32⟩
  | .hbm, ⟨3, _⟩ => ⟨S256x8192, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S512x8192, .f32⟩
  | .hbm, ⟨8, _⟩ => ⟨S_, .f32⟩
  | .hbm, ⟨9, _⟩ => ⟨S512x8192, .f32⟩
  | .hbm, ⟨10, _⟩ => ⟨S512x8192, .f32⟩
  | .hbm, ⟨11, _⟩ => ⟨S512x256, .f32⟩
  | .hbm, ⟨12, _⟩ => ⟨S512x8192, .f32⟩
  | .hbm, ⟨13, _⟩ => ⟨S_, .f32⟩
  | .hbm, ⟨14, _⟩ => ⟨S512x8192, .f32⟩
  | .hbm, ⟨15, _⟩ => ⟨S512x8192, .f32⟩
  | .hbm, ⟨16, _⟩ => ⟨S512x256, .f32⟩
  | .hbm, ⟨17, _⟩ => ⟨S512x8192, .f32⟩
  | .hbm, ⟨18, _⟩ => ⟨S_, .f32⟩
  | .hbm, ⟨19, _⟩ => ⟨S512x8192, .f32⟩
  | .hbm, ⟨20, _⟩ => ⟨S512x8192, .f32⟩
  | .hbm, ⟨21, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Geom.lean ====
/-
# Rows, slots and quarters

The kernel's `512 × 256` scratch buffers are cut in two ways: into sixteen slots of 32 rows, one per ring distance, and
into four quarters of 128 rows, one per matrix product. Slot `4 j + t` is part `t` of quarter `j`. The receive buffers are
`16 × 32 × 256`, slot `p` being plane `p`. This module states how reading and writing one cut relates to the other.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ShareLeaves
public import Idealize.ShloMosaic.Lib.Pointwise.Index

@[expose] public section

noncomputable section

namespace Cert.Mlp

open Cert.KernelIdeal Cert.KernelIdeal.Gen
open Idealize.ShloMosaic

/-- The 32 rows of slot `p`. -/
def rs (p : Fin 16) : Rect S512x256 :=
  Rect.unit (s := S512x256) ![32 * p.val, 0] S32x256.size (by
    intro a; fin_cases a
    · show 32 * p.val + 32 ≤ 512; omega
    · show 0 + 256 ≤ 256; omega)

/-- The 128 rows of quarter `j`. -/
def rq (j : Fin 4) : Rect S512x256 :=
  Rect.unit (s := S512x256) ![128 * j.val, 0] S128x256.size (by
    intro a; fin_cases a
    · show 128 * j.val + 128 ≤ 512; omega
    · show 0 + 256 ≤ 256; omega)

/-- Plane `p` of a receive buffer. -/
def r3 (p : Fin 16) : Rect S16x32x256 :=
  Rect.unit (s := S16x32x256) ![p.val, 0, 0] S1x32x256.size (by
    intro a; fin_cases a
    · show p.val + 1 ≤ 16; omega
    · show 0 + 32 ≤ 32; omega
    · show 0 + 256 ≤ 256; omega)

/-- Slot `4 j + t`: part `t` of quarter `j`. -/
def qs (j t : Fin 4) : Fin 16 := ⟨4 * j.val + t.val, by omega⟩

variable {α : Type*}

/-- Part `t` of a quarter's vector. -/
def sl (t : Fin 4) (w : S128x256.Idx → α) : S32x256.Idx → α :=
  fun i => w (ix2 (n0 := 128) (n1 := 256) ⟨32 * t.val + (i 0).val, by have : (i 0).val < 32 := (i 0).isLt; omega⟩ (i 1))

/-- Four slots' vectors, one above the other. -/
def cat4 (w : Fin 4 → S32x256.Idx → α) : S128x256.Idx → α :=
  fun i => w ⟨(i 0).val / 32, by have : (i 0).val < 128 := (i 0).isLt; omega⟩
    (ix2 (n0 := 32) (n1 := 256) ⟨(i 0).val % 32, Nat.mod_lt _ (by decide)⟩ (i 1))

theorem sl_cat4 (t : Fin 4) (w : Fin 4 → S32x256.Idx → α) : sl t (cat4 w) = w t := by
  funext i
  have h : (i 0).val < 32 := (i 0).isLt
  unfold sl cat4
  have e1 : (⟨(32 * t.val + (i 0).val) / 32, by omega⟩ : Fin 4) = t := Fin.ext (by show (32 * t.val + (i 0).val) / 32 = t.val; omega)
  have e2 : ix2 (n0 := 32) (n1 := 256) ⟨(32 * t.val + (i 0).val) % 32, Nat.mod_lt _ (by decide)⟩ (i 1) = i := by
    funext a; fin_cases a
    · exact Fin.ext (by show (32 * t.val + (i 0).val) % 32 = (i 0).val; omega)
    · rfl
  exact (congrFun (congrArg w e1) _).trans (congrArg (w t) e2)

theorem mem_rs (p : Fin 16) (i : S512x256.Idx) : i ∈ (rs p).set ↔ (i 0).val / 32 = p.val := by
  rw [LoadRect.mem_set]
  have h0 : (i 0).val < 512 := (i 0).isLt
  have h1 : (i 1).val < 256 := (i 1).isLt
  constructor
  · intro h
    obtain ⟨j, hj, e⟩ := h 0
    have hj' : j < 32 := hj
    have e' : (i 0).val = 32 * p.val + 1 * j := e
    omega
  · intro h a
    fin_cases a
    · exact ⟨(i 0).val % 32, Nat.mod_lt _ (by decide), by show (i 0).val = 32 * p.val + 1 * ((i 0).val % 32); omega⟩
    · exact ⟨(i 1).val, h1, by show (i 1).val = 0 + 1 * (i 1).val; omega⟩

theorem mem_rq (j : Fin 4) (i : S512x256.Idx) : i ∈ (rq j).set ↔ (i 0).val / 128 = j.val := by
  rw [LoadRect.mem_set]
  have h0 : (i 0).val < 512 := (i 0).isLt
  have h1 : (i 1).val < 256 := (i 1).isLt
  constructor
  · intro h
    obtain ⟨k, hk, e⟩ := h 0
    have hk' : k < 128 := hk
    have e' : (i 0).val = 128 * j.val + 1 * k := e
    omega
  · intro h a
    fin_cases a
    · exact ⟨(i 0).val % 128, Nat.mod_lt _ (by decide), by show (i 0).val = 128 * j.val + 1 * ((i 0).val % 128); omega⟩
    · exact ⟨(i 1).val, h1, by show (i 1).val = 0 + 1 * (i 1).val; omega⟩

theorem mem_r3 (p : Fin 16) (i : S16x32x256.Idx) : i ∈ (r3 p).set ↔ (i 0).val = p.val := by
  rw [LoadRect.mem_set]
  have h1 : (i 1).val < 32 := (i 1).isLt
  have h2 : (i 2).val < 256 := (i 2).isLt
  constructor
  · intro h
    obtain ⟨k, hk, e⟩ := h 0
    have hk' : k < 1 := hk
    have e' : (i 0).val = p.val + 1 * k := e
    omega
  · intro h a
    fin_cases a
    · exact ⟨0, Nat.one_pos, by show (i 0).val = p.val + 1 * 0; omega⟩
    · exact ⟨(i 1).val, h1, by show (i 1).val = 0 + 1 * (i 1).val; omega⟩
    · exact ⟨(i 2).val, h2, by show (i 2).val = 0 + 1 * (i 2).val; omega⟩

theorem rs_disj {p p' : Fin 16} (h : p ≠ p') : Disjoint (rs p).set (rs p').set := by
  rw [Finset.disjoint_left]; intro i h1 h2
  exact h (Fin.ext (((mem_rs p i).1 h1).symm.trans ((mem_rs p' i).1 h2)))

theorem r3_disj {p p' : Fin 16} (h : p ≠ p') : Disjoint (r3 p).set (r3 p').set := by
  rw [Finset.disjoint_left]; intro i h1 h2
  exact h (Fin.ext (((mem_r3 p i).1 h1).symm.trans ((mem_r3 p' i).1 h2)))

theorem qs_inj {j t t' : Fin 4} (h : qs j t = qs j t') : t = t' := by
  have := congrArg Fin.val h
  simp only [qs] at this
  exact Fin.ext (by omega)

theorem rq_set (j : Fin 4) : (rq j).set = Finset.univ.biUnion fun t : Fin 4 => (rs (qs j t)).set := by
  ext i
  have h0 : (i 0).val < 512 := (i 0).isLt
  rw [mem_rq, Finset.mem_biUnion]
  constructor
  · intro h
    refine ⟨⟨(i 0).val / 32 - 4 * j.val, by omega⟩, Finset.mem_univ _, (mem_rs _ _).2 ?_⟩
    show (i 0).val / 32 = 4 * j.val + ((i 0).val / 32 - 4 * j.val); omega
  · rintro ⟨t, -, h⟩
    have := (mem_rs _ _).1 h
    have h2 : (i 0).val / 32 = 4 * j.val + t.val := this
    omega

theorem rs_cover : (Finset.univ.biUnion fun p : Fin 16 => (rs p).set) = Finset.univ := by
  ext i
  have h0 : (i 0).val < 512 := (i 0).isLt
  simp only [Finset.mem_biUnion, Finset.mem_univ, true_and, iff_true]
  exact ⟨⟨(i 0).val / 32, by omega⟩, (mem_rs _ _).2 rfl⟩

theorem r3_cover : (Finset.univ.biUnion fun p : Fin 16 => (r3 p).set) = Finset.univ := by
  ext i
  simp only [Finset.mem_biUnion, Finset.mem_univ, true_and, iff_true]
  exact ⟨⟨(i 0).val, (i 0).isLt⟩, (mem_r3 _ _).2 rfl⟩

/-- Row `i` of part `t`, as an index of the whole buffer, by the slot and by the quarter. -/
theorem emb_sl (j t : Fin 4) (i : S32x256.Idx) :
    (rs (qs j t)).emb i = (rq j).emb (ix2 (n0 := 128) (n1 := 256) ⟨32 * t.val + (i 0).val, by have : (i 0).val < 32 := (i 0).isLt; omega⟩ (i 1)) := by
  funext a; fin_cases a
  · refine Fin.ext ?_
    show 32 * (4 * j.val + t.val) + 1 * (i 0).val = 128 * j.val + 1 * (32 * t.val + (i 0).val)
    omega
  · rfl

/-- Index `i` of quarter `j`, as an index of the whole buffer, lies in slot `4 j + i₀ / 32`. -/
theorem emb_cat4 (j : Fin 4) (i : S128x256.Idx) :
    (rq j).emb i = (rs (qs j ⟨(i 0).val / 32, by have : (i 0).val < 128 := (i 0).isLt; omega⟩)).emb
      (ix2 (n0 := 32) (n1 := 256) ⟨(i 0).val % 32, Nat.mod_lt _ (by decide)⟩ (i 1)) := by
  funext a; fin_cases a
  · refine Fin.ext ?_
    show 128 * j.val + 1 * (i 0).val = 32 * (4 * j.val + (i 0).val / 32) + 1 * ((i 0).val % 32)
    omega
  · rfl

section Views

variable {Val : EltTy → Type} {κ : Kind} {e : EltTy} (V : View sig κ .vmem S512x256 e)

/-- A quarter read is its four slots' reads. -/
theorem read_quarter (j : Fin 4) (f : V.ty.Contents Val) :
    (V.slice (rq j)).read Val f = cat4 fun t => (V.slice (rs (qs j t))).read Val f := by
  funext i
  show V.read Val f ((rq j).emb i) = V.read Val f _
  exact congrArg (V.read Val f) (emb_cat4 j i)

/-- A slot read after its quarter was written is that part of what was written. -/
theorem read_write_quarter (j t : Fin 4) (f : V.ty.Contents Val) (w : S128x256.Idx → Val e) :
    (V.slice (rs (qs j t))).read Val ((V.slice (rq j)).write Val f w Finset.univ) = sl t w := by
  have h := View.read_write_univ (v := V.slice (rq j)) (Val := Val) f w
  funext i
  have h2 := congrFun h (ix2 (n0 := 128) (n1 := 256) ⟨32 * t.val + (i 0).val, by have : (i 0).val < 32 := (i 0).isLt; omega⟩ (i 1))
  refine Eq.trans ?_ h2
  show V.read Val _ ((rs (qs j t)).emb i) = V.read Val _ ((rq j).emb _)
  exact congrArg _ (emb_sl j t i)

theorem setq_eq (j : Fin 4) : (V.slice (rq j)).set = Finset.univ.biUnion fun t : Fin 4 => (V.slice (rs (qs j t))).set := by
  rw [View.set_slice, rq_set, Finset.map_eq_image, Finset.biUnion_image]
  refine Finset.biUnion_congr rfl fun t _ => ?_
  rw [View.set_slice, Finset.map_eq_image]

theorem sets_disj {p p' : Fin 16} (h : p ≠ p') : Disjoint (V.slice (rs p)).set (V.slice (rs p')).set := by
  rw [View.set_slice, View.set_slice]; exact (Finset.disjoint_map _).2 (rs_disj h)

theorem sets_cover : (Finset.univ.biUnion fun p : Fin 16 => (V.slice (rs p)).set) = V.set := by
  show _ = Finset.univ.map V.emb
  rw [← rs_cover, Finset.map_eq_image, Finset.biUnion_image]
  refine Finset.biUnion_congr rfl fun t _ => ?_
  rw [View.set_slice, Finset.map_eq_image]

end Views

end Cert.Mlp
-- ==== Proof.Proto.lean ====
/-
# The ring protocol

Sixteen devices run a three-layer perceptron. Per layer every device multiplies all sixteen row chunks of its input by
its own weight blocks, sends slot `p` of the product (bf16) to the device `p` behind it (`c - p`), adds the fifteen
products it receives to its own, and — after the first two layers — sends the sum (bf16) to every other device.

The cells, in rounds, with what each payment hands over:
* the barrier cell, one round of fifteen units: unit `o` is paid by the device `o` behind and hands over slot `o` of that
  device's first receive buffer;
* `send_a`, `recv_a` (rounds 0, 1: layers 0, 1) and `send_c`, `recv_c` (round 0: layer 2), one per slot: the receive cell
  of slot `p` is paid by the device `p` ahead, and hands over the slot filled, with — after layers 0 and 1 — that
  device's permission to overwrite its gather slot `p`; the send cell hands the product's slot back;
* `send_b`, `recv_b` (rounds 0, 1: after layers 0, 1): the receive cell of slot `p` is paid by the device `p` behind and
  hands over the gather slot filled, with the permission to overwrite that device's receive slot `p` in the next layer;
  the send cell hands the share of the source rows back.
-/
module

public import proofs.«01_k».proof.Proof.Geom

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 16)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The ring of devices -/

/-- The device `p` ahead of `c`. -/
def dup (c : Dev nD) (p : Fin 16) : Dev nD := ⟨(c.val + p.val) % 16, Nat.mod_lt _ (by decide)⟩
/-- The device `p` behind `c`. -/
def ddn (c : Dev nD) (p : Fin 16) : Dev nD := ⟨(c.val + (16 - p.val)) % 16, Nat.mod_lt _ (by decide)⟩

theorem ddn_dup (c : Dev nD) (p : Fin 16) : ddn (dup c p) p = c := by revert c p; decide
theorem dup_ddn (c : Dev nD) (p : Fin 16) : dup (ddn c p) p = c := by revert c p; decide
theorem ddn_zero (c : Dev nD) : ddn c 0 = c := by revert c; decide

/-! ## The buffers and cells -/

abbrev xM : Memref sig .tc .vmem S512x256 .f32 := Memref.whole cc0_stg0_0
abbrev wiM : Fin 3 → Memref sig .tc .vmem S256x512 .f32
  | 0 => Memref.whole cc0_stg1_0 | 1 => Memref.whole cc0_stg3_0 | 2 => Memref.whole cc0_stg5_0
abbrev woM : Fin 3 → Memref sig .tc .vmem S512x256 .f32
  | 0 => Memref.whole cc0_stg2_0 | 1 => Memref.whole cc0_stg4_0 | 2 => Memref.whole cc0_stg6_0
abbrev oM : Memref sig .tc .vmem S32x256 .f32 := Memref.whole cc0_stg7_0
abbrev xbM : Memref sig .tc .vmem S512x256 .f32 := Memref.whole cc0_scratch0
abbrev xgM : Memref sig .tc .vmem S512x256 .bf16 := Memref.whole cc0_scratch1
abbrev pbM : Memref sig .tc .vmem S512x256 .f32 := Memref.whole cc0_scratch2
abbrev pfM : Memref sig .tc .vmem S512x256 .bf16 := Memref.whole cc0_scratch3

/-- Slot `p` of the gather buffer. -/
abbrev xgS (p : Fin 16) : Memref sig .tc .vmem S32x256 .bf16 := xgM.slice (rs p) (fun _ => rfl)
/-- Slot `p` of the rounded product. -/
abbrev pfS (p : Fin 16) : Memref sig .tc .vmem S32x256 .bf16 := pfM.slice (rs p) (fun _ => rfl)
/-- Slot `p` of the receive buffer of layer `l`. -/
abbrev crA (p : Fin 16) : Memref sig .tc .vmem S32x256 .bf16 :=
  ((Memref.whole cc0_scratch4).slice (r3 p) (fun _ => rfl)).squeeze S32x256 squeezes_S1x32x256_S32x256
abbrev crC (p : Fin 16) : Memref sig .tc .vmem S32x256 .bf16 :=
  ((Memref.whole cc0_scratch5).slice (r3 p) (fun _ => rfl)).squeeze S32x256 squeezes_S1x32x256_S32x256
def crS (l : Fin 3) (p : Fin 16) : Memref sig .tc .vmem S32x256 .bf16 :=
  match l with | 0 => crA p | 1 => crA p | 2 => crC p

/-- The runtime's barrier semaphore. -/
abbrev barS : Sem sig := (SemArray.scalar (sig.barrier 0 rfl) : Sems sig S_).sem
/-- Slot `p` of DMA semaphore array `a`: `send_a`, `recv_a`, `send_b`, `recv_b`, `send_c`, `recv_c`. -/
def dsem (a : Fin 6) (p : Fin 16) : DmaSem sig := ⟨8 + 16 * a.val + p.val, by show _ < 104; omega⟩

abbrev barCell (c : Dev nD) : GSem nD τ sig := ((c : Thread nD τ), .reg barS)
abbrev cell (c : Dev nD) (a : Fin 6) (p : Fin 16) : GSem nD τ sig := ((c : Thread nD τ), .dma (dsem a p))

/-- Which cell a semaphore is: none of ours, the barrier, or slot `p` of array `a`. -/
def dec : SemLoc sig → Option (Option (Fin 6 × Fin 16))
  | .reg s => if s = barS then some none else none
  | .dma k => if h : 8 ≤ k.val then some (some (⟨(k.val - 8) / 16, by have : k.val < 104 := k.isLt; omega⟩, ⟨(k.val - 8) % 16, Nat.mod_lt _ (by decide)⟩)) else none

theorem dec_bar : dec (.reg barS) = some none := by unfold dec; exact if_pos rfl
theorem dec_dma (a : Fin 6) (p : Fin 16) : dec (.dma (dsem a p)) = some (some (a, p)) := by revert a p; decide

/-- The array of layer `l`'s send cells, its receive cells, and their round. -/
abbrev sK (l : Fin 3) : Fin 6 := match l with | 0 => 0 | 1 => 0 | 2 => 4
abbrev rK (l : Fin 3) : Fin 6 := match l with | 0 => 1 | 1 => 1 | 2 => 5
abbrev rd (l : Fin 3) : ℕ := match l with | 0 => 0 | 1 => 1 | 2 => 0

/-- The credit of one slot's transfer. -/
abbrev N : ℕ := 512

theorem credit_cr (l : Fin 3) (p : Fin 16) : (crS l p).view.dmaCredit = N := by fin_cases l <;> rfl
theorem credit_pf (p : Fin 16) : (pfS p).view.dmaCredit = N := rfl
theorem credit_xg (p : Fin 16) : (xgS p).view.dmaCredit = N := rfl

/-! ## The values -/

variable (F) in
/-- What the devices are launched with: each one's `x` and weight blocks. -/
structure In where
  X : Dev nD → Vec F S512x256 .f32
  WI : Fin 3 → Dev nD → Vec F S256x512 .f32
  WO : Fin 3 → Dev nD → Vec F S512x256 .f32

/-- One quarter's product `max (x · win) 0 · wout`. -/
abbrev mm (x : Vec F S128x256 .f32) (wi : Vec F S256x512 .f32) (wo : Vec F S512x256 .f32) : Vec F S128x256 .f32 := k0_pay17 x wi wo
/-- Rounding to bf16 and back, on a slot. -/
abbrev tr {s : Shape} (v : FVec F s .f32) : FVec F s .bf16 := truncf .bf16 v bitsLt_bf16_f32
abbrev ex {s : Shape} (v : FVec F s .bf16) : FVec F s .f32 := extf .f32 v bitsLt_bf16_f32

/-- Quarter `j` of the product, from the input's slots. -/
def Pof (xi : Fin 16 → Vec F S32x256 .f32) (wi : Vec F S256x512 .f32) (wo : Vec F S512x256 .f32) (j : Fin 4) : Vec F S128x256 .f32 :=
  mm (cat4 fun t => xi (qs j t)) wi wo
/-- The quarter a slot is in, and its part there. -/
abbrev jq (p : Fin 16) : Fin 4 := ⟨p.val / 4, by omega⟩
abbrev jt (p : Fin 16) : Fin 4 := ⟨p.val % 4, by omega⟩
/-- What is sent of slot `p`. -/
def Sof (xi : Fin 16 → Vec F S32x256 .f32) (wi : Vec F S256x512 .f32) (wo : Vec F S512x256 .f32) (p : Fin 16) : FVec F S32x256 .bf16 :=
  sl (jt p) (tr (Pof xi wi wo (jq p)))
/-- The order in which the received slots are added. -/
def down : List (Fin 16) := [15, 14, 13, 12, 11, 10, 9, 8, 7, 6, 5, 4, 3, 2, 1]
/-- The sum a device forms: its own slot 0, then what it received of slots 15 down to 1. -/
def Aof (own : FVec F S32x256 .f32) (recv : Fin 16 → FVec F S32x256 .bf16) : FVec F S32x256 .f32 :=
  down.foldl (fun a p => addf a (ex (recv p))) own

variable (D : In F)

/-- Slot `p` of device `c`'s input at layer `l`. -/
def xin : ℕ → Dev nD → Fin 16 → Vec F S32x256 .f32
  | 0 => fun c p i => D.X c ((rs (ddn c p)).emb i)
  | l + 1 => fun c p =>
      let wi : Dev nD → Vec F S256x512 .f32 := D.WI ⟨l % 3, Nat.mod_lt _ (by decide)⟩
      let wo : Dev nD → Vec F S512x256 .f32 := D.WO ⟨l % 3, Nat.mod_lt _ (by decide)⟩
      let d := ddn c p
      ex (tr (Aof (sl 0 (Pof (xin l d) (wi d) (wo d) 0)) fun q => Sof (xin l (dup d q)) (wi (dup d q)) (wo (dup d q)) q))

def pV (l : Fin 3) (c : Dev nD) (j : Fin 4) : Vec F S128x256 .f32 := Pof (xin D l.val c) (D.WI l c) (D.WO l c) j
def rsV (l : Fin 3) (c : Dev nD) (p : Fin 16) : FVec F S32x256 .bf16 := sl (jt p) (tr (pV D l c (jq p)))
def accV (l : Fin 3) (c : Dev nD) : FVec F S32x256 .f32 := Aof (sl 0 (pV D l c 0)) fun p => rsV D l (dup c p) p
def agV (l : Fin 3) (c : Dev nD) : FVec F S32x256 .bf16 := tr (accV D l c)

theorem xin_one (c : Dev nD) (p : Fin 16) : xin D 1 c p = ex (agV D 0 (ddn c p)) := rfl
theorem xin_two (c : Dev nD) (p : Fin 16) : xin D 2 c p = ex (agV D 1 (ddn c p)) := rfl

/-! ## The payloads -/

/-- A memref owned whole, its contents unknown. -/
def gar (c : Dev nD) {s : Shape} {e : EltTy} (M : Memref sig .tc .vmem s e) : sProp 𝕄 :=
  iprop(∃ f : Buf (Elt F) (M.view.loc (c : Thread nD τ)), M.view.loc (c : Thread nD τ) ↦[M.view.set]{fullShare} f)
instance gar_storable (c : Dev nD) {s : Shape} {e : EltTy} (M : Memref sig .tc .vmem s e) :
    BI.Storable (upEmb : UEmb _ 𝕄) (gar (F := F) c M) := by unfold gar; infer_instance

/-- A memref owned at a share, reading `v`. -/
abbrev hol (c : Dev nD) {s : Shape} {e : EltTy} (M : Memref sig .tc .vmem s e) (q : PosShare TreeShare) (v : s.Idx → Elt F e) : sProp 𝕄 :=
  owns (Ix := ℕ) (Name := ℕ) (U := UU) (Lvl := ℕ) (c : Thread nD τ) M q v

omit [FloatOps F] in
theorem hol_gar (c : Dev nD) {s : Shape} {e : EltTy} (M : Memref sig .tc .vmem s e) (v : s.Idx → Elt F e) :
    hol c M fullShare v ⊢ gar c M := by
  unfold hol owns gar
  iintro ⟨%f, -, H⟩
  iexists f
  iexact H

/-- Permission to fill slot `p` of `d`'s receive buffer in layer `l`. -/
def rbP (l : Fin 3) (d : Dev nD) (p : Fin 16) : sProp 𝕄 :=
  iprop(gar (F := F) d (crS l p) ∗ reached ER (cell d (rK l) p) (rd l))
/-- Permission to fill slot `p` of `d`'s gather buffer after layer `r`. -/
def xtP (r : Fin 3) (d : Dev nD) (p : Fin 16) : sProp 𝕄 :=
  iprop(gar (F := F) d (xgS p) ∗ reached ER (cell d 3 p) r.val)
/-- The share of the source rows the transfer at distance `p` takes. -/
abbrev lf (p : Fin 16) : PosShare TreeShare := ShareLeaves.leaf 4 fullShare p

def payRS (l : Fin 3) (c : Dev nD) (p : Fin 16) : sProp 𝕄 :=
  iprop(hol c (crS l p) fullShare (rsV D l (dup c p) p) ∗ (if l.val < 2 then xtP (F := F) l (dup c p) p else iprop(emp)))
def payAG (r : Fin 3) (c : Dev nD) (p : Fin 16) : sProp 𝕄 :=
  iprop(hol c (xgS p) fullShare (agV D r (ddn c p)) ∗ rbP (F := F) ⟨(r.val + 1) % 3, Nat.mod_lt _ (by decide)⟩ (ddn c p) p)
def payLf (r : Fin 3) (c : Dev nD) (p : Fin 16) : sProp 𝕄 := hol c (xgS 0) (lf p) (agV D r c)

omit [FloatOps F] in
instance rbP_storable (l : Fin 3) (d : Dev nD) (p : Fin 16) : BI.Storable (upEmb : UEmb _ 𝕄) (rbP (F := F) l d p) := by unfold rbP; infer_instance
omit [FloatOps F] in
instance xtP_storable (l : Fin 3) (d : Dev nD) (p : Fin 16) : BI.Storable (upEmb : UEmb _ 𝕄) (xtP (F := F) l d p) := by unfold xtP; infer_instance
instance payRS_storable (l : Fin 3) (d : Dev nD) (p : Fin 16) : BI.Storable (upEmb : UEmb _ 𝕄) (payRS D l d p) := by
  unfold payRS; split <;> infer_instance
instance payAG_storable (l : Fin 3) (d : Dev nD) (p : Fin 16) : BI.Storable (upEmb : UEmb _ 𝕄) (payAG D l d p) := by unfold payAG; infer_instance
instance payLf_storable (l : Fin 3) (d : Dev nD) (p : Fin 16) : BI.Storable (upEmb : UEmb _ 𝕄) (payLf D l d p) := by unfold payLf; infer_instance

/-- The payload of a cell's round. -/
def payOf (c : Dev nD) (k : Option (Option (Fin 6 × Fin 16))) (r : ℕ) (d : Fin 16) : sProp 𝕄 :=
  match k with
  | none => iprop(emp)
  | some none => rbP 0 (ddn c d) d
  | some (some (a, p)) =>
    match a with
    | 0 => gar c (pfS p)
    | 1 => payRS D ⟨r % 2, by omega⟩ c p
    | 2 => payLf D ⟨r % 2, by omega⟩ c p
    | 3 => payAG D ⟨r % 2, by omega⟩ c p
    | 4 => gar c (pfS p)
    | 5 => payRS D 2 c p

/-- The duties of a cell's round. -/
def dutOf (k : Option (Option (Fin 6 × Fin 16))) (r : ℕ) : Finset (Fin 16) :=
  match k with
  | none => ∅
  | some none => if r = 0 then Finset.univ.erase 0 else ∅
  | some (some (a, p)) => if p = 0 then ∅ else if r < (if a.val < 4 then 2 else 1) then {0} else ∅

/-- The amount of a payment. -/
def amtOf (k : Option (Option (Fin 6 × Fin 16))) : ℕ :=
  match k with
  | some none => 1
  | _ => N

def sched : Rounds.Schedule (GSem nD τ sig) (Fin 16) 𝕄 where
  duties g r := if g.1.2 = .tc then dutOf (dec g.2) r else ∅
  unitless _ := False
  amount g _ _ := amtOf (dec g.2)
  payload g r d := payOf D g.1.1 (dec g.2) r d
  amount_pos g _ _ _ := by
    unfold amtOf; split <;> decide

instance payOf_storable (c : Dev nD) (k : Option (Option (Fin 6 × Fin 16))) (r : ℕ) (d : Fin 16) :
    BI.Storable (upEmb : UEmb _ 𝕄) (payOf D c k r d) := by
  unfold payOf
  (repeat' split) <;> infer_instance

instance sched_payload_storable (g : GSem nD τ sig) (r : ℕ) (d : Fin 16) :
    BI.Storable (upEmb : UEmb _ 𝕄) ((sched D).payload g r d) := payOf_storable D g.1.1 (dec g.2) r d

section Sched
variable (c : Dev nD)

theorem duties_cell (a : Fin 6) (p : Fin 16) (r : ℕ) (hp : p ≠ 0) (hr : r < (if a.val < 4 then 2 else 1)) : (sched D).duties (cell c a p) r = {0} := by
  show (if (Proc.tc : Proc τ) = .tc then dutOf (dec (.dma (dsem a p))) r else ∅) = {0}
  rw [if_pos rfl, dec_dma]
  show (if p = 0 then ∅ else if r < (if a.val < 4 then 2 else 1) then ({0} : Finset (Fin 16)) else ∅) = _
  rw [if_neg hp, if_pos hr]
theorem duties_late (a : Fin 6) (p : Fin 16) (R : ℕ) (h : p = 0 ∨ (if a.val < 4 then 2 else 1) ≤ R) : ∀ r, R ≤ r → (sched D).duties (cell c a p) r = ∅ := by
  intro r hr
  show (if (Proc.tc : Proc τ) = .tc then dutOf (dec (.dma (dsem a p))) r else ∅) = ∅
  rw [if_pos rfl, dec_dma]
  show (if p = 0 then ∅ else if r < (if a.val < 4 then 2 else 1) then ({0} : Finset (Fin 16)) else ∅) = _
  rcases h with h | h
  · rw [if_pos h]
  · rw [if_neg (show ¬ r < _ by omega)]; exact ite_self _
theorem duties_bar : (sched D).duties (barCell c) 0 = Finset.univ.erase 0 := by
  show (if (Proc.tc : Proc τ) = .tc then dutOf (dec (.reg barS)) 0 else ∅) = _
  rw [if_pos rfl, dec_bar]; rfl
theorem duties_bar_late : ∀ r, 1 ≤ r → (sched D).duties (barCell c) r = ∅ := by
  intro r hr
  show (if (Proc.tc : Proc τ) = .tc then dutOf (dec (.reg barS)) r else ∅) = _
  rw [if_pos rfl, dec_bar]
  exact if_neg (by omega)

theorem amount_cell (a : Fin 6) (p : Fin 16) (r : ℕ) (d : Fin 16) : (sched D).amount (cell c a p) r d = N := by
  show amtOf (dec (.dma (dsem a p))) = N
  rw [dec_dma]; rfl
theorem amount_bar (d : Fin 16) (r : ℕ) : (sched D).amount (barCell c) r d = 1 := by
  show amtOf (dec (.reg barS)) = 1
  rw [dec_bar]; rfl

theorem expect_cell (a : Fin 6) (p : Fin 16) (r : ℕ) (hp : p ≠ 0) (hr : r < (if a.val < 4 then 2 else 1)) : (sched D).expect (cell c a p) r = N := by
  unfold Schedule.expect Schedule.amountOf; rw [duties_cell D c a p r hp hr, Finset.sum_singleton, amount_cell]
theorem expect_bar : (sched D).expect (barCell c) 0 = 15 := by
  unfold Schedule.expect Schedule.amountOf
  rw [duties_bar, Finset.sum_congr rfl fun d _ => amount_bar D c d 0]; rfl

theorem payload_cell (a : Fin 6) (p : Fin 16) (r : ℕ) (d : Fin 16) : (sched D).payload (cell c a p) r d = payOf D c (some (some (a, p))) r d := by
  show payOf D c (dec (.dma (dsem a p))) r d = _
  rw [dec_dma]
theorem payload_bar (r : ℕ) (d : Fin 16) : (sched D).payload (barCell c) r d = rbP 0 (ddn c d) d := by
  show payOf D c (dec (.reg barS)) r d = _
  rw [dec_bar]; rfl

theorem rest_cell (a : Fin 6) (p : Fin 16) (r : ℕ) (hp : p ≠ 0) (hr : r < (if a.val < 4 then 2 else 1)) :
    bigSep ((sched D).duties (cell c a p) r \ ∅) (fun d => (sched D).payload (cell c a p) r d) = payOf D c (some (some (a, p))) r 0 := by
  rw [Finset.sdiff_empty, duties_cell D c a p r hp hr, bigSep_singleton, payload_cell]
theorem rest_bar : bigSep ((sched D).duties (barCell c) 0 \ ∅) (fun d => (sched D).payload (barCell c) 0 d)
    = bigSep (Finset.univ.erase (0 : Fin 16)) fun d => rbP 0 (ddn c d) d := by
  rw [Finset.sdiff_empty, duties_bar]
  exact bigSep_congr fun d _ => payload_bar D c 0 d

end Sched

/-! ## What a device owes, and the levels -/

/-- A payment a device makes to another: a barrier unit, a product slot, a gather slot. -/
inductive Pay | bar (o : Fin 16) | rs (l : Fin 3) (p : Fin 16) | ag (r : Fin 3) (p : Fin 16)
deriving DecidableEq

/-- The cell it goes to, -/
def Pay.cell (c : Dev nD) : Pay → GSem nD τ sig
  | .bar o => barCell (dup c o)
  | .rs l p => Mlp.cell (ddn c p) (rK l) p
  | .ag r p => Mlp.cell (dup c p) 3 p
/-- the level it is at (the index its credit is filed under), -/
def Pay.ix : Pay → ℕ | .bar _ => 1 | .rs l _ => 2 + 2 * l.val | .ag r _ => 3 + 2 * r.val
/-- its amount. -/
def Pay.amt : Pay → ℕ | .bar _ => 1 | _ => N

/-- All payments of a device, in program order. -/
def pays : List Pay :=
  (down.reverse.map .bar) ++ (down.map (.rs 0)) ++ (down.map (.ag 0)) ++ (down.map (.rs 1)) ++ (down.map (.ag 1)) ++ (down.map (.rs 2))

/-- What a device still owes, the payments `l` remaining. -/
def owL (c : Dev nD) : List Pay → CellTallies nD τ sig ℕ
  | [] => 0
  | a :: l => owL c l + tallyAt (a.cell c) a.ix a.amt

def L (g : GSem nD τ sig) : Finset ℕ := if g.1.2 = .tc then Finset.range 7 else ∅
def lv (_ : GSem nD τ sig) (u : ℕ) : ℕ := u

theorem L_of_ne (g : GSem nD τ sig) (h : g.1.2 ≠ .tc) : L g = ∅ := if_neg h
theorem L_tc (c : Dev nD) (sm : SemLoc sig) : L ((c : Thread nD τ), sm) = Finset.range 7 := if_pos rfl

theorem owL_pos {c : Dev nD} {l : List Pay} {g : GSem nD τ sig} {u : ℕ} (h : 0 < owL c l g u) : ∃ a ∈ l, g = a.cell c ∧ u = a.ix := by
  induction l with
  | nil => exact absurd h (Nat.lt_irrefl 0)
  | cons a l ih =>
    by_cases hg : g = a.cell c ∧ u = a.ix
    · exact ⟨a, List.mem_cons_self, hg⟩
    · unfold owL at h
      rw [Pi.add_apply, Finsupp.add_apply, tallyAt_apply, if_neg hg, Nat.add_zero] at h
      obtain ⟨b, hb, e⟩ := ih h
      exact ⟨b, List.mem_cons_of_mem _ hb, e⟩

theorem cell_tc (a : Pay) (c : Dev nD) : (a.cell c).1.2 = .tc := by cases a <;> rfl
theorem ix_lt (a : Pay) (h : ∀ r p, a = .ag r p → r.val < 2) : a.ix < 7 := by
  cases a with
  | bar _ => show 1 < 7; decide
  | rs l _ => show 2 + 2 * l.val < 7; omega
  | ag r p => show 3 + 2 * r.val < 7; have := h r p rfl; omega

omit [FloatOps F] in
/-- A device may wait at level `i` while everything it owes is above. -/
theorem mayWait (c : Dev nD) (sm : SemLoc sig) (i : ℕ) (l : List Pay) (hi : i < 7) (hl : ∀ a ∈ l, i < a.ix ∧ a.ix < 7) :
    (levAts L lv : sProp 𝕄) ⊢ MayWait (c : Thread nD τ) sm i (owL c l) :=
  MayOwe.of_cut (L := L) (lev := lv) i (fun p hp => by rw [Finset.mem_singleton.mp hp, L_tc]; exact Finset.mem_range.mpr hi)
    (fun g u hg => by
      obtain ⟨a, ha, rfl, rfl⟩ := owL_pos hg
      unfold L; rw [if_pos (cell_tc a c)]; exact Finset.mem_range.mpr (hl a ha).2)
    (fun p hp => by rw [Finset.mem_singleton.mp hp]; exact le_refl _)
    (fun g u hg => by
      obtain ⟨a, ha, rfl, rfl⟩ := owL_pos hg
      exact (hl a ha).1)

end Cert.Mlp
-- ==== Proof.State.lean ====
/-
# The state of a device, slot by slot

Between two steps of the kernel a device holds, for every slot, a short list of resources (`Atom`): tokens to pay with,
credits to wait with, its own positions, permissions, the slot's buffers. Which ones depends only on the slot's STAGE, a
number; a step moves one slot from a stage to another, giving up some atoms and gaining others. The whole state is the
sixteen slots, what is still owed, and a few buffers that are not cut.

Stages of a slot `p ≠ 0`: 0 at launch, 1 signalled, 2 barrier passed, 3 multiplied before the barrier; then for layer `l`, with
`B = 10 + 10 l`: `B` ready to multiply, `B+1` multiplied, `B+2` sent, `B+3` the gather's send waited for, `B+4` its source
share collected, `B+5` the received slot taken, `B+6` the product's send waited for, `B+7` the new source shared out, `B+8`
gather slot sent. Slot 0 is 100, or 101, 102 while it keeps its own source share of gather 0, 1.
-/
module

public import proofs.«01_k».proof.Proof.Proto

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (D : In F)

/-! ## Atoms -/

inductive Atom
  | tB | tS (l : Fin 3) | tR (l : Fin 3) | tG (r : Fin 3) | tH (r : Fin 3)
  | cR (l : Fin 3) | cH (r : Fin 3) | cS (l : Fin 3) | cG (r : Fin 3)
  | at (a : Fin 6) (k : ℕ)
  | cr0 | cr2 | rb (l : Fin 3) | xgo | xgv (r : Fin 3) | xt (r : Fin 3) | pbo | pbv (l : Fin 3) | crv (l : Fin 3) | lfa (r : Fin 3)
deriving DecidableEq

/-- What an atom of slot `p` stands for on device `c`. -/
def atom (c : Dev nD) (p : Fin 16) : Atom → sProp 𝕄
  | .tB => dutyTok ER (barCell (dup c p)) 0 p
  | .tS l => dutyTok ER (cell c (sK l) p) (rd l) 0
  | .tR l => dutyTok ER (cell (ddn c p) (rK l) p) (rd l) 0
  | .tG r => dutyTok ER (cell c 2 p) r.val 0
  | .tH r => dutyTok ER (cell (dup c p) 3 p) r.val 0
  | .cR l => cred (tallyAt (cell c (rK l) p) (2 + 2 * l.val) N)
  | .cH r => cred (tallyAt (cell c 3 p) (3 + 2 * r.val) N)
  | .cS l => cred (tallyAt (cell c (sK l) p) 0 N)
  | .cG r => cred (tallyAt (cell c 2 p) 0 N)
  | .at a k => iprop(atPos ER (cell c a p) k ∅ 0 ∗ reached ER (cell c a p) k)
  | .cr0 => gar c (crS 0 p)
  | .cr2 => gar c (crS 2 p)
  | .rb l => rbP l (ddn c p) p
  | .xgo => gar c (xgS p)
  | .xgv r => hol c (xgS p) fullShare (agV D r (ddn c p))
  | .xt r => xtP r (dup c p) p
  | .pbo => gar c (pfS p)
  | .pbv l => hol c (pfS p) fullShare (rsV D l c p)
  | .crv l => hol c (crS l p) fullShare (rsV D l (dup c p) p)
  | .lfa r => hol c (xgS 0) (lf p) (agV D r c)

/-- When each atom is held: from stage `b` until stage `d`. -/
def table : List (Atom × ℕ × ℕ) :=
  [(.tB, 0, 1), (.cr0, 0, 1), (.rb 0, 2, 12), (.rb 1, 20, 22), (.rb 2, 30, 32),
   (.tS 0, 0, 12), (.tR 0, 0, 12), (.tS 1, 0, 22), (.tR 1, 0, 22), (.tS 2, 0, 32), (.tR 2, 0, 32),
   (.pbo, 0, 3), (.pbv 0, 3, 12), (.pbo, 16, 21), (.pbv 1, 21, 22), (.pbo, 26, 31), (.pbv 2, 31, 32), (.pbo, 36, 99),
   (.cS 0, 12, 16), (.cS 1, 22, 26), (.cS 2, 32, 36), (.cR 0, 0, 15), (.cR 1, 0, 25), (.cR 2, 0, 35),
   (.xgo, 0, 12), (.xgv 0, 20, 22), (.xgv 1, 30, 99), (.xt 0, 15, 18), (.xt 1, 25, 28),
   (.crv 0, 15, 18), (.crv 1, 25, 99), (.crv 2, 35, 99), (.cr2, 0, 28),
   (.tG 0, 0, 18), (.tH 0, 0, 18), (.tG 1, 0, 28), (.tH 1, 0, 28), (.cG 0, 18, 23), (.cG 1, 28, 33),
   (.lfa 0, 17, 18), (.lfa 0, 23, 24), (.lfa 1, 27, 28), (.lfa 1, 33, 34), (.cH 0, 0, 20), (.cH 1, 0, 30),
   (.at 0 0, 0, 16), (.at 0 1, 16, 26), (.at 0 2, 26, 99), (.at 1 0, 0, 15), (.at 1 1, 15, 25), (.at 1 2, 25, 99),
   (.at 2 0, 0, 23), (.at 2 1, 23, 33), (.at 2 2, 33, 99), (.at 3 0, 0, 20), (.at 3 1, 20, 30), (.at 3 2, 30, 99),
   (.at 4 0, 0, 36), (.at 4 1, 36, 99), (.at 5 0, 0, 35), (.at 5 1, 35, 99)]

/-- The atoms held at a stage. -/
def al (n : ℕ) : List Atom :=
  if n = 3 then ((table.filter fun x => x.2.1 ≤ 3 ∧ 3 < x.2.2).map Prod.fst).erase (.rb 0)
  else if n < 99 then (table.filter fun x => x.2.1 ≤ n ∧ n < x.2.2).map Prod.fst
  else [.pbo, .at 0 0, .at 1 0, .at 2 0, .at 3 0, .at 4 0, .at 5 0] ++ (if n = 101 then [.lfa 0] else if n = 102 then [.lfa 1] else [])

/-- A list of atoms, held together. -/
def atoms (c : Dev nD) (p : Fin 16) (l : List Atom) : sProp 𝕄 := bigSepM (l : Multiset Atom) (atom D c p)

theorem atoms_nil (c : Dev nD) (p : Fin 16) : atoms D c p [] = iprop(emp) := bigSepM_zero
theorem atoms_cons (c : Dev nD) (p : Fin 16) (a : Atom) (l : List Atom) : atoms D c p (a :: l) = iprop(atom D c p a ∗ atoms D c p l) := by
  unfold atoms; rw [← Multiset.cons_coe]; exact bigSepM_cons _ _ _
theorem atoms_append (c : Dev nD) (p : Fin 16) (l l' : List Atom) : atoms D c p (l ++ l') = iprop(atoms D c p l ∗ atoms D c p l') := by
  unfold atoms; rw [← Multiset.coe_add]; exact bigSepM_add _ _ _
theorem atoms_two (c : Dev nD) (p : Fin 16) (a b : Atom) : atoms D c p [a, b] ⊢ iprop(atom D c p a ∗ atom D c p b) := by
  rw [atoms_cons, atoms_cons, atoms_nil]
  iintro ⟨H1, H2, -⟩
  isplitl [H1]; · iexact H1
  iexact H2
theorem atoms_perm (c : Dev nD) (p : Fin 16) {l l' : List Atom} (h : l.Perm l') : atoms D c p l = atoms D c p l' := by
  unfold atoms; rw [Multiset.coe_eq_coe.mpr h]

/-- Going from stage `s` to `s'` gives up `C` and gains `P`. -/
def Tr (s s' : ℕ) (C P : List Atom) : Prop := (al s).Perm (C ++ (al s).diff C) ∧ (al s').Perm (P ++ (al s).diff C)
instance (s s' : ℕ) (C P : List Atom) : Decidable (Tr s s' C P) := inferInstanceAs (Decidable (_ ∧ _))

/-- Slot `p` at stage `s`. -/
def slot (c : Dev nD) (p : Fin 16) (s : ℕ) : sProp 𝕄 := atoms D c p (al s)

theorem slot_step (c : Dev nD) (p : Fin 16) {s s' : ℕ} {C P : List Atom} (h : Tr s s' C P) :
    slot D c p s ⊢ iprop(atoms D c p C ∗ (atoms D c p P -∗ slot D c p s')) := by
  unfold slot
  rw [atoms_perm D c p h.1, atoms_perm D c p h.2, atoms_append, atoms_append]
  iintro ⟨H1, H2⟩
  isplitl [H1]; · iexact H1
  iintro H3
  isplitl [H3]; · iexact H3
  iexact H2

/-- All slots, at the stages `v`. -/
def slots (c : Dev nD) (v : Fin 16 → ℕ) : sProp 𝕄 := bigSep Finset.univ fun p => slot D c p (v p)

theorem slots_split (c : Dev nD) (v : Fin 16 → ℕ) (p : Fin 16) : slots D c v = iprop(slot D c p (v p) ∗ bigSep (Finset.univ.erase p) fun q => slot D c q (v q)) := by
  unfold slots; exact bigSep_erase (Finset.mem_univ p)

theorem slots_step (c : Dev nD) {v : Fin 16 → ℕ} {p : Fin 16} {s s' : ℕ} {C P : List Atom} (hv : v p = s) (h : Tr s s' C P) :
    slots D c v ⊢ iprop(atoms D c p C ∗ (atoms D c p P -∗ slots D c (Function.update v p s'))) := by
  rw [slots_split D c v p, slots_split D c (Function.update v p s') p, Function.update_self, hv]
  rw [bigSep_congr (s := Finset.univ.erase p) (Φ := fun q => slot D c q (Function.update v p s' q)) (Ψ := fun q => slot D c q (v q))
    (fun q hq => by rw [Function.update_of_ne (Finset.ne_of_mem_erase hq)])]
  iintro ⟨H1, H2⟩
  ihave H := (slot_step D c p h) $$ H1
  icases H with ⟨HC, HP⟩
  isplitl [HC]; · iexact HC
  iintro H3
  isplitl [HP H3]
  · iapply HP; iexact H3
  iexact H2

/-! ## The cells' records -/

/-- The cells of a device: the barrier, and slot `p` of array `a`. -/
abbrev CI : Type := Option (Fin 6 × Fin 16)
def csem : CI → SemLoc sig
  | none => .reg barS
  | some (a, p) => .dma (dsem a p)
abbrev kcell (x : Dev nD × CI) : GSem nD τ sig := ((x.1 : Thread nD τ), csem x.2)

variable (K : Dev nD × CI → ℕ)

/-- Every cell's invariant, and that its round 0 is open. -/
def recs : sProp 𝕄 := bigSep Finset.univ fun x => iprop(cellInv ER (sched D) (K x) (kcell x) ∗ reached ER (kcell x) 0)
instance recs_persistent : BI.Persistent (recs D K) := by unfold recs; infer_instance

theorem recs_bar (c : Dev nD) : recs D K ⊢ iprop(cellInv ER (sched D) (K (c, none)) (barCell c) ∗ reached ER (barCell c) 0) := by
  unfold recs; exact bigSep_elim (i := (c, none)) (Finset.mem_univ _)
theorem recs_cell (c : Dev nD) (a : Fin 6) (p : Fin 16) : recs D K ⊢ iprop(cellInv ER (sched D) (K (c, some (a, p))) (cell c a p) ∗ reached ER (cell c a p) 0) := by
  unfold recs; exact bigSep_elim (i := (c, some (a, p))) (Finset.mem_univ _)

/-! ## The parts of the state -/

/-- The records, the slots, and what is owed after the first `n` payments. -/
def core (c : Dev nD) (v : Fin 16 → ℕ) (n : ℕ) : sProp 𝕄 :=
  iprop(recs D K ∗ levAts L lv ∗ slots D c v ∗ ∃ W : Waits sig ℕ, owes (c : Thread nD τ) (owL c (pays.drop n)) W)

abbrev 𝒱₀ : Variants := Variants.none

/-- The weakest precondition of the rest of device `c`'s program. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Whole buffers, their contents known to some extent. -/
def buf (c : Dev nD) (b : Ref sig .tc) (φ : b.ty.Contents (Elt F) → Prop) : sProp 𝕄 :=
  iprop(∃ f : Buf (Elt F) ((c : Thread nD τ).loc b), ⌜φ f⌝ ∗ ((c : Thread nD τ).loc b) ↦{fullShare} f)

/-- The barrier cell, before and after the wait. -/
def bst (c : Dev nD) (b : Bool) : sProp 𝕄 :=
  if b then atPos ER (barCell c) 1 ∅ 0 else iprop(atPos ER (barCell c) 0 ∅ 0 ∗ cred (tallyAt (barCell c) 1 15))

/-- The first `n` chunks of `x` copied. -/
def xbst (c : Dev nD) (n : ℕ) : sProp 𝕄 :=
  buf c cc0_scratch0 fun f => ∀ q : Fin 16, q.val < n → (xbM.view.slice (rs q)).read (Elt F) f = xin D 0 c q
/-- The f32 product, its slot 0 known to be layer `o`'s. -/
def pbst (c : Dev nD) (o : Option (Fin 3)) : sProp 𝕄 :=
  buf c cc0_scratch2 fun f => ∀ l, o = some l → (pbM.view.slice (rs 0)).read (Elt F) f = sl 0 (pV D l c 0)
/-- Slot 0 of the gather buffer, while held whole. -/
def x0st (c : Dev nD) (b : Bool) : sProp 𝕄 := if b then gar c (xgS 0) else iprop(emp)
/-- The result, before and after its store. -/
def ost (c : Dev nD) (b : Bool) : sProp 𝕄 := buf c cc0_stg7_0 fun f => b = true → f = accV D 2 c
/-- The inputs. -/
def inp (c : Dev nD) : sProp 𝕄 :=
  iprop(buf c cc0_stg0_0 (fun f => f = D.X c)
    ∗ buf c cc0_stg1_0 (fun f => f = D.WI 0 c) ∗ buf c cc0_stg3_0 (fun f => f = D.WI 1 c) ∗ buf c cc0_stg5_0 (fun f => f = D.WI 2 c)
    ∗ buf c cc0_stg2_0 (fun f => f = D.WO 0 c) ∗ buf c cc0_stg4_0 (fun f => f = D.WO 1 c) ∗ buf c cc0_stg6_0 (fun f => f = D.WO 2 c))

/-- The two receive slots nobody fills. -/
def rst (c : Dev nD) : sProp 𝕄 := iprop(gar c (crS 0 0) ∗ gar c (crS 2 0))

/-- The whole state of device `c`: the slots' stages, the payments made, whether the barrier is passed, the chunks copied, the layer
    slot 0 of the f32 product is of, whether slot 0 of the gather buffer is whole, whether the result is stored. -/
abbrev St (c : Dev nD) (v : Fin 16 → ℕ) (n : ℕ) (b : Bool) (xn : ℕ) (po : Option (Fin 3)) (x0 o : Bool) : sProp 𝕄 :=
  iprop(core D K c v n ∗ bst c b ∗ xbst D c xn ∗ pbst D c po ∗ x0st c x0 ∗ ost D c o ∗ inp D c ∗ rst c)

theorem St_v {c : Dev nD} {v v' : Fin 16 → ℕ} {n n' : ℕ} {b : Bool} {xn : ℕ} {po : Option (Fin 3)} {x0 o : Bool} {R : sProp 𝕄}
    (hv : v = v') (hn : n = n') (h : St D K c v' n' b xn po x0 o ⊢ R) : St D K c v n b xn po x0 o ⊢ R := by subst hv hn; exact h

/-! ## Steps that move one slot -/

section Steps

variable {c : Dev nD} {v : Fin 16 → ℕ} {n : ℕ} {R : sProp (MT nD τ sig ℕ (Elt F) ℕ UU ℕ)} {α : Type} {Q : α → sProp (MT nD τ sig ℕ (Elt F) ℕ UU ℕ)}

/-- A barrier signal: the slot's receive buffer goes to the device `p` ahead. -/
theorem core_signal (p : Fin 16) (hp : p ≠ 0) {d : Dev nD} (hd : d = dup c p) {z : ℤ} (hz : z = ((1 : ℕ) : ℤ)) (hv : v p = 0)
    (hn : pays.drop n = .bar p :: pays.drop (n + 1)) {k : PUnit → Prog (TpuEff nD τ sig (Elt F) Λ₀ .tc) α}
    (h : iprop(core D K c (Function.update v p 1) (n + 1) ∗ R) ⊢ WP c (k ⟨⟩) Q) :
    iprop(core D K c v n ∗ R) ⊢ WP c (.op (.semSignal (d : Thread nD τ) barS z) k) Q := by
  subst hd hz
  unfold core at h ⊢
  rw [hn]
  iintro ⟨⟨#HK, #HL, HS, %W, HO⟩, HR⟩
  ihave HS' := (slots_step D c (C := [.tB, .cr0]) (P := []) (s' := 1) hv (by decide)) $$ HS
  icases HS' with ⟨HC, HP⟩
  ihave HC := (atoms_two D c p .tB .cr0) $$ HC
  icases HC with ⟨Ht, Hc⟩
  ihave Ht := (Entails.of_eq (show atom D c p .tB = dutyTok ER (barCell (dup c p)) 0 p from rfl)) $$ Ht
  ihave Hc := (Entails.of_eq (show atom D c p .cr0 = gar c (crS 0 p) from rfl)) $$ Hc
  ihave H1 := (recs_bar D K (dup c p)) $$ HK
  icases H1 with ⟨#HI, #Hr⟩
  ihave H2 := (recs_cell D K c 1 p) $$ HK
  icases H2 with ⟨-, #Hr1⟩
  iapply (Rounds.wp_signal 𝒱₀ ER (sched D) (c : Thread nD τ) none (dst := (dup c p : Thread nD τ)) (κ := K (dup c p, none)) (r := 0)
      (d := p) (by rw [duties_bar]; exact Finset.mem_erase.mpr ⟨hp, Finset.mem_univ _⟩) (amount_bar D (dup c p) p 0) 1 (owL c (pays.drop (n + 1))) rfl)
    $$ [HO Ht Hc]
  · isplitr; · iexact HI
    isplitl [HO]; · iexact HO
    isplitl [Ht]; · iexact Ht
    isplitl [Hc]
    · rw [payload_bar, ddn_dup]; unfold rbP
      isplitl [Hc]; · iexact Hc
      iexact Hr1
    iexact Hr
  iintro HO
  iapply h
  isplitl [HP HO]
  · isplitr; · iexact HK
    isplitr; · iexact HL
    isplitl [HP]
    · iapply HP; rw [atoms_nil]; iempintro
    iexists W; iexact HO
  iexact HR

/-- A wait on one of a device's own DMA cells, spending a slot's credit, for what the round's payment handed over. -/
theorem core_wait (a : Fin 6) (p : Fin 16) (hp : p ≠ 0) (r : ℕ) (hr : r < (if a.val < 4 then 2 else 1)) (i : ℕ) (hi : i < 7) {s s' : ℕ} {ca : Atom} {P : List Atom}
    (hv : v p = s) (ht : Tr s s' [ca, .at a r] (.at a (r + 1) :: P)) (hl : ∀ x ∈ pays.drop n, i < x.ix ∧ x.ix < 7)
    (hca : atom D c p ca = cred (tallyAt (cell c a p) i N)) (hP : payOf D c (some (some (a, p))) r 0 ⊢ atoms D c p P)
    {sm : DmaSem sig} (hsm : sm = dsem a p)
    {sp sp' : Space} {sh sh' : Shape} {e e' : EltTy} {src : Memref sig .tc sp' sh' e'} {κ' : Kind} {dst : Memref sig κ' sp sh e}
    (hN : dst.view.dmaCredit = N) {hsrc : src.view.WordExact} {hdst : dst.view.WordExact}
    {k : PUnit → Prog (TpuEff nD τ sig (Elt F) Λ₀ .tc) α}
    (h : iprop(core D K c (Function.update v p s') n ∗ R) ⊢ WP c (k ⟨⟩) Q) :
    iprop(core D K c v n ∗ R) ⊢ WP c (.op (.waitDma2 sm src dst hsrc hdst) k) Q := by
  subst hsm
  unfold core at h ⊢
  iintro ⟨⟨#HK, #HL, HS, %W, HO⟩, HR⟩
  ihave HS' := (slots_step D c hv ht) $$ HS
  icases HS' with ⟨HC, HP⟩
  ihave HC := (atoms_two D c p ca (.at a r)) $$ HC
  icases HC with ⟨Hc, Hat⟩
  ihave Hc := (Entails.of_eq hca) $$ Hc
  ihave H1 := (recs_cell D K c a p) $$ HK
  icases H1 with ⟨#HI, -⟩
  ihave Hat' := (Entails.of_eq (show atom D c p (.at a r) = iprop(atPos ER (cell c a p) r ∅ 0 ∗ reached ER (cell c a p) r) from rfl)) $$ Hat
  icases Hat' with ⟨Hat, -⟩
  iapply (Rounds.wp_wait_rest_token 𝒱₀ ER (sched D) (c : Thread nD τ) none (κ := K (c, some (a, p)))
      (wpE_waitDma2_eq 𝒱₀ (c : Thread nD τ) none Set.univ) (Set.mem_univ _) i (O := owL c (pays.drop n)) (W := W) (R := r) (m := 0) (T := ∅)
      (by rw [expect_cell D c a p r hp hr, hN, Nat.zero_add])) $$ [Hc HO Hat]
  · isplitr; · iexact HI
    isplitl [Hc]; · rw [hN]; iexact Hc
    isplitl [HO]; · iexact HO
    isplitr; · iapply (mayWait c (.dma (dsem a p)) i (pays.drop n) hi hl); iexact HL
    iexact Hat
  iintro ⟨HO, Hat, Hre, Hpay⟩
  ihave Hp := (Entails.of_eq (rest_cell D c a p r hp hr)) $$ Hpay
  iapply h
  isplitl [HP HO Hat Hre Hp]
  · isplitr; · iexact HK
    isplitr; · iexact HL
    isplitl [HP Hat Hre Hp]
    · iapply HP
      rw [atoms_cons]
      isplitl [Hat Hre]
      · iapply (Entails.of_eq (show atom D c p (.at a (r + 1)) = iprop(atPos ER (cell c a p) (r + 1) ∅ 0 ∗ reached ER (cell c a p) (r + 1)) from rfl).symm)
        isplitl [Hat]; · iexact Hat
        iexact Hre
      iapply hP; iexact Hp
    iexists _; iexact HO
  iexact HR

/-- A transfer of slot `p`: the source is lent to the send cell, the destination handed over filled, with `G` besides. -/
theorem core_send {a : Pay} (sa ra : Fin 6) (r : ℕ) (p : Fin 16) (hp : p ≠ 0) (hrs : r < (if sa.val < 4 then 2 else 1)) (hrr : r < (if ra.val < 4 then 2 else 1))
    {d : Dev nD} (ha : a.cell c = cell d ra p) (hamt : a.amt = N) (hn : pays.drop n = a :: pays.drop (n + 1))
    {s s' : ℕ} {C P : List Atom} {G X : sProp 𝕄} {q : PosShare TreeShare} {val : S32x256.Idx → Elt F .bf16}
    (hv : v p = s) (ht : Tr s s' C P)
    {src dst : Memref sig .tc .vmem S32x256 .bf16} (hN : dst.view.dmaCredit = N)
    (hC : atoms D c p C ⊢ iprop(hol c src q val ∗ gar d dst ∗ dutyTok ER (cell c sa p) r 0 ∗ reached ER (cell c sa p) r
      ∗ dutyTok ER (cell d ra p) r 0 ∗ reached ER (cell d ra p) r ∗ G ∗ X))
    (hP : iprop(cred (tallyAt (cell c sa p) 0 N) ∗ X) ⊢ atoms D c p P)
    (h1 : hol c src q val ⊢ payOf D c (some (some (sa, p))) r 0)
    (h2 : iprop(hol d dst fullShare val ∗ G) ⊢ payOf D d (some (some (ra, p))) r 0)
    {sS : DmaSem sig} (hsS : sS = dsem sa p) {sR : DmaSem sig} (hsR : sR = dsem ra p)
    {hsc : (dst : Memref sig (Dev.tc d : Thread nD τ).2.kind .vmem S32x256 .bf16).view.ref.isScScratch = false}
    {hsrc : src.view.WordExact} {hdst : dst.view.WordExact}
    {hsem : DmaTarget.Typed .vmem (.dma sR) (.remote (Dev.tc d : Thread nD τ) dst (.dma sS) hsc)}
    {k : PUnit → Prog (TpuEff nD τ sig (Elt F) Λ₀ .tc) α}
    (h : iprop(core D K c (Function.update v p s') (n + 1) ∗ R) ⊢ WP c (k ⟨⟩) Q) :
    iprop(core D K c v n ∗ R) ⊢ WP c (.op (.enqueueDma src (.remote (Dev.tc d : Thread nD τ) dst (.dma sS) hsc) (.dma sR) hsrc hdst hsem) k) Q := by
  subst hsS hsR
  unfold core at h ⊢
  rw [hn]
  iintro ⟨⟨#HK, #HL, HS, %W, HO⟩, HR⟩
  ihave HS' := (slots_step D c hv ht) $$ HS
  icases HS' with ⟨HC, HP⟩
  ihave HC' := hC $$ HC
  unfold gar hol owns
  icases HC' with ⟨⟨%fs, %hfs, Hsrc⟩, ⟨%fd, Hdst⟩, HtS, HrS, HtR, HrR, HG, HX⟩
  ihave H1 := (recs_cell D K c sa p) $$ HK
  icases H1 with ⟨#HI1, -⟩
  ihave H2 := (recs_cell D K d ra p) $$ HK
  icases H2 with ⟨#HI2, -⟩
  iapply (Rounds.wp_send_pointsTo_with 𝒱₀ ER (sched D) (c : Thread nD τ) none (c' := (Dev.tc d : Thread nD τ)) (src := src) (dst := dst) (sS := .dma (dsem sa p)) (sem := .dma (dsem ra p))
      (κ₁ := K (c, some (sa, p))) (κ₂ := K (d, some (ra, p))) (r₁ := r) (r₂ := r) (d₁ := 0) (d₂ := 0) (q := q) (fs := fs) (fd := fd) (F := G)
      (by rw [duties_cell D c sa p r hp hrs]; exact Finset.mem_singleton_self _)
      (by rw [duties_cell D d ra p r hp hrr]; exact Finset.mem_singleton_self _)
      a.ix 0 N hN (amount_cell D c sa p r 0) (amount_cell D d ra p r 0) (owL c (pays.drop (n + 1)))
      (show owL c (pays.drop (n + 1)) + tallyAt (a.cell c) a.ix a.amt = _ by rw [ha, hamt])
      (by rw [payload_cell]; refine BIBase.Entails.trans ?_ h1; unfold hol owns; iintro H; iexists fs; isplitr; · ipureintro; exact hfs
          iexact H)
      (by rw [payload_cell]; refine BIBase.Entails.trans (sep_mono_left ?_) h2; unfold hol owns; iintro H; iexists _
          isplitr; swap; · iexact H
          ipureintro; rw [View.read_write_univ]; exact hfs))
    $$ [HO Hsrc Hdst HtS HrS HtR HrR HG]
  · isplitr; · iexact HI1
    isplitr; · iexact HI2
    isplitl [Hsrc]; · iexact Hsrc
    isplitl [Hdst HG]
    · isplitl [Hdst]; · iexact Hdst
      iexact HG
    isplitl [HO]; · iexact HO
    isplitl [HtS]; · iexact HtS
    isplitl [HrS]; · iexact HrS
    isplitl [HtR]; · iexact HtR
    iexact HrR
  iintro ⟨Hc, HO⟩
  iapply h
  isplitl [HP HO Hc HX]
  · isplitr; · iexact HK
    isplitr; · iexact HL
    isplitl [HP Hc HX]
    · iapply HP; iapply hP
      isplitl [Hc]; · iexact Hc
      iexact HX
    iexists W; iexact HO
  iexact HR

end Steps

end Cert.Mlp
-- ==== Proof.Steps.lean ====
/-
# The steps that signal, send and wait

One lemma per kind of step, for every slot. A step's side conditions — which payment it is, which device it reaches, the
slot's stage — are decided where the lemma is used.
-/
module

public import proofs.«01_k».proof.Proof.State

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (D : In F) (K : Dev nD × CI → ℕ)

variable {c : Dev nD} {v : Fin 16 → ℕ} {n : ℕ} {R : sProp (MT nD τ sig ℕ (Elt F) ℕ UU ℕ)} {α : Type} {Q : α → sProp (MT nD τ sig ℕ (Elt F) ℕ UU ℕ)}

theorem pays_step {a : Pay} (h : pays[n]? = some a) : pays.drop n = a :: pays.drop (n + 1) := by
  obtain ⟨hn, rfl⟩ := List.getElem?_eq_some_iff.mp h
  exact List.drop_eq_getElem_cons hn

/-- A barrier signal. -/
theorem sig_step {p : Fin 16} (hq : pays[n]? = some (.bar p) := by rfl) {d : Dev nD} (hd : d = dup c p := by generalize c = e; revert e; decide)
    (hp : p ≠ 0 := by decide) (hv : v p = 0 := by rfl) {k : PUnit → Prog (TpuEff nD τ sig (Elt F) Λ₀ .tc) α}
    (h : iprop(core D K c (Function.update v p 1) (n + 1) ∗ R) ⊢ WP c (k ⟨⟩) Q) :
    iprop(core D K c v n ∗ R) ⊢ WP c (.op (.semSignal (d : Thread nD τ) barS ((1#32 : BitVec 32).toInt)) k) Q :=
  core_signal D K p hp hd (by decide) hv (pays_step hq) h

/-! ## The transfers -/

theorem payOf_sK (l : Fin 3) (d : Dev nD) (p : Fin 16) : payOf D d (some (some (sK l, p))) (rd l) 0 = gar d (pfS p) :=
  match l with | 0 => rfl | 1 => rfl | 2 => rfl
theorem payOf_rK (l : Fin 3) (d : Dev nD) (p : Fin 16) : payOf D d (some (some (rK l, p))) (rd l) 0 = payRS D l d p :=
  match l with | 0 => rfl | 1 => rfl | 2 => rfl
theorem payOf_2 (r : Fin 3) (hr : r.val < 2) (d : Dev nD) (p : Fin 16) : payOf D d (some (some (2, p))) r.val 0 = payLf D r d p := by
  have e : (⟨r.val % 2, by omega⟩ : Fin 3) = r := Fin.ext (Nat.mod_eq_of_lt hr)
  show payLf D ⟨r.val % 2, _⟩ d p = _
  rw [e]
theorem payOf_3 (r : Fin 3) (hr : r.val < 2) (d : Dev nD) (p : Fin 16) : payOf D d (some (some (3, p))) r.val 0 = payAG D r d p := by
  have e : (⟨r.val % 2, by omega⟩ : Fin 3) = r := Fin.ext (Nat.mod_eq_of_lt hr)
  show payAG D ⟨r.val % 2, _⟩ d p = _
  rw [e]

/-- What a product's transfer of layer `l` gives up besides: the permission to overwrite its own gather slot. -/
def rsC (l : Fin 3) : List Atom := match l with | 0 => [.xgo, .at 3 0] | 1 => [.xgv 0, .at 3 1] | 2 => []
def rsP (l : Fin 3) : List Atom := match l with | 0 => [.at 3 0] | 1 => [.at 3 1] | 2 => []

theorem at_dup (p : Fin 16) (a : Fin 6) (r : ℕ) : atom D c p (.at a r) ⊢ iprop(reached ER (cell c a p) r ∗ atom D c p (.at a r)) := by
  show iprop(atPos ER (cell c a p) r ∅ 0 ∗ reached ER (cell c a p) r) ⊢ iprop(reached ER (cell c a p) r ∗ (atPos ER (cell c a p) r ∅ 0 ∗ reached ER (cell c a p) r))
  iintro ⟨H, #Hr⟩
  isplitr; · iexact Hr
  isplitl [H]; · iexact H
  iexact Hr

theorem rsC_split (l : Fin 3) (p : Fin 16) :
    atoms D c p (rsC l) ⊢ iprop((if l.val < 2 then xtP (F := F) l c p else iprop(emp)) ∗ atoms D c p (rsP l)) := by
  have two : ∀ (l : Fin 3) (x : Atom), (l.val < 2) → (atom D c p x ⊢ gar c (xgS p)) →
      (atoms D c p [x, .at 3 l.val] ⊢ iprop((if l.val < 2 then xtP (F := F) l c p else iprop(emp)) ∗ atoms D c p [.at 3 l.val])) := by
    intro l x hl hx
    rw [if_pos hl]
    refine (atoms_two D c p x (.at 3 l.val)).trans ?_
    rw [atoms_cons, atoms_nil]; unfold xtP
    iintro ⟨Hx, Ha⟩
    ihave Ha := (at_dup D p 3 l.val) $$ Ha
    icases Ha with ⟨#Hr, Ha⟩
    isplitl [Hx]
    · isplitl [Hx]; · iapply hx; iexact Hx
      iexact Hr
    isplitl [Ha]; · iexact Ha
    iempintro
  match l with
  | 0 => exact two 0 .xgo (by decide) .rfl
  | 1 => exact two 1 (.xgv 0) (by decide) (hol_gar c _ _)
  | 2 =>
    show atoms D c p [] ⊢ iprop((if (2 : Fin 3).val < 2 then xtP (F := F) 2 c p else iprop(emp)) ∗ atoms D c p [])
    rw [if_neg (by decide)]
    iintro H
    isplitr; · iempintro
    iexact H

/-- The transfer of slot `p` of layer `l`'s product. -/
theorem rs_step (l : Fin 3) {p : Fin 16} (hq : pays[n]? = some (.rs l p) := by rfl) {d : Dev nD} (hd : d = ddn c p := by generalize c = e; revert e; decide)
    (hp : p ≠ 0 := by decide) (hv : v p = 11 + 10 * l.val := by rfl)
    {src : Memref sig .tc .vmem S32x256 .bf16} (hs : src = pfS p := by rfl) {dst : Memref sig .tc .vmem S32x256 .bf16} (hdm : dst = crS l p := by rfl)
    {sS : DmaSem sig} (hsS : sS = dsem (sK l) p := by rfl) {sR : DmaSem sig} (hsR : sR = dsem (rK l) p := by rfl)
    {hsc : (dst : Memref sig (Dev.tc d : Thread nD τ).2.kind .vmem S32x256 .bf16).view.ref.isScScratch = false}
    {hsrc : src.view.WordExact} {hdst : dst.view.WordExact}
    {hsem : DmaTarget.Typed .vmem (.dma sR) (.remote (Dev.tc d : Thread nD τ) dst (.dma sS) hsc)}
    {k : PUnit → Prog (TpuEff nD τ sig (Elt F) Λ₀ .tc) α}
    (h : iprop(core D K c (Function.update v p (12 + 10 * l.val)) (n + 1) ∗ R) ⊢ WP c (k ⟨⟩) Q) :
    iprop(core D K c v n ∗ R) ⊢ WP c (.op (.enqueueDma src (.remote (Dev.tc d : Thread nD τ) dst (.dma sS) hsc) (.dma sR) hsrc hdst hsem) k) Q := by
  subst hs hdm
  have hr1 : ∀ l : Fin 3, rd l < (if (sK l).val < 4 then 2 else 1) := by decide
  have hr2 : ∀ l : Fin 3, rd l < (if (rK l).val < 4 then 2 else 1) := by decide
  have ht : ∀ l : Fin 3, Tr (11 + 10 * l.val) (12 + 10 * l.val) ([.pbv l, .tS l, .at (sK l) (rd l), .tR l, .rb l] ++ rsC l) ([.cS l, .at (sK l) (rd l)] ++ rsP l) := by decide
  have hc : d = ddn c p := hd
  refine core_send D K (a := .rs l p) (sK l) (rK l) (rd l) p hp (hr1 l) (hr2 l) (d := d) (by rw [hc]; rfl) rfl (pays_step hq)
    (G := if l.val < 2 then xtP (F := F) l c p else iprop(emp)) (X := iprop(atom D c p (.at (sK l) (rd l)) ∗ atoms D c p (rsP l)))
    (q := fullShare) (val := rsV D l c p) hv (ht l) (credit_cr l p) ?_ ?_ ?_ ?_ hsS hsR h
  · rw [hc, atoms_append, atoms_cons, atoms_cons, atoms_cons, atoms_cons, atoms_cons, atoms_nil]
    show iprop((hol c (pfS p) fullShare (rsV D l c p) ∗ dutyTok ER (cell c (sK l) p) (rd l) 0 ∗ atom D c p (.at (sK l) (rd l)) ∗ dutyTok ER (cell (ddn c p) (rK l) p) (rd l) 0
      ∗ (gar (F := F) (ddn c p) (crS l p) ∗ reached ER (cell (ddn c p) (rK l) p) (rd l)) ∗ emp) ∗ atoms D c p (rsC l)) ⊢ _
    iintro ⟨⟨H1, H2, H3, H4, ⟨H5, H6⟩, -⟩, HX⟩
    ihave H3 := (at_dup D p (sK l) (rd l)) $$ H3
    icases H3 with ⟨#Hr, H3⟩
    ihave HX := (rsC_split D l p) $$ HX
    icases HX with ⟨HG, HX⟩
    isplitl [H1]; · iexact H1
    isplitl [H5]; · iexact H5
    isplitl [H2]; · iexact H2
    isplitr; · iexact Hr
    isplitl [H4]; · iexact H4
    isplitl [H6]; · iexact H6
    isplitl [HG]; · iexact HG
    isplitl [H3]; · iexact H3
    iexact HX
  · rw [atoms_append, atoms_cons, atoms_cons, atoms_nil]
    show iprop(cred (tallyAt (cell c (sK l) p) 0 N) ∗ atom D c p (.at (sK l) (rd l)) ∗ atoms D c p (rsP l))
      ⊢ iprop((cred (tallyAt (cell c (sK l) p) 0 N) ∗ atom D c p (.at (sK l) (rd l)) ∗ emp) ∗ atoms D c p (rsP l))
    iintro ⟨H1, H2, H3⟩
    isplitl [H1 H2]
    · isplitl [H1]; · iexact H1
      isplitl [H2]; · iexact H2
      iempintro
    iexact H3
  · rw [payOf_sK]; exact hol_gar c _ _
  · have e : iprop(hol d (crS l p) fullShare (rsV D l c p) ∗ (if l.val < 2 then xtP (F := F) l c p else iprop(emp))) = payRS D l d p := by
      unfold payRS; rw [hc, dup_ddn]
    rw [e, payOf_rK]

/-- What a gather transfer gives up besides: the permission to overwrite its own receive slot. -/
def agC (r : Fin 3) : List Atom := match r with | 0 => [.crv 0, .at 1 1] | _ => [.cr2, .at 5 0]
def agP (r : Fin 3) : List Atom := match r with | 0 => [.at 1 1] | _ => [.at 5 0]
/-- The next layer. -/
abbrev nx (r : Fin 3) : Fin 3 := ⟨(r.val + 1) % 3, Nat.mod_lt _ (by decide)⟩

theorem agC_split (r : Fin 3) (hr : r.val < 2) (p : Fin 16) :
    atoms D c p (agC r) ⊢ iprop(rbP (F := F) (nx r) c p ∗ atoms D c p (agP r)) := by
  have two : ∀ (x : Atom) (a : Fin 6) (i : ℕ) (l : Fin 3), (atom D c p x ⊢ gar c (crS l p)) → rK l = a → rd l = i →
      (atoms D c p [x, .at a i] ⊢ iprop(rbP (F := F) l c p ∗ atoms D c p [.at a i])) := by
    intro x a i l hx ha hi
    subst ha hi
    refine (atoms_two D c p x (.at (rK l) (rd l))).trans ?_
    rw [atoms_cons, atoms_nil]; unfold rbP
    iintro ⟨Hx, Ha⟩
    ihave Ha := (at_dup D p (rK l) (rd l)) $$ Ha
    icases Ha with ⟨#Hr, Ha⟩
    isplitl [Hx]
    · isplitl [Hx]; · iapply hx; iexact Hx
      iexact Hr
    isplitl [Ha]; · iexact Ha
    iempintro
  match r with
  | 0 => exact two (.crv 0) 1 1 1 (hol_gar c _ _) rfl rfl
  | 1 => exact two .cr2 5 0 2 .rfl rfl rfl
  | 2 => exact absurd hr (by decide)

/-- The gather's transfer at distance `p` after layer `r`. -/
theorem ag_step (r : Fin 3) {p : Fin 16} (hr : r.val < 2 := by decide) (hq : pays[n]? = some (.ag r p) := by rfl) {d : Dev nD} (hd : d = dup c p := by generalize c = e; revert e; decide)
    (hp : p ≠ 0 := by decide) (hv : v p = 17 + 10 * r.val := by rfl)
    {src : Memref sig .tc .vmem S32x256 .bf16} (hs : src = xgS 0 := by rfl) {dst : Memref sig .tc .vmem S32x256 .bf16} (hdm : dst = xgS p := by rfl)
    {sS : DmaSem sig} (hsS : sS = dsem 2 p := by rfl) {sR : DmaSem sig} (hsR : sR = dsem 3 p := by rfl)
    {hsc : (dst : Memref sig (Dev.tc d : Thread nD τ).2.kind .vmem S32x256 .bf16).view.ref.isScScratch = false}
    {hsrc : src.view.WordExact} {hdst : dst.view.WordExact}
    {hsem : DmaTarget.Typed .vmem (.dma sR) (.remote (Dev.tc d : Thread nD τ) dst (.dma sS) hsc)}
    {k : PUnit → Prog (TpuEff nD τ sig (Elt F) Λ₀ .tc) α}
    (h : iprop(core D K c (Function.update v p (18 + 10 * r.val)) (n + 1) ∗ R) ⊢ WP c (k ⟨⟩) Q) :
    iprop(core D K c v n ∗ R) ⊢ WP c (.op (.enqueueDma src (.remote (Dev.tc d : Thread nD τ) dst (.dma sS) hsc) (.dma sR) hsrc hdst hsem) k) Q := by
  subst hs hdm
  have hr1 : ∀ r : Fin 3, r.val < 2 → r.val < (if (2 : Fin 6).val < 4 then 2 else 1) := by decide
  have hr2 : ∀ r : Fin 3, r.val < 2 → r.val < (if (3 : Fin 6).val < 4 then 2 else 1) := by decide
  have ht : ∀ r : Fin 3, r.val < 2 → Tr (17 + 10 * r.val) (18 + 10 * r.val) ([.lfa r, .tG r, .at 2 r.val, .tH r, .xt r] ++ agC r) ([.cG r, .at 2 r.val] ++ agP r) := by decide
  have hc : d = dup c p := hd
  refine core_send D K (a := .ag r p) 2 3 r.val p hp (hr1 r hr) (hr2 r hr) (d := d) (by rw [hc]; rfl) rfl (pays_step hq)
    (G := rbP (F := F) (nx r) c p) (X := iprop(atom D c p (.at 2 r.val) ∗ atoms D c p (agP r)))
    (q := lf p) (val := agV D r c) hv (ht r hr) (credit_xg p) ?_ ?_ ?_ ?_ hsS hsR h
  · rw [hc, atoms_append, atoms_cons, atoms_cons, atoms_cons, atoms_cons, atoms_cons, atoms_nil]
    show iprop((hol c (xgS 0) (lf p) (agV D r c) ∗ dutyTok ER (cell c 2 p) r.val 0 ∗ atom D c p (.at 2 r.val) ∗ dutyTok ER (cell (dup c p) 3 p) r.val 0
      ∗ (gar (F := F) (dup c p) (xgS p) ∗ reached ER (cell (dup c p) 3 p) r.val) ∗ emp) ∗ atoms D c p (agC r)) ⊢ _
    iintro ⟨⟨H1, H2, H3, H4, ⟨H5, H6⟩, -⟩, HX⟩
    ihave H3 := (at_dup D p 2 r.val) $$ H3
    icases H3 with ⟨#Hr, H3⟩
    ihave HX := (agC_split D r hr p) $$ HX
    icases HX with ⟨HG, HX⟩
    isplitl [H1]; · iexact H1
    isplitl [H5]; · iexact H5
    isplitl [H2]; · iexact H2
    isplitr; · iexact Hr
    isplitl [H4]; · iexact H4
    isplitl [H6]; · iexact H6
    isplitl [HG]; · iexact HG
    isplitl [H3]; · iexact H3
    iexact HX
  · rw [atoms_append, atoms_cons, atoms_cons, atoms_nil]
    show iprop(cred (tallyAt (cell c 2 p) 0 N) ∗ atom D c p (.at 2 r.val) ∗ atoms D c p (agP r))
      ⊢ iprop((cred (tallyAt (cell c 2 p) 0 N) ∗ atom D c p (.at 2 r.val) ∗ emp) ∗ atoms D c p (agP r))
    iintro ⟨H1, H2, H3⟩
    isplitl [H1 H2]
    · isplitl [H1]; · iexact H1
      isplitl [H2]; · iexact H2
      iempintro
    iexact H3
  · rw [payOf_2 D r hr]; exact .rfl
  · have e : iprop(hol d (xgS p) fullShare (agV D r c) ∗ rbP (F := F) (nx r) c p) = payAG D r d p := by
      unfold payAG; rw [hc, ddn_dup]
    rw [e, payOf_3 D r hr]

/-! ## The waits -/

/-- The stage at which layer `l`'s received slots are waited for. -/
abbrev rsW (l : Fin 3) : ℕ := match l with | 0 => 12 | 1 => 24 | 2 => 34

/-- The wait for slot `p` of what is received in layer `l`. -/
theorem rsr_step (l : Fin 3) (p : Fin 16) (hp : p ≠ 0 := by decide) (hv : v p = rsW l := by rfl)
    (hl : ∀ x ∈ pays.drop n, 2 + 2 * l.val < x.ix ∧ x.ix < 7 := by decide)
    {sm : DmaSem sig} (hsm : sm = dsem (rK l) p := by rfl)
    {sp sp' : Space} {sh sh' : Shape} {e e' : EltTy} {src : Memref sig .tc sp' sh' e'} {κ' : Kind} {dst : Memref sig κ' sp sh e}
    (hN : dst.view.dmaCredit = N := by rfl) {hsrc : src.view.WordExact} {hdst : dst.view.WordExact}
    {k : PUnit → Prog (TpuEff nD τ sig (Elt F) Λ₀ .tc) α}
    (h : iprop(core D K c (Function.update v p (15 + 10 * l.val)) n ∗ R) ⊢ WP c (k ⟨⟩) Q) :
    iprop(core D K c v n ∗ R) ⊢ WP c (.op (.waitDma2 sm src dst hsrc hdst) k) Q := by
  have hr : ∀ l : Fin 3, rd l < (if (rK l).val < 4 then 2 else 1) := by decide
  have ht : ∀ l : Fin 3, Tr (rsW l) (15 + 10 * l.val) [.cR l, .at (rK l) (rd l)] (.at (rK l) (rd l + 1) :: .crv l :: if l.val < 2 then [.xt l] else []) := by decide
  refine core_wait D K (rK l) p hp (rd l) (hr l) (2 + 2 * l.val) (by omega) hv (ht l) hl rfl ?_ hsm hN h
  have e : payRS D l c p ⊢ atoms D c p (.crv l :: if l.val < 2 then [.xt l] else []) := by
    unfold payRS
    rw [atoms_cons]
    refine sep_mono_right ?_
    by_cases h2 : l.val < 2
    · rw [if_pos h2, if_pos h2, atoms_cons, atoms_nil]
      show xtP (F := F) l (dup c p) p ⊢ iprop(xtP (F := F) l (dup c p) p ∗ emp)
      iintro H
      isplitl [H]; · iexact H
      iempintro
    · rw [if_neg h2, if_neg h2, atoms_nil]
  rw [payOf_rK]; exact e

/-- The wait for slot `p` of the product to have left. -/
theorem rss_step (l : Fin 3) (p : Fin 16) (hp : p ≠ 0 := by decide) (hv : v p = 15 + 10 * l.val := by rfl)
    (hl : ∀ x ∈ pays.drop n, 0 < x.ix ∧ x.ix < 7 := by decide)
    {sm : DmaSem sig} (hsm : sm = dsem (sK l) p := by rfl)
    {sp sp' : Space} {sh sh' : Shape} {e e' : EltTy} {src : Memref sig .tc sp' sh' e'} {κ' : Kind} {dst : Memref sig κ' sp sh e}
    (hN : dst.view.dmaCredit = N := by rfl) {hsrc : src.view.WordExact} {hdst : dst.view.WordExact}
    {k : PUnit → Prog (TpuEff nD τ sig (Elt F) Λ₀ .tc) α}
    (h : iprop(core D K c (Function.update v p (16 + 10 * l.val)) n ∗ R) ⊢ WP c (k ⟨⟩) Q) :
    iprop(core D K c v n ∗ R) ⊢ WP c (.op (.waitDma2 sm src dst hsrc hdst) k) Q := by
  have hr : ∀ l : Fin 3, rd l < (if (sK l).val < 4 then 2 else 1) := by decide
  have ht : ∀ l : Fin 3, Tr (15 + 10 * l.val) (16 + 10 * l.val) [.cS l, .at (sK l) (rd l)] [.at (sK l) (rd l + 1), .pbo] := by decide
  refine core_wait D K (sK l) p hp (rd l) (hr l) 0 (by omega) hv (ht l) hl rfl ?_ hsm hN h
  rw [atoms_cons, atoms_nil]
  have e : gar c (pfS p) ⊢ iprop(atom D c p .pbo ∗ emp) := by
    show gar c (pfS p) ⊢ iprop(gar c (pfS p) ∗ emp)
    iintro H
    isplitl [H]; · iexact H
    iempintro
  rw [payOf_sK]; exact e

/-- The wait for gather slot `p` after layer `r`. -/
theorem agr_step (r : Fin 3) (p : Fin 16) (hr : r.val < 2 := by decide) (hp : p ≠ 0 := by decide) (hv : v p = 18 + 10 * r.val := by rfl)
    (hl : ∀ x ∈ pays.drop n, 3 + 2 * r.val < x.ix ∧ x.ix < 7 := by decide)
    {sm : DmaSem sig} (hsm : sm = dsem 3 p := by rfl)
    {sp sp' : Space} {sh sh' : Shape} {e e' : EltTy} {src : Memref sig .tc sp' sh' e'} {κ' : Kind} {dst : Memref sig κ' sp sh e}
    (hN : dst.view.dmaCredit = N := by rfl) {hsrc : src.view.WordExact} {hdst : dst.view.WordExact}
    {k : PUnit → Prog (TpuEff nD τ sig (Elt F) Λ₀ .tc) α}
    (h : iprop(core D K c (Function.update v p (20 + 10 * r.val)) n ∗ R) ⊢ WP c (k ⟨⟩) Q) :
    iprop(core D K c v n ∗ R) ⊢ WP c (.op (.waitDma2 sm src dst hsrc hdst) k) Q := by
  have hr' : ∀ r : Fin 3, r.val < 2 → r.val < (if (3 : Fin 6).val < 4 then 2 else 1) := by decide
  have ht : ∀ r : Fin 3, r.val < 2 → Tr (18 + 10 * r.val) (20 + 10 * r.val) [.cH r, .at 3 r.val] [.at 3 (r.val + 1), .xgv r, .rb (nx r)] := by decide
  refine core_wait D K 3 p hp r.val (hr' r hr) (3 + 2 * r.val) (by omega) hv (ht r hr) hl rfl ?_ hsm hN h
  have e : payAG D r c p ⊢ atoms D c p [.xgv r, .rb (nx r)] := by
    rw [atoms_cons, atoms_cons, atoms_nil]
    show iprop(hol c (xgS p) fullShare (agV D r (ddn c p)) ∗ rbP (F := F) (nx r) (ddn c p) p) ⊢ iprop(hol c (xgS p) fullShare (agV D r (ddn c p)) ∗ rbP (F := F) (nx r) (ddn c p) p ∗ emp)
    iintro ⟨H, H2⟩
    isplitl [H]; · iexact H
    isplitl [H2]; · iexact H2
    iempintro
  rw [payOf_3 D r hr]; exact e

/-- The wait for the gather's transfer at distance `p` to have left. -/
theorem ags_step (r : Fin 3) (p : Fin 16) (hr : r.val < 2 := by decide) (hp : p ≠ 0 := by decide) (hv : v p = 22 + 10 * r.val := by rfl)
    (hl : ∀ x ∈ pays.drop n, 0 < x.ix ∧ x.ix < 7 := by decide)
    {sm : DmaSem sig} (hsm : sm = dsem 2 p := by rfl)
    {sp sp' : Space} {sh sh' : Shape} {e e' : EltTy} {src : Memref sig .tc sp' sh' e'} {κ' : Kind} {dst : Memref sig κ' sp sh e}
    (hN : dst.view.dmaCredit = N := by rfl) {hsrc : src.view.WordExact} {hdst : dst.view.WordExact}
    {k : PUnit → Prog (TpuEff nD τ sig (Elt F) Λ₀ .tc) α}
    (h : iprop(core D K c (Function.update v p (23 + 10 * r.val)) n ∗ R) ⊢ WP c (k ⟨⟩) Q) :
    iprop(core D K c v n ∗ R) ⊢ WP c (.op (.waitDma2 sm src dst hsrc hdst) k) Q := by
  have hr' : ∀ r : Fin 3, r.val < 2 → r.val < (if (2 : Fin 6).val < 4 then 2 else 1) := by decide
  have ht : ∀ r : Fin 3, r.val < 2 → Tr (22 + 10 * r.val) (23 + 10 * r.val) [.cG r, .at 2 r.val] [.at 2 (r.val + 1), .lfa r] := by decide
  refine core_wait D K 2 p hp r.val (hr' r hr) 0 (by omega) hv (ht r hr) hl rfl ?_ hsm hN h
  have e : payLf D r c p ⊢ atoms D c p [.lfa r] := by
    rw [atoms_cons, atoms_nil]
    show hol c (xgS 0) (lf p) (agV D r c) ⊢ iprop(hol c (xgS 0) (lf p) (agV D r c) ∗ emp)
    iintro H
    isplitl [H]; · iexact H
    iempintro
  rw [payOf_2 D r hr]; exact e

/-- A slot's stage after the barrier. -/
def barNx (s : ℕ) : ℕ := if s = 1 then 2 else if s = 3 then 11 else s

/-- The barrier wait: every device's permission to fill its receive slot arrives. -/
theorem bar_step {v' : Fin 16 → ℕ} (hv : ∀ p : Fin 16, (p = 0 ∧ v' p = v p) ∨ (p ≠ 0 ∧ ((v p = 1 ∧ v' p = 2) ∨ (v p = 3 ∧ v' p = 11))))
    (hl : ∀ x ∈ pays.drop n, 1 < x.ix ∧ x.ix < 7 := by decide) {z : ℕ} (hz : z = 15 := by rfl)
    {k : PUnit → Prog (TpuEff nD τ sig (Elt F) Λ₀ .tc) α}
    (h : iprop(core D K c v' n ∗ bst c true ∗ R) ⊢ WP c (k ⟨⟩) Q) :
    iprop(core D K c v n ∗ bst c false ∗ R) ⊢ WP c (.op (.semWait barS z) k) Q := by
  subst hz
  have hs : ∀ p : Fin 16, p ≠ 0 → (iprop(rbP (F := F) 0 (ddn c p) p ∗ slot D c p (v p)) ⊢ slot D c p (v' p)) := by
    intro p hp
    have go : ∀ s s', v p = s → v' p = s' → Tr s s' [] [.rb 0] → (iprop(rbP (F := F) 0 (ddn c p) p ∗ slot D c p (v p)) ⊢ slot D c p (v' p)) := by
      intro s s' h1 h2 ht
      rw [h1, h2]
      have h3 := slot_step D c p ht
      rw [atoms_nil, atoms_cons, atoms_nil] at h3
      replace h3 : slot D c p s ⊢ iprop(emp ∗ ((rbP (F := F) 0 (ddn c p) p ∗ emp) -∗ slot D c p s')) := h3
      iintro ⟨H, HS⟩
      ihave HS := h3 $$ HS
      icases HS with ⟨-, HS⟩
      iapply HS
      isplitl [H]; · iexact H
      iempintro
    rcases hv p with ⟨h0, -⟩ | ⟨-, ⟨h1, h2⟩ | ⟨h1, h2⟩⟩
    · exact absurd h0 hp
    · exact go 1 2 h1 h2 (by decide)
    · exact go 3 11 h1 h2 (by decide)
  have h0 : v' 0 = v 0 := by
    rcases hv 0 with ⟨-, h⟩ | ⟨h, -⟩
    · exact h
    · exact absurd rfl h
  have hall : iprop(bigSep (Finset.univ.erase (0 : Fin 16)) (fun d => rbP (F := F) 0 (ddn c d) d) ∗ slots D c v) ⊢ slots D c v' := by
    rw [slots_split D c v 0, slots_split D c v' 0, h0]
    have hm : iprop(bigSep (Finset.univ.erase (0 : Fin 16)) (fun d => rbP (F := F) 0 (ddn c d) d) ∗ bigSep (Finset.univ.erase (0 : Fin 16)) fun q => slot D c q (v q))
        ⊢ bigSep (Finset.univ.erase (0 : Fin 16)) fun q => slot D c q (v' q) := by
      refine (Entails.of_eq (bigSep_sep _ _ _).symm).trans (bigSep_mono fun q hq => hs q (Finset.ne_of_mem_erase hq))
    iintro ⟨H1, H2, H3⟩
    isplitl [H2]; · iexact H2
    iapply hm
    isplitl [H1]; · iexact H1
    iexact H3
  unfold core at h ⊢
  iintro ⟨⟨#HK, #HL, HS, %W, HO⟩, HB, HR⟩
  ihave HB := (Entails.of_eq (show bst (F := F) c false = iprop(atPos ER (barCell c) 0 ∅ 0 ∗ cred (tallyAt (barCell c) 1 15)) from if_neg (by decide))) $$ HB
  icases HB with ⟨Hat, Hc⟩
  ihave H1 := (recs_bar D K c) $$ HK
  icases H1 with ⟨#HI, -⟩
  iapply (Rounds.wp_wait_rest_token 𝒱₀ ER (sched D) (c : Thread nD τ) none (κ := K (c, none))
      (wpE_semWait_eq 𝒱₀ (c : Thread nD τ) none Set.univ) (Set.mem_univ _) 1 (O := owL c (pays.drop n)) (W := W) (R := 0) (m := 0) (T := ∅)
      (by rw [expect_bar D c])) $$ [Hc HO Hat]
  · isplitr; · iexact HI
    isplitl [Hc]; · iexact Hc
    isplitl [HO]; · iexact HO
    isplitr; · iapply (mayWait c (.reg barS) 1 (pays.drop n) (by decide) hl); iexact HL
    iexact Hat
  iintro ⟨HO, Hat, Hre, Hpay⟩
  ihave Hp := (Entails.of_eq (rest_bar D c)) $$ Hpay
  iapply h
  isplitl [HS HO Hre Hp]
  · isplitr; · iexact HK
    isplitr; · iexact HL
    isplitl [HS Hp]
    · iapply hall
      isplitl [Hp]; · iexact Hp
      iexact HS
    iexists _; iexact HO
  isplitl [Hat]
  · iapply (Entails.of_eq (show bst (F := F) c true = atPos ER (barCell c) 1 ∅ 0 from if_pos rfl).symm)
    iexact Hat
  iexact HR

end Cert.Mlp
-- ==== Proof.Mem.lean ====
/-
# The steps that load and store

The buffers that are not cut (the inputs, the copy of `x`, the f32 product, the result) are loaded and stored whole. The
rounded product and the gather buffer are held by slots: a quarter of four slots is put together, loaded or stored, and
taken apart again.
-/
module

public import proofs.«01_k».proof.Proof.Steps
public import Idealize.ShloMosaic.Lib.Pipeline.Value

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (D : In F) (K : Dev nD × CI → ℕ)

variable {c : Dev nD} {v : Fin 16 → ℕ} {n : ℕ} {R S S' : sProp (MT nD τ sig ℕ (Elt F) ℕ UU ℕ)} {α : Type} {Q : α → sProp (MT nD τ sig ℕ (Elt F) ℕ UU ℕ)}

/-! ## A load and a store out of any state -/

theorem ld_sel {s : Shape} {e : EltTy} {M : Memref sig .tc .vmem s e} {r : LoadRect s} {hl : M.view.LoadsAt r}
    {k : (r.shape.Idx → Elt F e) → Prog (TpuEff nD τ sig (Elt F) Λ₀ .tc) α}
    {I : Finset (Idx (M.view.loc (c : Thread nD τ)))} {q : PosShare TreeShare} {φ : Buf (Elt F) (M.view.loc (c : Thread nD τ)) → Prop}
    (hs : S ⊢ iprop(∃ f, ⌜φ f⌝ ∗ (M.view.loc (c : Thread nD τ) ↦[I]{q} f) ∗ ((M.view.loc (c : Thread nD τ) ↦[I]{q} f) -∗ S)))
    (hI : M.view.setOn r.set ⊆ I) (h : ∀ f, φ f → (S ⊢ WP c (k (M.view.readAt (Elt F) r f)) Q)) :
    S ⊢ WP c (.op (.load M r hl) k) Q := by
  refine hs.trans ?_
  iintro ⟨%f, %hf, H, HS⟩
  iapply (wp_load 𝒱₀ (c : Thread nD τ) none Set.univ hI) $$ [H]
  · iexact H
  iintro H
  iapply (h f hf)
  iapply HS
  iexact H

theorem st_sel {s : Shape} {e : EltTy} {M : Memref sig .tc .vmem s e} {r : Rect s} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α}
    {I : Finset (Idx ((M.access r).loc (c : Thread nD τ)))} {φ ψ : Buf (Elt F) ((M.access r).loc (c : Thread nD τ)) → Prop}
    (hs : S ⊢ iprop(∃ f, ⌜φ f⌝ ∗ ((M.access r).loc (c : Thread nD τ) ↦[I]{fullShare} f)
      ∗ (∀ g, (⌜ψ g⌝ ∗ ((M.access r).loc (c : Thread nD τ) ↦[I]{fullShare} g)) -∗ S')))
    (hI : (M.access r).setOn Finset.univ ⊆ I) (hw : ∀ f, φ f → ψ ((M.access r).write (Elt F) f w Finset.univ)) (h : S' ⊢ WP c (k ⟨⟩) Q) :
    S ⊢ WP c (.op (.store M r w Finset.univ hx hm) k) Q := by
  refine hs.trans ?_
  iintro ⟨%f, %hf, H, HS⟩
  iapply (wp_store 𝒱₀ (c : Thread nD τ) none Set.univ hI) $$ [H]
  · iexact H
  iintro H
  iapply h
  iapply HS
  isplitr; · ipureintro; exact hw f hf
  iexact H

/-- Holding a whole buffer, for a load, -/
theorem buf_ld {b : Ref sig .tc} {φ : b.ty.Contents (Elt F) → Prop} (hs : S ⊢ iprop(buf c b φ ∗ (buf c b φ -∗ S))) :
    S ⊢ iprop(∃ f, ⌜φ f⌝ ∗ (((c : Thread nD τ).loc b) ↦{fullShare} f) ∗ ((((c : Thread nD τ).loc b) ↦{fullShare} f) -∗ S)) := by
  refine hs.trans ?_
  unfold buf
  iintro ⟨⟨%f, %hf, H⟩, HS⟩
  iexists f
  isplitr; · ipureintro; exact hf
  isplitl [H]; · iexact H
  iintro H
  iapply HS
  iexists f
  isplitr; · ipureintro; exact hf
  iexact H

/-- and for a store. -/
theorem buf_st {b : Ref sig .tc} {φ ψ : b.ty.Contents (Elt F) → Prop} (hs : S ⊢ iprop(buf c b φ ∗ (buf c b ψ -∗ S'))) :
    S ⊢ iprop(∃ f, ⌜φ f⌝ ∗ (((c : Thread nD τ).loc b) ↦{fullShare} f) ∗ (∀ g, (⌜ψ g⌝ ∗ (((c : Thread nD τ).loc b) ↦{fullShare} g)) -∗ S')) := by
  refine hs.trans ?_
  unfold buf
  iintro ⟨⟨%f, %hf, H⟩, HS⟩
  iexists f
  isplitr; · ipureintro; exact hf
  isplitl [H]; · iexact H
  iintro %g ⟨%hg, H⟩
  iapply HS
  iexists g
  isplitr; · ipureintro; exact hg
  iexact H

section Whole

variable {b : Bool} {xn : ℕ} {po : Option (Fin 3)} {x0 o : Bool}

theorem sel_here (A B T : sProp 𝕄) : iprop(A ∗ B) ⊢ iprop(A ∗ (T -∗ iprop(T ∗ B))) := by
  iintro ⟨HA, HB⟩
  isplitl [HA]; · iexact HA
  iintro HT
  isplitl [HT]; · iexact HT
  iexact HB
theorem sel_last (A T : sProp 𝕄) : A ⊢ iprop(A ∗ (T -∗ T)) := by
  iintro HA
  isplitl [HA]; · iexact HA
  iintro HT; iexact HT
/-- Choosing a part further in. -/
theorem sel_next {P X X' A T : sProp 𝕄} (h : X ⊢ iprop(A ∗ (T -∗ X'))) : iprop(P ∗ X) ⊢ iprop(A ∗ (T -∗ iprop(P ∗ X'))) := by
  iintro ⟨HP, HX⟩
  ihave H := h $$ HX
  icases H with ⟨HA, HT⟩
  isplitl [HA]; · iexact HA
  iintro H
  isplitl [HP]; · iexact HP
  iapply HT; iexact H

theorem sel_xb (xn' : ℕ) : St D K c v n b xn po x0 o ⊢ iprop(xbst D c xn ∗ (xbst D c xn' -∗ St D K c v n b xn' po x0 o)) :=
  sel_next (sel_next (sel_here _ _ _))
theorem sel_pb (po' : Option (Fin 3)) : St D K c v n b xn po x0 o ⊢ iprop(pbst D c po ∗ (pbst D c po' -∗ St D K c v n b xn po' x0 o)) :=
  sel_next (sel_next (sel_next (sel_here _ _ _)))
theorem sel_out (o' : Bool) : St D K c v n b xn po x0 o ⊢ iprop(ost D c o ∗ (ost D c o' -∗ St D K c v n b xn po x0 o')) :=
  sel_next (sel_next (sel_next (sel_next (sel_next (sel_here _ _ _)))))
theorem sel_inp : St D K c v n b xn po x0 o ⊢ iprop(inp D c ∗ (inp D c -∗ St D K c v n b xn po x0 o)) :=
  sel_next (sel_next (sel_next (sel_next (sel_next (sel_next (sel_here _ _ _))))))
theorem sel_trans {X A T A' T' : sProp 𝕄} {X' : sProp 𝕄} (h : X ⊢ iprop(A ∗ (T -∗ X'))) (h' : A ⊢ iprop(A' ∗ (T' -∗ T))) : X ⊢ iprop(A' ∗ (T' -∗ X')) := by
  refine h.trans ?_
  iintro ⟨HA, HX⟩
  ihave H := h' $$ HA
  icases H with ⟨HA, HT⟩
  isplitl [HA]; · iexact HA
  iintro H
  iapply HX; iapply HT; iexact H

/-- The load of a chunk of `x`. -/
theorem ld_x (q : Fin 16) {off : Fin 2 → ℕ} {gb : ∀ a, off a + S32x256.size a ≤ S512x256.size a}
    {hl : xM.view.LoadsAt (Rect.unit (s := S512x256) off S32x256.size gb).toLoadRect}
    {k : Vec F S32x256 .f32 → Prog (TpuEff nD τ sig (Elt F) Λ₀ .tc) α}
    (hg : ∀ a, off a = (![32 * (ddn c q).val, 0] : Fin 2 → ℕ) a := by generalize c = e; revert e; decide)
    (h : St D K c v n b xn po x0 o ⊢ WP c (k (xin D 0 c q)) Q) :
    St D K c v n b xn po x0 o ⊢ WP c (.op (.load xM (Rect.unit (s := S512x256) off S32x256.size gb).toLoadRect hl) k) Q := by
  have e : off = ![32 * (ddn c q).val, 0] := funext hg
  refine ld_sel (M := xM) (I := Finset.univ) (buf_ld (sel_trans (sel_inp D K) (sel_here _ _ _))) (Finset.subset_univ _) fun f hf => ?_
  have e2 : xM.view.readAt (Elt F) (Rect.unit (s := S512x256) off S32x256.size gb).toLoadRect f = xin D 0 c q := by
    subst e; rw [hf]; rfl
  rw [e2]; exact h

theorem emb_full {s : Shape} {off : Fin s.rank → ℕ} (inb : ∀ a, off a + s.size a ≤ s.size a) (h0 : ∀ a, off a = 0) (i : s.Idx) :
    (Rect.unit (s := s) off s.size inb).emb i = i := by
  funext a
  refine Fin.ext ?_
  show off a + 1 * (i a).val = (i a).val
  rw [h0]; omega

/-- The load of a weight block. -/
theorem ld_wi (l : Fin 3) {off : Fin 2 → ℕ} {gb : ∀ a, off a + S256x512.size a ≤ S256x512.size a}
    {hl : (wiM l).view.LoadsAt (Rect.unit (s := S256x512) off S256x512.size gb).toLoadRect}
    {k : Vec F S256x512 .f32 → Prog (TpuEff nD τ sig (Elt F) Λ₀ .tc) α} (h0 : ∀ a, off a = 0 := by decide)
    (h : St D K c v n b xn po x0 o ⊢ WP c (k (D.WI l c)) Q) :
    St D K c v n b xn po x0 o ⊢ WP c (.op (.load (wiM l) (Rect.unit (s := S256x512) off S256x512.size gb).toLoadRect hl) k) Q := by
  have e : ∀ f : Vec F S256x512 .f32, f = D.WI l c → (fun i => f ((Rect.unit (s := S256x512) off S256x512.size gb).emb i)) = D.WI l c := by
    intro f hf; funext i; rw [hf, emb_full gb h0]
  match l with
  | 0 =>
    refine ld_sel (M := wiM 0) (I := Finset.univ) (buf_ld (sel_trans (sel_inp D K) (sel_next (sel_here _ _ _)))) (Finset.subset_univ _) fun f hf => ?_
    have e2 := e f hf
    rw [show (wiM 0).view.readAt (Elt F) (Rect.unit (s := S256x512) off S256x512.size gb).toLoadRect f = D.WI 0 c from e2]; exact h
  | 1 =>
    refine ld_sel (M := wiM 1) (I := Finset.univ) (buf_ld (sel_trans (sel_inp D K) (sel_next (sel_next (sel_here _ _ _))))) (Finset.subset_univ _) fun f hf => ?_
    have e2 := e f hf
    rw [show (wiM 1).view.readAt (Elt F) (Rect.unit (s := S256x512) off S256x512.size gb).toLoadRect f = D.WI 1 c from e2]; exact h
  | 2 =>
    refine ld_sel (M := wiM 2) (I := Finset.univ) (buf_ld (sel_trans (sel_inp D K) (sel_next (sel_next (sel_next (sel_here _ _ _)))))) (Finset.subset_univ _) fun f hf => ?_
    have e2 := e f hf
    rw [show (wiM 2).view.readAt (Elt F) (Rect.unit (s := S256x512) off S256x512.size gb).toLoadRect f = D.WI 2 c from e2]; exact h

theorem ld_wo (l : Fin 3) {off : Fin 2 → ℕ} {gb : ∀ a, off a + S512x256.size a ≤ S512x256.size a}
    {hl : (woM l).view.LoadsAt (Rect.unit (s := S512x256) off S512x256.size gb).toLoadRect}
    {k : Vec F S512x256 .f32 → Prog (TpuEff nD τ sig (Elt F) Λ₀ .tc) α} (h0 : ∀ a, off a = 0 := by decide)
    (h : St D K c v n b xn po x0 o ⊢ WP c (k (D.WO l c)) Q) :
    St D K c v n b xn po x0 o ⊢ WP c (.op (.load (woM l) (Rect.unit (s := S512x256) off S512x256.size gb).toLoadRect hl) k) Q := by
  have e : ∀ f : Vec F S512x256 .f32, f = D.WO l c → (fun i => f ((Rect.unit (s := S512x256) off S512x256.size gb).emb i)) = D.WO l c := by
    intro f hf; funext i; rw [hf, emb_full gb h0]
  match l with
  | 0 =>
    refine ld_sel (M := woM 0) (I := Finset.univ) (buf_ld (sel_trans (sel_inp D K) (sel_next (sel_next (sel_next (sel_next (sel_here _ _ _))))))) (Finset.subset_univ _) fun f hf => ?_
    have e2 := e f hf
    rw [show (woM 0).view.readAt (Elt F) (Rect.unit (s := S512x256) off S512x256.size gb).toLoadRect f = D.WO 0 c from e2]; exact h
  | 1 =>
    refine ld_sel (M := woM 1) (I := Finset.univ) (buf_ld (sel_trans (sel_inp D K) (sel_next (sel_next (sel_next (sel_next (sel_next (sel_here _ _ _)))))))) (Finset.subset_univ _) fun f hf => ?_
    have e2 := e f hf
    rw [show (woM 1).view.readAt (Elt F) (Rect.unit (s := S512x256) off S512x256.size gb).toLoadRect f = D.WO 1 c from e2]; exact h
  | 2 =>
    refine ld_sel (M := woM 2) (I := Finset.univ) (buf_ld (sel_trans (sel_inp D K) (sel_next (sel_next (sel_next (sel_next (sel_next (sel_next (sel_last _ _))))))))) (Finset.subset_univ _) fun f hf => ?_
    have e2 := e f hf
    rw [show (woM 2).view.readAt (Elt F) (Rect.unit (s := S512x256) off S512x256.size gb).toLoadRect f = D.WO 2 c from e2]; exact h

/-- A slot read after another slot was written is what it was. -/
theorem read_write_other {e : EltTy} (V : View sig .tc .vmem S512x256 e) {p q : Fin 16} (hpq : p ≠ q) (f : V.ty.Contents (Elt F)) (w : S32x256.Idx → Elt F e) :
    (V.slice (rs p)).read (Elt F) ((V.slice (rs q)).write (Elt F) f w Finset.univ) = (V.slice (rs p)).read (Elt F) f := by
  refine View.read_congr (v := V.slice (rs p)) fun i hi => ?_
  refine View.write_of_not_mem (v := V.slice (rs q)) _ _ _ fun h2 => ?_
  rw [View.setOn_univ] at h2
  have hd : Disjoint (V.slice (rs p)).set (V.slice (rs q)).set := sets_disj V hpq
  exact (Finset.disjoint_left.mp hd) hi h2

/-- A load of the copy of `x` whose value is not used. -/
theorem ld_xb {r : LoadRect S512x256} {hl : xbM.view.LoadsAt r} {k : (r.shape.Idx → Elt F .f32) → Prog (TpuEff nD τ sig (Elt F) Λ₀ .tc) α}
    (h : ∀ w, (St D K c v n b xn po x0 o ⊢ WP c (k w) Q)) :
    St D K c v n b xn po x0 o ⊢ WP c (.op (.load xbM r hl) k) Q :=
  ld_sel (M := xbM) (I := Finset.univ) (buf_ld (sel_xb D K xn)) (Finset.subset_univ _) fun f _ => h _

/-- The store of chunk `q` of the copy. -/
theorem st_xb (q : Fin 16) {w : S32x256.Idx → Elt F .f32} (hq : q.val = xn := by rfl) (hw : w = xin D 0 c q := by exact (shapeCast_self _ _).trans (shapeCast_self _ _))
    {hx : (xbM.access (rs q)).Stores Finset.univ} {hm : (Finset.univ : Finset (rs q).shape.Idx) = Finset.univ ∨ ∀ a, (rs q).stride a = 1}
    {k : PUnit → Prog (TpuEff nD τ sig (Elt F) Λ₀ .tc) α}
    (h : St D K c v n b (xn + 1) po x0 o ⊢ WP c (k ⟨⟩) Q) :
    St D K c v n b xn po x0 o ⊢ WP c (.op (.store xbM (rs q) w Finset.univ hx hm) k) Q := by
  refine st_sel (M := xbM) (I := Finset.univ) (buf_st (sel_xb D K (xn + 1))) (Finset.subset_univ _) (fun f hf p hp => ?_) h
  by_cases hpq : p = q
  · subst hpq; rw [← hw]; exact View.read_write_univ (v := xbM.view.slice (rs p)) _ _
  · exact (read_write_other xbM.view hpq f w).trans (hf p (by have : p.val ≠ q.val := fun h => hpq (Fin.ext h); omega))

/-- The load of a quarter of the copy. -/
theorem ld_xbq (j : Fin 4) {hl : xbM.view.LoadsAt (rq j).toLoadRect} {k : Vec F S128x256 .f32 → Prog (TpuEff nD τ sig (Elt F) Λ₀ .tc) α}
    (h : St D K c v n b 16 po x0 o ⊢ WP c (k (cat4 fun t => xin D 0 c (qs j t))) Q) :
    St D K c v n b 16 po x0 o ⊢ WP c (.op (.load xbM (rq j).toLoadRect hl) k) Q := by
  refine ld_sel (M := xbM) (I := Finset.univ) (buf_ld (sel_xb D K 16)) (Finset.subset_univ _) fun f hf => ?_
  have e : xbM.view.readAt (Elt F) (rq j).toLoadRect f = cat4 fun t => xin D 0 c (qs j t) := by
    refine (read_quarter xbM.view j f).trans ?_
    congr 1; funext t
    exact hf (qs j t) (qs j t).isLt
  rw [e]; exact h

/-- A load of the f32 product whose value is not used. -/
theorem ld_pb {r : LoadRect S512x256} {hl : pbM.view.LoadsAt r} {k : (r.shape.Idx → Elt F .f32) → Prog (TpuEff nD τ sig (Elt F) Λ₀ .tc) α}
    (h : ∀ w, (St D K c v n b xn po x0 o ⊢ WP c (k w) Q)) :
    St D K c v n b xn po x0 o ⊢ WP c (.op (.load pbM r hl) k) Q :=
  ld_sel (M := pbM) (I := Finset.univ) (buf_ld (sel_pb D K po)) (Finset.subset_univ _) fun f _ => h _

/-- The store of a quarter of the f32 product: the last one tells slot 0. -/
theorem st_pb (l : Fin 3) (j : Fin 4) {w : S128x256.Idx → Elt F .f32} (hw : w = pV D l c j)
    {hx : (pbM.access (rq j)).Stores Finset.univ} {hm : (Finset.univ : Finset (rq j).shape.Idx) = Finset.univ ∨ ∀ a, (rq j).stride a = 1}
    {k : PUnit → Prog (TpuEff nD τ sig (Elt F) Λ₀ .tc) α}
    (h : St D K c v n b xn (if j = 0 then some l else none) x0 o ⊢ WP c (k ⟨⟩) Q) :
    St D K c v n b xn po x0 o ⊢ WP c (.op (.store pbM (rq j) w Finset.univ hx hm) k) Q := by
  refine st_sel (M := pbM) (I := Finset.univ) (buf_st (sel_pb D K (if j = 0 then some l else none))) (Finset.subset_univ _) (fun f hf l' hl' => ?_) h
  by_cases hj : j = 0
  · subst hj
    rw [if_pos rfl] at hl'
    have e : l = l' := Option.some.inj hl'
    subst e
    rw [hw]
    exact read_write_quarter pbM.view 0 0 f (pV D l c 0)
  · rw [if_neg hj] at hl'; exact absurd hl' (by simp)

/-- The load of the device's own slot of the product. -/
theorem ld_pb0 (l : Fin 3) {hl : pbM.view.LoadsAt (rs 0).toLoadRect} {k : Vec F S32x256 .f32 → Prog (TpuEff nD τ sig (Elt F) Λ₀ .tc) α}
    (h : St D K c v n b xn (some l) x0 o ⊢ WP c (k (sl 0 (pV D l c 0))) Q) :
    St D K c v n b xn (some l) x0 o ⊢ WP c (.op (.load pbM (rs 0).toLoadRect hl) k) Q := by
  refine ld_sel (M := pbM) (I := Finset.univ) (buf_ld (sel_pb D K (some l))) (Finset.subset_univ _) fun f hf => ?_
  have e : pbM.view.readAt (Elt F) (rs 0).toLoadRect f = sl 0 (pV D l c 0) := hf l rfl
  rw [e]; exact h

/-- The load of the result's buffer, whose value is not used, and the store of the result. -/
theorem ld_out {r : LoadRect S32x256} {hl : oM.view.LoadsAt r} {k : (r.shape.Idx → Elt F .f32) → Prog (TpuEff nD τ sig (Elt F) Λ₀ .tc) α}
    (h : ∀ w, (St D K c v n b xn po x0 o ⊢ WP c (k w) Q)) :
    St D K c v n b xn po x0 o ⊢ WP c (.op (.load oM r hl) k) Q :=
  ld_sel (M := oM) (I := Finset.univ) (buf_ld (sel_out D K o)) (Finset.subset_univ _) fun f _ => h _

theorem st_out {off : Fin 2 → ℕ} {gb : ∀ a, off a + S32x256.size a ≤ S32x256.size a} {w : S32x256.Idx → Elt F .f32} (hw : w = accV D 2 c) (h0 : ∀ a, off a = 0 := by decide)
    {hx : (oM.access (Rect.unit (s := S32x256) off S32x256.size gb)).Stores Finset.univ}
    {hm : (Finset.univ : Finset (Rect.unit (s := S32x256) off S32x256.size gb).shape.Idx) = Finset.univ ∨ ∀ a, (Rect.unit (s := S32x256) off S32x256.size gb).stride a = 1}
    {k : PUnit → Prog (TpuEff nD τ sig (Elt F) Λ₀ .tc) α}
    (h : St D K c v n b xn po x0 true ⊢ WP c (k ⟨⟩) Q) :
    St D K c v n b xn po x0 o ⊢ WP c (.op (.store oM (Rect.unit (s := S32x256) off S32x256.size gb) w Finset.univ hx hm) k) Q := by
  refine st_sel (M := oM) (I := Finset.univ) (buf_st (sel_out D K true)) (Finset.subset_univ _) (fun f hf _ => ?_) h
  have e := View.read_write_univ (v := oM.view.slice (Rect.unit (s := S32x256) off S32x256.size gb)) (Val := Elt F) f w
  funext i
  have e2 := congrFun e i
  rw [← hw]
  refine Eq.trans ?_ e2
  show _ = (oM.access (Rect.unit (s := S32x256) off S32x256.size gb)).write (Elt F) f w Finset.univ ((Rect.unit (s := S32x256) off S32x256.size gb).emb i)
  rw [emb_full gb h0]

end Whole

end Cert.Mlp
-- ==== Proof.Cut.lean ====
/-
# The steps that load and store what is held by slots

The rounded product, the gather buffer and the receive buffers are held slot by slot. A quarter of four slots is put
together, loaded or stored, and taken apart again; the source rows of a gather are shared out and collected over all slots.
-/
module

public import proofs.«01_k».proof.Proof.Mem
public import Idealize.SL.ProofMode.BigOp

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (D : In F) (K : Dev nD × CI → ℕ)

variable {c : Dev nD} {v v' : Fin 16 → ℕ} {n : ℕ} {R S S' : sProp (MT nD τ sig ℕ (Elt F) ℕ UU ℕ)} {α : Type} {Q : α → sProp (MT nD τ sig ℕ (Elt F) ℕ UU ℕ)}

/-! ## Taking an atom out of every slot of a set -/

theorem big_wand {ι : Type} [DecidableEq ι] (T : Finset ι) (B C : ι → sProp 𝕄) : iprop(bigSep T B ∗ bigSep T (fun i => iprop(B i -∗ C i))) ⊢ bigSep T C := by
  refine (Entails.of_eq (bigSep_sep _ _ _).symm).trans (bigSep_mono fun i _ => ?_)
  show iprop(B i ∗ (B i -∗ C i)) ⊢ C i
  iintro ⟨H1, H2⟩
  iapply H2
  iexact H1

theorem slot_one (p : Fin 16) {s s' : ℕ} {a b : Atom} (h : Tr s s' [a] [b]) : slot D c p s ⊢ iprop(atom D c p a ∗ (atom D c p b -∗ slot D c p s')) := by
  have h1 := slot_step D c p h
  rw [atoms_cons, atoms_nil, atoms_cons, atoms_nil] at h1
  iintro H
  ihave H := h1 $$ H
  icases H with ⟨⟨H1, -⟩, H2⟩
  isplitl [H1]; · iexact H1
  iintro H3
  iapply H2
  isplitl [H3]; · iexact H3
  iempintro

theorem slot_out (p : Fin 16) {s s' : ℕ} {a : Atom} (h : Tr s s' [a] []) : slot D c p s ⊢ iprop(atom D c p a ∗ (emp -∗ slot D c p s')) := by
  have h1 := slot_step D c p h
  rw [atoms_cons, atoms_nil] at h1
  iintro H
  ihave H := h1 $$ H
  icases H with ⟨⟨H1, -⟩, H2⟩
  isplitl [H1]; · iexact H1
  iexact H2

theorem slot_in (p : Fin 16) {s s' : ℕ} {b : Atom} (h : Tr s s' [] [b]) : slot D c p s ⊢ iprop(emp ∗ (atom D c p b -∗ slot D c p s')) := by
  have h1 := slot_step D c p h
  rw [atoms_nil, atoms_cons, atoms_nil] at h1
  iintro H
  ihave H := h1 $$ H
  icases H with ⟨-, H2⟩
  isplitr; · iempintro
  iintro H3
  iapply H2
  isplitl [H3]; · iexact H3
  iempintro

theorem slots_sel (T : Finset (Fin 16)) {A B : Fin 16 → sProp 𝕄} (hT : ∀ p ∈ T, slot D c p (v p) ⊢ iprop(A p ∗ (B p -∗ slot D c p (v' p)))) (hv : ∀ p, p ∉ T → v' p = v p) :
    slots D c v ⊢ iprop(bigSep T A ∗ (bigSep T B -∗ slots D c v')) := by
  have hU : ∀ f : Fin 16 → sProp 𝕄, bigSep Finset.univ f = iprop(bigSep T f ∗ bigSep (Finset.univ \ T) f) := fun f => by
    have e := bigSep_union (Φ := f) (Finset.disjoint_sdiff (s := T) (t := Finset.univ))
    rw [Finset.union_sdiff_of_subset (Finset.subset_univ T)] at e
    exact e
  unfold slots
  rw [hU, hU]
  rw [bigSep_congr (s := Finset.univ \ T) (Φ := fun q => slot D c q (v' q)) (Ψ := fun q => slot D c q (v q))
    (fun q hq => by rw [hv q (Finset.mem_sdiff.mp hq).2])]
  have h1 : bigSep T (fun p => slot D c p (v p)) ⊢ iprop(bigSep T A ∗ bigSep T fun p => iprop(B p -∗ slot D c p (v' p))) :=
    (bigSep_mono hT).trans (Entails.of_eq (bigSep_sep _ _ _))
  iintro ⟨H1, H2⟩
  ihave H1 := h1 $$ H1
  icases H1 with ⟨HA, HB⟩
  isplitl [HA]; · iexact HA
  iintro H3
  isplitl [HB H3]
  · iapply (big_wand T B fun p => slot D c p (v' p))
    isplitl [H3]; · iexact H3
    iexact HB
  iexact H2

theorem core_sel {X Y : sProp 𝕄} (h : slots D c v ⊢ iprop(X ∗ (Y -∗ slots D c v'))) : core D K c v n ⊢ iprop(X ∗ (Y -∗ core D K c v' n)) := by
  unfold core
  iintro ⟨#HK, #HL, HS, HO⟩
  ihave HS := h $$ HS
  icases HS with ⟨HX, HS⟩
  isplitl [HX]; · iexact HX
  iintro HY
  isplitr; · iexact HK
  isplitr; · iexact HL
  isplitl [HS HY]
  · iapply HS; iexact HY
  iexact HO

theorem sel_core {X Y : sProp 𝕄} (h : slots D c v ⊢ iprop(X ∗ (Y -∗ slots D c v'))) : iprop(core D K c v n ∗ R) ⊢ iprop(X ∗ (Y -∗ (core D K c v' n ∗ R))) := by
  iintro ⟨H, HR⟩
  ihave H := (core_sel D K h) $$ H
  icases H with ⟨HX, HY⟩
  isplitl [HX]; · iexact HX
  iintro H
  isplitl [HY H]
  · iapply HY; iexact H
  iexact HR

/-! ## Quarters -/

/-- The four slots of quarter `j`. -/
def Qs (j : Fin 4) : Finset (Fin 16) := Finset.univ.map ⟨qs j, fun _ _ h => qs_inj h⟩
theorem mem_Qs {j : Fin 4} {p : Fin 16} : p ∈ Qs j ↔ ∃ t, qs j t = p := by
  unfold Qs; rw [Finset.mem_map]
  exact ⟨fun ⟨t, _, h⟩ => ⟨t, h⟩, fun ⟨t, h⟩ => ⟨t, Finset.mem_univ _, h⟩⟩
theorem big_Qs (j : Fin 4) (f : Fin 16 → sProp 𝕄) : bigSep (Qs j) f = bigSep Finset.univ fun t => f (qs j t) := by
  unfold Qs; exact bigSep_map (Φ := f) _

/-- What slot `p` of a buffer reads. -/
abbrev slr {e : EltTy} (V : View sig .tc .vmem S512x256 e) (p : Fin 16) (f : V.ty.Contents (Elt F)) : S32x256.Idx → Elt F e := (V.slice (rs p)).read (Elt F) f

section Quarter
variable (V : View sig .tc .vmem S512x256 .bf16) (j : Fin 4) (q : PosShare TreeShare)

/-- Four slots put together. -/
theorem q_join (w : Fin 4 → S32x256.Idx → Elt F .bf16) :
    (bigSep Finset.univ fun t => iprop(∃ f, ⌜slr V (qs j t) f = w t⌝ ∗ (V.loc (c : Thread nD τ) ↦[(V.slice (rs (qs j t))).set]{q} f)) : sProp 𝕄)
      ⊢ iprop(∃ g, ⌜∀ t, slr V (qs j t) g = w t⌝ ∗ (V.loc (c : Thread nD τ) ↦[(V.slice (rq j)).set]{q} g)) := by
  refine (bigSep_exists_pi _ _).trans ?_
  iintro ⟨%f, H⟩
  ihave H := (bigSep_pure_sep _ _ _) $$ H
  icases H with ⟨%hf, H⟩
  have hd : ∀ t ∈ (Finset.univ : Finset (Fin 4)), ∀ t' ∈ (Finset.univ : Finset (Fin 4)), t ≠ t' →
      Disjoint (V.slice (rs (qs j t))).set (V.slice (rs (qs j t'))).set := fun t _ t' _ h => sets_disj V fun e => h (qs_inj e)
  have hj := pointsTo_biUnion_join (ℓ := V.loc (c : Thread nD τ)) (q := q) (Ix := ℕ) (Name := ℕ) (U := UU) (Lvl := ℕ) (Val := Elt F)
    Finset.univ (fun t => (V.slice (rs (qs j t))).set) f (f 0) hd
  rw [← setq_eq] at hj
  ihave H := hj $$ H
  icases H with ⟨%g, %hg, H⟩
  iexists g
  isplitr
  · ipureintro
    intro t
    exact (View.read_congr fun i hi => hg t (Finset.mem_univ _) i hi).trans (hf t (Finset.mem_univ _))
  iexact H

/-- A quarter taken apart. -/
theorem q_split (g : V.ty.Contents (Elt F)) :
    (V.loc (c : Thread nD τ) ↦[(V.slice (rq j)).set]{q} g : sProp 𝕄)
      ⊢ bigSep Finset.univ fun t => iprop(∃ f, ⌜slr V (qs j t) f = slr V (qs j t) g⌝ ∗ (V.loc (c : Thread nD τ) ↦[(V.slice (rs (qs j t))).set]{q} f)) := by
  have hd : ∀ t ∈ (Finset.univ : Finset (Fin 4)), ∀ t' ∈ (Finset.univ : Finset (Fin 4)), t ≠ t' →
      Disjoint (V.slice (rs (qs j t))).set (V.slice (rs (qs j t'))).set := fun t _ t' _ h => sets_disj V fun e => h (qs_inj e)
  rw [setq_eq, pointsTo_biUnion Finset.univ _ hd]
  refine bigSep_mono fun t _ => ?_
  show (V.loc (c : Thread nD τ) ↦[(V.slice (rs (qs j t))).set]{q} g : sProp 𝕄)
    ⊢ iprop(∃ f, ⌜slr V (qs j t) f = slr V (qs j t) g⌝ ∗ (V.loc (c : Thread nD τ) ↦[(V.slice (rs (qs j t))).set]{q} f))
  iintro H
  iexists g
  isplitr; · ipureintro; rfl
  iexact H

end Quarter

/-- A memref's contents are determined where it reads the same. -/
theorem read_inj {s : Shape} {e : EltTy} {V : View sig .tc .vmem s e} {f g : V.ty.Contents (Elt F)} (h : V.read (Elt F) f = V.read (Elt F) g) : ∀ i ∈ V.set, f i = g i := by
  intro i hi
  obtain ⟨x, -, rfl⟩ := Finset.mem_map.mp hi
  have e := congrFun h x
  rw [View.read_apply, View.read_apply] at e
  exact cast_inj _ |>.mp e

theorem gar_hol {s : Shape} {e : EltTy} (M : Memref sig .tc .vmem s e) : gar (F := F) c M ⊢ iprop(∃ w : s.Idx → Elt F e, hol c M fullShare w) := by
  unfold gar hol owns
  iintro ⟨%f, H⟩
  iexists M.view.read (Elt F) f
  iexists f
  isplitr; · ipureintro; rfl
  iexact H

/-- Two readings of the same share-of-a-buffer kind agree in contents. -/
theorem hol_at {s : Shape} {e : EltTy} (M : Memref sig .tc .vmem s e) (q : PosShare TreeShare) (f : Buf (Elt F) (M.view.loc (c : Thread nD τ))) :
    hol c M q (M.view.read (Elt F) f) ⊢ (M.view.loc (c : Thread nD τ) ↦[M.view.set]{q} f : sProp 𝕄) := by
  unfold hol owns
  iintro ⟨%g, %hg, H⟩
  ihave H := (Entails.of_eq (pointsTo_congr (q := q) (read_inj hg))) $$ H
  iexact H

/-- A memref held whole, shared out in sixteen. -/
theorem hol_leaves {s : Shape} {e : EltTy} (M : Memref sig .tc .vmem s e) (w : s.Idx → Elt F e) :
    hol c M fullShare w ⊢ bigSep Finset.univ fun p : Fin 16 => hol c M (lf p) w := by
  unfold hol owns
  iintro ⟨%f, %hf, H⟩
  ihave H := (Entails.of_eq (ShareLeaves.pointsTo_leaves M.view.set f 4 fullShare)) $$ H
  have hm : (bigSep Finset.univ fun i : Fin (2 ^ 4) => (M.view.loc (c : Thread nD τ) ↦[M.view.set]{ShareLeaves.leaf 4 fullShare i} f : sProp 𝕄))
      ⊢ bigSep Finset.univ fun p : Fin 16 => iprop(∃ f, ⌜M.view.read (Elt F) f = w⌝ ∗ (M.view.loc (c : Thread nD τ) ↦[M.view.set]{lf p} f : sProp 𝕄)) := by
    refine bigSep_mono fun p _ => ?_
    show (M.view.loc (c : Thread nD τ) ↦[M.view.set]{lf p} f : sProp 𝕄) ⊢ iprop(∃ f, ⌜M.view.read (Elt F) f = w⌝ ∗ (M.view.loc (c : Thread nD τ) ↦[M.view.set]{lf p} f : sProp 𝕄))
    iintro H
    iexists f
    isplitr; · ipureintro; exact hf
    iexact H
  iapply hm
  iexact H

theorem leaves_hol {s : Shape} {e : EltTy} (M : Memref sig .tc .vmem s e) (w : s.Idx → Elt F e) :
    (bigSep Finset.univ fun p : Fin 16 => hol c M (lf p) w) ⊢ hol c M fullShare w := by
  have e0 : (bigSep Finset.univ fun p : Fin 16 => hol c M (lf p) w) = iprop(hol c M (lf 0) w ∗ bigSep (Finset.univ.erase 0) fun p : Fin 16 => hol c M (lf p) w) :=
    bigSep_erase (Finset.mem_univ 0)
  rw [e0]
  have hrest : ∀ f : Buf (Elt F) (M.view.loc (c : Thread nD τ)), M.view.read (Elt F) f = w →
      ((bigSep (Finset.univ.erase 0) fun p : Fin 16 => hol c M (lf p) w) ⊢ bigSep (Finset.univ.erase 0) fun p : Fin 16 => (M.view.loc (c : Thread nD τ) ↦[M.view.set]{lf p} f : sProp 𝕄)) := by
    intro f hf; subst hf
    exact bigSep_mono fun p _ => hol_at M (lf p) f
  have back : ∀ f : Buf (Elt F) (M.view.loc (c : Thread nD τ)),
      (iprop((M.view.loc (c : Thread nD τ) ↦[M.view.set]{lf 0} f) ∗ bigSep (Finset.univ.erase 0) fun p : Fin 16 => (M.view.loc (c : Thread nD τ) ↦[M.view.set]{lf p} f)) : sProp 𝕄)
        ⊢ (M.view.loc (c : Thread nD τ) ↦[M.view.set]{fullShare} f) := by
    intro f
    rw [ShareLeaves.pointsTo_leaves M.view.set f 4 fullShare]
    exact Entails.of_eq (bigSep_erase (s := (Finset.univ : Finset (Fin 16))) (Φ := fun p : Fin 16 => (M.view.loc (c : Thread nD τ) ↦[M.view.set]{lf p} f : sProp 𝕄)) (Finset.mem_univ 0)).symm
  iintro ⟨H0, HR⟩
  ihave H0 := (Entails.of_eq (show hol c M (lf 0) w = iprop(∃ f, ⌜M.view.read (Elt F) f = w⌝ ∗ (M.view.loc (c : Thread nD τ) ↦[M.view.set]{lf 0} f : sProp 𝕄)) from rfl)) $$ H0
  icases H0 with ⟨%f, %hf, H0⟩
  ihave HR := (hrest f hf) $$ HR
  iapply (Entails.of_eq (show hol c M fullShare w = iprop(∃ f, ⌜M.view.read (Elt F) f = w⌝ ∗ (M.view.loc (c : Thread nD τ) ↦[M.view.set]{fullShare} f : sProp 𝕄)) from rfl).symm)
  iexists f
  isplitr; · ipureintro; exact hf
  iapply (back f)
  isplitl [H0]; · iexact H0
  iexact HR

/-- One share lent out of a memref held whole. -/
theorem hol_lend {s : Shape} {e : EltTy} (M : Memref sig .tc .vmem s e) (w : s.Idx → Elt F e) :
    hol c M fullShare w ⊢ iprop(hol c M (lf 0) w ∗ (hol c M (lf 0) w -∗ hol c M fullShare w)) := by
  refine (hol_leaves M w).trans ?_
  have e0 : (bigSep Finset.univ fun p : Fin 16 => hol c M (lf p) w) = iprop(hol c M (lf 0) w ∗ bigSep (Finset.univ.erase 0) fun p : Fin 16 => hol c M (lf p) w) :=
    bigSep_erase (Finset.mem_univ 0)
  have h2 := leaves_hol (c := c) M w
  rw [e0] at h2 ⊢
  iintro ⟨H0, HR⟩
  isplitl [H0]; · iexact H0
  iintro H0
  iapply h2
  isplitl [H0]; · iexact H0
  iexact HR

end Cert.Mlp
-- ==== Proof.Quart.lean ====
/-
# The kernel's loads and stores of what is held by slots

A quarter of the rounded product is stored, a quarter of the gather buffer loaded, a received slot loaded, the source rows
of a gather collected, stored and shared out.
-/
module

public import proofs.«01_k».proof.Proof.Cut

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (D : In F) (K : Dev nD × CI → ℕ)

variable {c : Dev nD} {v v' : Fin 16 → ℕ} {n : ℕ} {R S S' : sProp (MT nD τ sig ℕ (Elt F) ℕ UU ℕ)} {α : Type} {Q : α → sProp (MT nD τ sig ℕ (Elt F) ℕ UU ℕ)}

/-! ## Loads and stores from an existential -/

theorem ld_ex {s : Shape} {e : EltTy} {M : Memref sig .tc .vmem s e} {r : LoadRect s} {hl : M.view.LoadsAt r}
    {k : (r.shape.Idx → Elt F e) → Prog (TpuEff nD τ sig (Elt F) Λ₀ .tc) α}
    {I : Finset (Idx (M.view.loc (c : Thread nD τ)))} {q : PosShare TreeShare} {φ : Buf (Elt F) (M.view.loc (c : Thread nD τ)) → Prop}
    (hs : S ⊢ iprop((∃ f, ⌜φ f⌝ ∗ (M.view.loc (c : Thread nD τ) ↦[I]{q} f)) ∗ ((∃ f, ⌜φ f⌝ ∗ (M.view.loc (c : Thread nD τ) ↦[I]{q} f)) -∗ S)))
    (hI : M.view.setOn r.set ⊆ I) (h : ∀ f, φ f → (S ⊢ WP c (k (M.view.readAt (Elt F) r f)) Q)) :
    S ⊢ WP c (.op (.load M r hl) k) Q := by
  refine ld_sel (φ := φ) (q := q) ?_ hI h
  refine hs.trans ?_
  iintro ⟨⟨%f, %hf, H⟩, HS⟩
  iexists f
  isplitr; · ipureintro; exact hf
  isplitl [H]; · iexact H
  iintro H
  iapply HS
  iexists f
  isplitr; · ipureintro; exact hf
  iexact H

theorem st_ex {s : Shape} {e : EltTy} {M : Memref sig .tc .vmem s e} {r : Rect s} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α}
    {I : Finset (Idx ((M.access r).loc (c : Thread nD τ)))} {ψ : Buf (Elt F) ((M.access r).loc (c : Thread nD τ)) → Prop}
    (hs : S ⊢ iprop((∃ f, ((M.access r).loc (c : Thread nD τ) ↦[I]{fullShare} f))
      ∗ ((∃ g, ⌜ψ g⌝ ∗ ((M.access r).loc (c : Thread nD τ) ↦[I]{fullShare} g)) -∗ S')))
    (hI : (M.access r).setOn Finset.univ ⊆ I) (hw : ∀ f, ψ ((M.access r).write (Elt F) f w Finset.univ)) (h : S' ⊢ WP c (k ⟨⟩) Q) :
    S ⊢ WP c (.op (.store M r w Finset.univ hx hm) k) Q := by
  refine st_sel (φ := fun _ => True) (ψ := ψ) ?_ hI (fun f _ => hw f) h
  refine hs.trans ?_
  iintro ⟨⟨%f, H⟩, HS⟩
  iexists f
  isplitr; · ipureintro; exact trivial
  isplitl [H]; · iexact H
  iintro %g ⟨%hg, H⟩
  iapply HS
  iexists g
  isplitr; · ipureintro; exact hg
  iexact H

theorem sel_map {X X' Y Y' : sProp 𝕄} (hX : X ⊢ X') (hY : Y' ⊢ Y) (h : S ⊢ iprop(X ∗ (Y -∗ S'))) : S ⊢ iprop(X' ∗ (Y' -∗ S')) := by
  refine h.trans ?_
  iintro ⟨HX, HS⟩
  isplitl [HX]; · iapply hX; iexact HX
  iintro HY
  iapply HS
  iapply hY
  iexact HY

/-! ## The rounded product, by quarters -/

/-- The stages after quarter `j`'s slots went to stage `s`. -/
def qup (j : Fin 4) (s : ℕ) (v : Fin 16 → ℕ) : Fin 16 → ℕ := fun p => if p ≠ 0 ∧ jq p = j then s else v p

theorem jq_qs (j t : Fin 4) : jq (qs j t) = j := by revert j t; decide
theorem jt_qs (j t : Fin 4) : jt (qs j t) = t := by revert j t; decide
theorem qs_jq (p : Fin 16) : qs (jq p) (jt p) = p := by revert p; decide

theorem pf_slots (l : Fin 3) (j : Fin 4) {s s' : ℕ} (ht : Tr s s' [.pbo] [.pbv l]) (hv : ∀ t, qs j t ≠ 0 → v (qs j t) = s) (h0 : Tr (v 0) (v 0) [.pbo] [.pbo]) :
    slots D c v ⊢ iprop(bigSep (Qs j) (fun p => gar c (pfS p)) ∗ (bigSep (Qs j) (fun p => hol c (pfS p) fullShare (rsV D l c p)) -∗ slots D c (qup j s' v))) := by
  refine slots_sel D (Qs j) (fun p hp => ?_) (fun p hp => ?_)
  · obtain ⟨t, rfl⟩ := mem_Qs.mp hp
    by_cases hz : qs j t = 0
    · have e : qup j s' v (qs j t) = v 0 := by unfold qup; rw [if_neg (fun h => h.1 hz), hz]
      rw [e, hz]
      exact sel_map .rfl (hol_gar c _ _) (slot_one D 0 (a := .pbo) (b := .pbo) h0)
    · have e : qup j s' v (qs j t) = s' := by unfold qup; rw [if_pos ⟨hz, jq_qs j t⟩]
      rw [e, hv t hz]
      exact slot_one D (qs j t) (a := .pbo) (b := .pbv l) ht
  · unfold qup
    refine if_neg fun h => hp (mem_Qs.mpr ⟨jt p, ?_⟩)
    rw [← h.2]; exact qs_jq p

theorem pf_sel (l : Fin 3) (j : Fin 4) {s s' : ℕ} (ht : Tr s s' [.pbo] [.pbv l]) (hv : ∀ t, qs j t ≠ 0 → v (qs j t) = s) (h0 : Tr (v 0) (v 0) [.pbo] [.pbo]) :
    slots D c v ⊢ iprop((∃ f, (pfM.view.loc (c : Thread nD τ) ↦[(pfM.view.slice (rq j)).set]{fullShare} f))
      ∗ ((∃ g, ⌜∀ t, slr pfM.view (qs j t) g = rsV D l c (qs j t)⌝ ∗ (pfM.view.loc (c : Thread nD τ) ↦[(pfM.view.slice (rq j)).set]{fullShare} g)) -∗ slots D c (qup j s' v))) := by
  refine sel_map ?_ ?_ (pf_slots D l j ht hv h0)
  · rw [big_Qs]
    have hm : (bigSep Finset.univ fun t : Fin 4 => gar (F := F) c (pfS (qs j t))) ⊢ bigSep Finset.univ fun t : Fin 4 => iprop(∃ w : S32x256.Idx → Elt F .bf16, hol c (pfS (qs j t)) fullShare w) :=
      bigSep_mono fun t _ => gar_hol (pfS (qs j t))
    haveI : Nonempty (S32x256.Idx → Elt F .bf16) := ⟨rsV D l c 0⟩
    refine hm.trans ((bigSep_exists_pi _ _).trans ?_)
    iintro ⟨%w, H⟩
    have hq : (bigSep Finset.univ fun t : Fin 4 => hol c (pfS (qs j t)) fullShare (w t)) ⊢ _ := q_join (c := c) pfM.view j fullShare w
    ihave H := hq $$ H
    icases H with ⟨%g, -, H⟩
    iexists g
    iexact H
  · rw [big_Qs]
    iintro ⟨%g, %hg, H⟩
    have hq := q_split (c := c) pfM.view j fullShare g
    simp only [hg] at hq
    iapply hq
    iexact H

section Whole

variable {b : Bool} {xn : ℕ} {po : Option (Fin 3)} {x0 o : Bool}

/-- A load of a quarter of the rounded product whose value is not used. -/
theorem ld_pf (j : Fin 4) (s : ℕ) (ht : Tr s s [.pbo] [.pbo] := by decide) (hv : ∀ t, qs j t ≠ 0 → v (qs j t) = s := by decide) (h0 : Tr (v 0) (v 0) [.pbo] [.pbo] := by decide)
    {hl : pfM.view.LoadsAt (rq j).toLoadRect} {k : Vec F S128x256 .bf16 → Prog (TpuEff nD τ sig (Elt F) Λ₀ .tc) α}
    (h : ∀ w, (iprop(core D K c v n ∗ R) ⊢ WP c (k w) Q)) :
    iprop(core D K c v n ∗ R) ⊢ WP c (.op (.load pfM (rq j).toLoadRect hl) k) Q := by
  have hg : slots D c v ⊢ iprop(bigSep (Qs j) (fun p => gar c (pfS p)) ∗ (bigSep (Qs j) (fun p => gar c (pfS p)) -∗ slots D c v)) := by
    refine slots_sel D (Qs j) (fun p hp => ?_) (fun p hp => rfl)
    obtain ⟨t, rfl⟩ := mem_Qs.mp hp
    by_cases hz : qs j t = 0
    · rw [hz]; exact slot_one D 0 (a := .pbo) (b := .pbo) h0
    · rw [hv t hz]; exact slot_one D (qs j t) (a := .pbo) (b := .pbo) ht
  refine ld_ex (q := fullShare) (I := (pfM.view.slice (rq j)).set) (φ := fun _ => True) (sel_core D K (sel_map ?_ ?_ hg)) (View.set_slice _ _).symm.subset (fun f _ => h _)
  · rw [big_Qs]
    have hm : (bigSep Finset.univ fun t : Fin 4 => gar (F := F) c (pfS (qs j t))) ⊢ bigSep Finset.univ fun t : Fin 4 => iprop(∃ w : S32x256.Idx → Elt F .bf16, hol c (pfS (qs j t)) fullShare w) :=
      bigSep_mono fun t _ => gar_hol (pfS (qs j t))
    haveI : Nonempty (S32x256.Idx → Elt F .bf16) := ⟨rsV D 0 c 0⟩
    refine hm.trans ((bigSep_exists_pi _ _).trans ?_)
    iintro ⟨%w, H⟩
    have hq : (bigSep Finset.univ fun t : Fin 4 => hol c (pfS (qs j t)) fullShare (w t)) ⊢ _ := q_join (c := c) pfM.view j fullShare w
    ihave H := hq $$ H
    icases H with ⟨%g, -, H⟩
    iexists g
    isplitr; · ipureintro; exact trivial
    iexact H
  · rw [big_Qs]
    iintro ⟨%g, -, H⟩
    have hm : ∀ w : Fin 4 → S32x256.Idx → Elt F .bf16, (bigSep Finset.univ fun t : Fin 4 => hol c (pfS (qs j t)) fullShare (w t)) ⊢ bigSep Finset.univ fun t : Fin 4 => gar (F := F) c (pfS (qs j t)) :=
      fun w => bigSep_mono fun t _ => hol_gar c (pfS (qs j t)) (w t)
    iapply (hm fun t => slr pfM.view (qs j t) g)
    iapply (q_split (c := c) pfM.view j fullShare g)
    iexact H

/-- The store of quarter `j` of the rounded product. -/
theorem st_pf (l : Fin 3) (j : Fin 4) (s s' : ℕ) {w : S128x256.Idx → Elt F .bf16} (hw : w = tr (pV D l c j))
    (ht : Tr s s' [.pbo] [.pbv l] := by decide) (hv : ∀ t, qs j t ≠ 0 → v (qs j t) = s := by decide) (h0 : Tr (v 0) (v 0) [.pbo] [.pbo] := by decide)
    {hx : (pfM.access (rq j)).Stores Finset.univ} {hm : (Finset.univ : Finset (rq j).shape.Idx) = Finset.univ ∨ ∀ a, (rq j).stride a = 1}
    {k : PUnit → Prog (TpuEff nD τ sig (Elt F) Λ₀ .tc) α}
    (h : iprop(core D K c (qup j s' v) n ∗ R) ⊢ WP c (k ⟨⟩) Q) :
    iprop(core D K c v n ∗ R) ⊢ WP c (.op (.store pfM (rq j) w Finset.univ hx hm) k) Q := by
  refine st_ex (sel_core D K (pf_sel D l j ht hv h0)) (by rw [View.setOn_univ]) (fun f t => ?_) h
  refine (read_write_quarter pfM.view j t f w).trans ?_
  unfold rsV
  rw [jq_qs, jt_qs, hw]

/-! ## The gather buffer, by quarters -/

/-- What slot `p` of the gather buffer holds. -/
abbrev agW (r : Fin 3) (c : Dev nD) (p : Fin 16) : S32x256.Idx → Elt F .bf16 := agV D r (ddn c p)

theorem xg_slots (r : Fin 3) (j : Fin 4) {s : ℕ} (ht : Tr s s [.xgv r] [.xgv r]) (hv : ∀ t, qs j t ≠ 0 → v (qs j t) = s) (h0 : v 0 = 101 + r.val) (hr : r.val < 2) :
    slots D c v ⊢ iprop(bigSep (Qs j) (fun p => hol c (xgS p) (lf 0) (agW D r c p)) ∗ (bigSep (Qs j) (fun p => hol c (xgS p) (lf 0) (agW D r c p)) -∗ slots D c v)) := by
  refine slots_sel D (Qs j) (fun p hp => ?_) (fun p hp => rfl)
  obtain ⟨t, rfl⟩ := mem_Qs.mp hp
  by_cases hz : qs j t = 0
  · rw [hz, h0]
    have ht : ∀ r : Fin 3, r.val < 2 → Tr (101 + r.val) (101 + r.val) [.lfa r] [.lfa r] := by decide
    have e : agW D r c 0 = agV D r c := by unfold agW; rw [ddn_zero]
    rw [e]
    exact slot_one D 0 (a := .lfa r) (b := .lfa r) (ht r hr)
  · rw [hv t hz]
    have h1 := slot_one D (c := c) (qs j t) (a := .xgv r) (b := .xgv r) ht
    have h2 := hol_lend (c := c) (xgS (qs j t)) (agW D r c (qs j t))
    iintro H
    ihave H := h1 $$ H
    icases H with ⟨H, HS⟩
    ihave H := (Entails.of_eq (show atom D c (qs j t) (.xgv r) = hol c (xgS (qs j t)) fullShare (agW D r c (qs j t)) from rfl)) $$ H
    ihave H := h2 $$ H
    icases H with ⟨H, HB⟩
    isplitl [H]; · iexact H
    iintro H
    iapply HS
    iapply (Entails.of_eq (show atom D c (qs j t) (.xgv r) = hol c (xgS (qs j t)) fullShare (agW D r c (qs j t)) from rfl).symm)
    iapply HB
    iexact H

/-- The load of quarter `j` of the gather buffer. -/
theorem ld_xgq (r : Fin 3) (j : Fin 4) (s : ℕ) (hr : r.val < 2 := by decide) (ht : Tr s s [.xgv r] [.xgv r] := by decide)
    (hv : ∀ t, qs j t ≠ 0 → v (qs j t) = s := by decide) (h0 : v 0 = 101 + r.val := by rfl)
    {hl : xgM.view.LoadsAt (rq j).toLoadRect} {k : Vec F S128x256 .bf16 → Prog (TpuEff nD τ sig (Elt F) Λ₀ .tc) α}
    (h : iprop(core D K c v n ∗ R) ⊢ WP c (k (cat4 fun t => agW D r c (qs j t))) Q) :
    iprop(core D K c v n ∗ R) ⊢ WP c (.op (.load xgM (rq j).toLoadRect hl) k) Q := by
  refine ld_ex (q := lf 0) (I := (xgM.view.slice (rq j)).set) (φ := fun g => ∀ t, slr xgM.view (qs j t) g = agW D r c (qs j t))
    (sel_core D K (sel_map ?_ ?_ (xg_slots D r j ht hv h0 hr))) (View.set_slice _ _).symm.subset (fun f hf => ?_)
  · rw [big_Qs]
    exact q_join (c := c) xgM.view j (lf 0) fun t => agW D r c (qs j t)
  · rw [big_Qs]
    iintro ⟨%g, %hg, H⟩
    have hq := q_split (c := c) xgM.view j (lf 0) g
    simp only [hg] at hq
    iapply hq
    iexact H
  · have e : xgM.view.readAt (Elt F) (rq j).toLoadRect f = cat4 fun t => agW D r c (qs j t) := by
      refine (read_quarter xgM.view j f).trans ?_
      congr 1; funext t
      exact hf t
    rw [e]; exact h

/-! ## A received slot -/

theorem cast3 : S32x256.ShapeCasts S1x32x256 := by decide

/-- Layer `l`'s receive buffer. -/
def crW : Fin 3 → Memref sig .tc .vmem S16x32x256 .bf16
  | 0 => Memref.whole cc0_scratch4 | 1 => Memref.whole cc0_scratch4 | 2 => Memref.whole cc0_scratch5

theorem crS_eq (l : Fin 3) (p : Fin 16) : crS l p = ((crW l).slice (r3 p) (fun _ => rfl)).squeeze S32x256 squeezes_S1x32x256_S32x256 :=
  match l with | 0 => rfl | 1 => rfl | 2 => rfl

/-- The load of slot `p` of what was received in layer `l`. -/
theorem ld_cr (l : Fin 3) (p : Fin 16) {s : ℕ} (hv : v p = s := by rfl) (ht : Tr s s [.crv l] [.crv l] := by decide)
    {M : Memref sig .tc .vmem S16x32x256 .bf16} (hM : M = crW l := by rfl)
    {hl : M.view.LoadsAt (r3 p).toLoadRect} {k : Vec F S1x32x256 .bf16 → Prog (TpuEff nD τ sig (Elt F) Λ₀ .tc) α}
    (h : iprop(core D K c v n ∗ R) ⊢ WP c (k (shapeCast S1x32x256 (rsV D l (dup c p) p) cast3)) Q) :
    iprop(core D K c v n ∗ R) ⊢ WP c (.op (.load M (r3 p).toLoadRect hl) k) Q := by
  have hg : slots D c v ⊢ iprop(hol c (crS l p) fullShare (rsV D l (dup c p) p) ∗ (hol c (crS l p) fullShare (rsV D l (dup c p) p) -∗ slots D c v)) := by
    have h1 := slots_sel D (c := c) (v := v) (v' := v) {p} (A := fun p => atom D c p (.crv l)) (B := fun p => atom D c p (.crv l))
      (fun q hq => by rw [Finset.mem_singleton.mp hq, hv]; exact slot_one D p ht) (fun _ _ => rfl)
    rw [bigSep_singleton] at h1
    exact h1
  have hc : ∀ M : Memref sig .tc .vmem S16x32x256 .bf16, ∀ f : M.view.ty.Contents (Elt F),
      ((M.slice (r3 p) (fun _ => rfl)).squeeze S32x256 squeezes_S1x32x256_S32x256).view.read (Elt F) f = rsV D l (dup c p) p →
      M.view.readAt (Elt F) (r3 p).toLoadRect f = shapeCast S1x32x256 (rsV D l (dup c p) p) cast3 := by
    intro M f hf
    rw [← hf]
    exact (shapeCast_shapeCast _ _ _).symm
  subst hM
  rw [crS_eq] at hg
  refine ld_ex (q := fullShare) (φ := fun f => (((crW l).slice (r3 p) (fun _ => rfl)).squeeze S32x256 squeezes_S1x32x256_S32x256).view.read (Elt F) f = rsV D l (dup c p) p)
    (sel_core D K hg) ?_ (fun f hf => ?_)
  · intro i hi
    have h1 := View.set_slice (crW l).view (r3 p)
    have h2 := View.set_reshape (s' := S32x256) ((crW l).view.slice (r3 p)) squeezes_S1x32x256_S32x256.numel_eq
    exact h2.symm.subset (h1.symm.subset hi)
  · have e := hc _ f hf
    rw [e]; exact h

/-! ## The source rows of a gather -/

/-- Stages that are `a` for slot 0 and `s` for the others. -/
def stg (a s : ℕ) : Fin 16 → ℕ := fun p => if p = 0 then a else s

theorem slots_out {A : Fin 16 → sProp 𝕄} (h : ∀ p, slot D c p (v p) ⊢ iprop(A p ∗ slot D c p (v' p))) : slots D c v ⊢ iprop(bigSep Finset.univ A ∗ slots D c v') := by
  unfold slots
  exact (bigSep_mono fun p _ => h p).trans (Entails.of_eq (bigSep_sep _ _ _))
theorem slots_in {A : Fin 16 → sProp 𝕄} (h : ∀ p, iprop(A p ∗ slot D c p (v p)) ⊢ slot D c p (v' p)) : iprop(bigSep Finset.univ A ∗ slots D c v) ⊢ slots D c v' := by
  unfold slots
  exact (Entails.of_eq (bigSep_sep _ _ _).symm).trans (bigSep_mono fun p _ => h p)

theorem slot_give (p : Fin 16) {s s' : ℕ} {a : Atom} (h : Tr s s' [a] []) : slot D c p s ⊢ iprop(atom D c p a ∗ slot D c p s') := by
  iintro H
  ihave H := (slot_out D p h) $$ H
  icases H with ⟨H1, H2⟩
  isplitl [H1]; · iexact H1
  iapply H2; iempintro
theorem slot_take (p : Fin 16) {s s' : ℕ} {b : Atom} (h : Tr s s' [] [b]) : iprop(atom D c p b ∗ slot D c p s) ⊢ slot D c p s' := by
  iintro ⟨H1, H⟩
  ihave H := (slot_in D p h) $$ H
  icases H with ⟨-, H2⟩
  iapply H2; iexact H1

/-- The shares of the source rows collected from all slots. -/
theorem collect (r : Fin 3) (hr : r.val < 2 := by decide) {p : Prog (TpuEff nD τ sig (Elt F) Λ₀ .tc) α}
    (h : St D K c (stg 100 (24 + 10 * r.val)) n b xn po true o ⊢ WP c p Q) :
    St D K c (stg (101 + r.val) (23 + 10 * r.val)) n b xn po false o ⊢ WP c p Q := by
  refine BIBase.Entails.trans ?_ h
  have hs : slots D c (stg (101 + r.val) (23 + 10 * r.val)) ⊢ iprop(x0st (F := F) c true ∗ slots D c (stg 100 (24 + 10 * r.val))) := by
    have ht0 : ∀ r : Fin 3, r.val < 2 → Tr (101 + r.val) 100 [.lfa r] [] := by decide
    have ht1 : ∀ r : Fin 3, r.val < 2 → Tr (23 + 10 * r.val) (24 + 10 * r.val) [.lfa r] [] := by decide
    have h1 := slots_out D (c := c) (v := stg (101 + r.val) (23 + 10 * r.val)) (v' := stg 100 (24 + 10 * r.val)) (A := fun p => atom D c p (.lfa r)) (fun p => by
      by_cases hp : p = 0
      · unfold stg; rw [if_pos hp, if_pos hp]; exact slot_give D p (ht0 r hr)
      · unfold stg; rw [if_neg hp, if_neg hp]; exact slot_give D p (ht1 r hr))
    have h2 : (bigSep Finset.univ fun p => atom D c p (.lfa r)) ⊢ gar c (xgS 0) := (leaves_hol (xgS 0) (agV D r c)).trans (hol_gar c _ _)
    iintro H
    ihave H := h1 $$ H
    icases H with ⟨H1, H2⟩
    isplitl [H1]
    · iapply (Entails.of_eq (show x0st (F := F) c true = gar c (xgS 0) from if_pos rfl).symm)
      iapply h2; iexact H1
    iexact H2
  unfold St core
  iintro ⟨⟨#HK, #HL, HS, HO⟩, H1, H2, H3, -, HR⟩
  ihave HS := hs $$ HS
  icases HS with ⟨HX, HS⟩
  isplitl [HS HO]
  · isplitr; · iexact HK
    isplitr; · iexact HL
    isplitl [HS]; · iexact HS
    iexact HO
  isplitl [H1]; · iexact H1
  isplitl [H2]; · iexact H2
  isplitl [H3]; · iexact H3
  isplitl [HX]; · iexact HX
  iexact HR

theorem sel_x0 : St D K c v n b xn po true o ⊢ iprop(gar c (xgS 0) ∗ (gar c (xgS 0) -∗ St D K c v n b xn po true o)) := by
  have h : iprop(x0st (F := F) c true ∗ ost D c o ∗ inp D c ∗ rst c) ⊢ iprop(gar c (xgS 0) ∗ (gar c (xgS 0) -∗ (x0st (F := F) c true ∗ ost D c o ∗ inp D c ∗ rst c))) := sel_here _ _ _
  exact sel_next (sel_next (sel_next (sel_next h)))

/-- The load of the source rows before they are stored, whose value is not used. -/
theorem ld_xg0 {hl : xgM.view.LoadsAt (rs 0).toLoadRect} {k : Vec F S32x256 .bf16 → Prog (TpuEff nD τ sig (Elt F) Λ₀ .tc) α}
    (h : ∀ w, (St D K c v n b xn po true o ⊢ WP c (k w) Q)) :
    St D K c v n b xn po true o ⊢ WP c (.op (.load xgM (rs 0).toLoadRect hl) k) Q := by
  refine ld_ex (q := fullShare) (I := (xgM.view.slice (rs 0)).set) (φ := fun _ => True) (sel_map ?_ ?_ (sel_x0 D K)) (View.set_slice _ _).symm.subset (fun f _ => h _)
  · unfold gar
    iintro ⟨%f, H⟩
    iexists f
    isplitr; · ipureintro; exact trivial
    iexact H
  · unfold gar
    iintro ⟨%f, -, H⟩
    iexists f
    iexact H

/-- The store of the source rows, shared out over the slots. -/
theorem st_xg0 (r : Fin 3) {w : S32x256.Idx → Elt F .bf16} (hw : w = agV D r c) (hr : r.val < 2 := by decide)
    {hx : (xgM.access (rs 0)).Stores Finset.univ} {hm : (Finset.univ : Finset (rs 0).shape.Idx) = Finset.univ ∨ ∀ a, (rs 0).stride a = 1}
    {k : PUnit → Prog (TpuEff nD τ sig (Elt F) Λ₀ .tc) α}
    (h : St D K c (stg (101 + r.val) (17 + 10 * r.val)) n b xn po false o ⊢ WP c (k ⟨⟩) Q) :
    St D K c (stg 100 (16 + 10 * r.val)) n b xn po true o ⊢ WP c (.op (.store xgM (rs 0) w Finset.univ hx hm) k) Q := by
  have hs : iprop(hol c (xgS 0) fullShare (agV D r c) ∗ slots D c (stg 100 (16 + 10 * r.val))) ⊢ slots D c (stg (101 + r.val) (17 + 10 * r.val)) := by
    have ht0 : ∀ r : Fin 3, r.val < 2 → Tr 100 (101 + r.val) [] [.lfa r] := by decide
    have ht1 : ∀ r : Fin 3, r.val < 2 → Tr (16 + 10 * r.val) (17 + 10 * r.val) [] [.lfa r] := by decide
    have h1 := slots_in D (c := c) (v := stg 100 (16 + 10 * r.val)) (v' := stg (101 + r.val) (17 + 10 * r.val)) (A := fun p => atom D c p (.lfa r)) (fun p => by
      by_cases hp : p = 0
      · unfold stg; rw [if_pos hp, if_pos hp]; exact slot_take D p (ht0 r hr)
      · unfold stg; rw [if_neg hp, if_neg hp]; exact slot_take D p (ht1 r hr))
    iintro ⟨H1, H2⟩
    iapply h1
    isplitl [H1]
    · iapply (hol_leaves (xgS 0) (agV D r c)); iexact H1
    iexact H2
  refine st_ex (S' := St D K c (stg (101 + r.val) (17 + 10 * r.val)) n b xn po false o) (I := (xgM.view.slice (rs 0)).set) (ψ := fun f => (xgS 0).view.read (Elt F) f = agV D r c)
    ?_ (by rw [View.setOn_univ]) (fun f => by rw [← hw]; exact View.read_write_univ (v := xgM.view.slice (rs 0)) f w) h
  unfold St core
  iintro ⟨⟨#HK, #HL, HS, HO⟩, H1, H2, H3, HX, HR⟩
  isplitl [HX]
  · iapply (Entails.of_eq (show x0st (F := F) c true = iprop(∃ f, ((xgM.access (rs 0)).loc (c : Thread nD τ) ↦[(xgM.view.slice (rs 0)).set]{fullShare} f)) from if_pos rfl))
    iexact HX
  iintro HX
  isplitl [HS HO HX]
  · isplitr; · iexact HK
    isplitr; · iexact HL
    isplitl [HS HX]
    · iapply hs
      isplitl [HX]
      · iapply (Entails.of_eq (show hol c (xgS 0) fullShare (agV D r c) = iprop(∃ g, ⌜(xgS 0).view.read (Elt F) g = agV D r c⌝
          ∗ ((xgM.access (rs 0)).loc (c : Thread nD τ) ↦[(xgM.view.slice (rs 0)).set]{fullShare} g)) from rfl).symm)
        iexact HX
      iexact HS
    iexact HO
  isplitl [H1]; · iexact H1
  isplitl [H2]; · iexact H2
  isplitl [H3]; · iexact H3
  isplitr
  · iapply (Entails.of_eq (show x0st (F := F) c false = iprop(emp) from if_neg (by decide)).symm)
    iempintro
  iexact HR

end Whole

end Cert.Mlp
-- ==== Proof.Sums.lean ====
/-
# Parts in sequence, and what the kernel's values are

Two lemmas to walk a program part by part, and the values that pass between parts.
-/
module

public import proofs.«01_k».proof.Proof.Quart
public import proofs.«01_k».proof.Proof.Gen.KernelIdeal.Skeleton

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (D : In F) (K : Dev nD × CI → ℕ)

variable {c : Dev nD} {v v' : Fin 16 → ℕ} {n : ℕ} {R S S' : sProp (MT nD τ sig ℕ (Elt F) ℕ UU ℕ)} {α : Type} {Q : α → sProp (MT nD τ sig ℕ (Elt F) ℕ UU ℕ)}

/-- A part, then the rest: the part is shown to reach its value `a` with `S'` left, the rest goes on from there. -/
theorem seq {β : Type} {p : Prog (TpuEff nD τ sig (Elt F) Λ₀ .tc) α} {k : α → Prog (TpuEff nD τ sig (Elt F) Λ₀ .tc) β}
    {Q : β → sProp (MT nD τ sig ℕ (Elt F) ℕ UU ℕ)} {a : α}
    (h : ∀ P : α → sProp (MT nD τ sig ℕ (Elt F) ℕ UU ℕ), (S' ⊢ P a) → S ⊢ WP c p P) (h' : S' ⊢ WP c (k a) Q) : S ⊢ WP c (p >>= k) Q := by
  have e : WP c (p >>= k) Q = WP c p (fun x => WP c (k x) Q) := wp_bind ..
  rw [e]; exact h _ h'

/-- The end of a part. -/
theorem ret {a : α} (h : S ⊢ Q a) : S ⊢ WP c (Prog.ret a : Prog (TpuEff nD τ sig (Elt F) Λ₀ .tc) α) Q := by
  unfold WP; rw [wp_ret]
  refine h.trans ?_
  iintro H
  imodintro
  iexact H

/-- The end of the program, where invariants may still be opened. -/
theorem fin {a : α} (h : S ⊢ |={Set.univ}=> Q a) : S ⊢ WP c (Prog.ret a : Prog (TpuEff nD τ sig (Elt F) Λ₀ .tc) α) Q := by
  unfold WP; rw [wp_ret]; exact h

/-- The kernel on its buffers and semaphores. -/
abbrev kern : Prog (TpuEff nD τ sig (Elt F) Λ₀ .tc) PUnit :=
  cc0_body xM (Memref.isWhole_whole _) (wiM 0) (Memref.isWhole_whole _) (woM 0) (Memref.isWhole_whole _) (wiM 1) (Memref.isWhole_whole _)
    (woM 1) (Memref.isWhole_whole _) (wiM 2) (Memref.isWhole_whole _) (woM 2) (Memref.isWhole_whole _) oM (Memref.isWhole_whole _)
    xbM (Memref.isWhole_whole _) xgM (Memref.isWhole_whole _) pbM (Memref.isWhole_whole _) pfM (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scratch11

section

variable {b : Bool} {xn : ℕ} {po : Option (Fin 3)} {x0 o : Bool}

/-- The stages written out again. -/
theorem norm (a s n' : ℕ) (hv : ∀ p, v p = stg a s p := by decide) (hn : n = n' := by rfl) {X : sProp (MT nD τ sig ℕ (Elt F) ℕ UU ℕ)}
    (h : St D K c (stg a s) n' b xn po x0 o ⊢ X) : St D K c v n b xn po x0 o ⊢ X := St_v D K (funext hv) hn h

end

/-- A product formed from gathered slots. -/
theorem prod_one (c : Dev nD) (j : Fin 4) : mm (ex (cat4 fun t => agW D 0 c (qs j t))) (D.WI 1 c) (D.WO 1 c) = pV D 1 c j := rfl
theorem prod_two (c : Dev nD) (j : Fin 4) : mm (ex (cat4 fun t => agW D 1 c (qs j t))) (D.WI 2 c) (D.WO 2 c) = pV D 2 c j := rfl

/-- What is received of slot `p`, as it lies in the receive buffer. -/
def rcv (l : Fin 3) (c : Dev nD) (p : Fin 16) : Vec F S1x32x256 .bf16 := shapeCast S1x32x256 (rsV D l (dup c p) p) cast3

theorem rcv_cast (l : Fin 3) (c : Dev nD) (p : Fin 16) : (shapeCast S32x256 (rcv D l c p) shapeCasts_S1x32x256_S32x256 : FVec F S32x256 .bf16) = rsV D l (dup c p) p := by
  unfold rcv; exact shapeCast_shapeCast _ _ _

/-- The sums the three layers form. -/
theorem sum_zero (c : Dev nD) :
    k0_pay36 (k0_pay35 (k0_pay34 (k0_pay33 (k0_pay32 (k0_pay31 (k0_pay30 (k0_pay29 (sl 0 (pV D 0 c 0)) (rcv D 0 c 15)) (rcv D 0 c 14) (rcv D 0 c 13))
      (rcv D 0 c 12) (rcv D 0 c 11) (rcv D 0 c 10)) (rcv D 0 c 9) (rcv D 0 c 8)) (rcv D 0 c 7) (rcv D 0 c 6) (rcv D 0 c 5)) (rcv D 0 c 4) (rcv D 0 c 3))
      (rcv D 0 c 2) (rcv D 0 c 1)) = agV D 0 c := by
  refine (shapeCast_self _ _).trans (congrArg tr ?_)
  simp only [k0_pay35, k0_pay34, k0_pay33, k0_pay32, k0_pay31, k0_pay30, k0_pay29, rcv_cast, accV, Aof, down, List.foldl]
theorem sum_one (c : Dev nD) :
    k0_pay59 (k0_pay58 (k0_pay57 (k0_pay56 (k0_pay55 (k0_pay54 (k0_pay53 (k0_pay52 (sl 0 (pV D 1 c 0)) (rcv D 1 c 15) (rcv D 1 c 14)) (rcv D 1 c 13) (rcv D 1 c 12))
      (rcv D 1 c 11) (rcv D 1 c 10) (rcv D 1 c 9)) (rcv D 1 c 8) (rcv D 1 c 7)) (rcv D 1 c 6) (rcv D 1 c 5) (rcv D 1 c 4)) (rcv D 1 c 3) (rcv D 1 c 2))
      (rcv D 1 c 1)) = agV D 1 c := by
  refine (shapeCast_self _ _).trans (congrArg tr ?_)
  simp only [k0_pay58, k0_pay57, k0_pay56, k0_pay55, k0_pay54, k0_pay53, k0_pay52, rcv_cast, accV, Aof, down, List.foldl]
theorem sum_two (c : Dev nD) :
    k0_pay80 (k0_pay79 (k0_pay77 (k0_pay76 (k0_pay74 (k0_pay73 (sl 0 (pV D 2 c 0)) (k0_pay72 (rcv D 2 c 15)) (rcv D 2 c 14) (rcv D 2 c 13)) (rcv D 2 c 12) (rcv D 2 c 11))
      (k0_pay75 (rcv D 2 c 10)) (rcv D 2 c 9) (rcv D 2 c 8)) (rcv D 2 c 7) (rcv D 2 c 6)) (k0_pay78 (rcv D 2 c 5)) (rcv D 2 c 4) (rcv D 2 c 3))
      (rcv D 2 c 2) (rcv D 2 c 1) = accV D 2 c := by
  simp only [k0_pay80, k0_pay79, k0_pay78, k0_pay77, k0_pay76, k0_pay75, k0_pay74, k0_pay73, k0_pay72, rcv_cast, accV, Aof, down, List.foldl]

end Cert.Mlp
-- ==== Proof.Ghost.lean ====
/-
# What the launch deals out

The cells' invariants, the tokens and the credits, made for all devices at once and dealt to the devices that use them: a
token of a cell goes to the device that pays it, one turn of the ring away.
-/
module

public import proofs.«01_k».proof.Proof.Sums

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (D : In F) (K : Dev nD × CI → ℕ)

/-! ## The cells, counted -/

omit [FloatOps F] in
/-- Two conjunctions in the other order. -/
theorem big_swap {ι κ : Type} [Fintype ι] [Fintype κ] (f : ι → κ → sProp (MT nD τ sig ℕ (Elt F) ℕ UU ℕ)) :
    (bigSep Finset.univ fun i => bigSep Finset.univ fun j => f i j) = bigSep Finset.univ fun j => bigSep Finset.univ fun i => f i j := by
  rw [← bigSep_univ_prod (fun x : ι × κ => f x.1 x.2), bigSep_univ_equiv (Equiv.prodComm κ ι), bigSep_univ_prod]
  rfl

omit [FloatOps F] in
/-- A conjunction over an option type. -/
theorem big_option {ι : Type} [Fintype ι] [DecidableEq ι] (f : Option ι → sProp (MT nD τ sig ℕ (Elt F) ℕ UU ℕ)) :
    bigSep Finset.univ f = iprop(f none ∗ bigSep Finset.univ fun x => f (some x)) := by
  rw [bigSep_erase (Finset.mem_univ none), show (Finset.univ.erase (none : Option ι)) = Finset.univ.map Function.Embedding.some from by
    ext x; cases x <;> simp, bigSep_map]
  rfl

omit [FloatOps F] in
/-- A conjunction over arrays and slots, slot by slot. -/
theorem big_slots (f : Fin 6 × Fin 16 → sProp (MT nD τ sig ℕ (Elt F) ℕ UU ℕ)) :
    bigSep Finset.univ f = bigSep Finset.univ fun p : Fin 16 => bigSep Finset.univ fun a : Fin 6 => f (a, p) := by
  rw [bigSep_univ_prod]; exact big_swap _

omit [FloatOps F] in
theorem big_six (f : Fin 6 → sProp (MT nD τ sig ℕ (Elt F) ℕ UU ℕ)) : bigSep Finset.univ f = iprop(f 0 ∗ f 1 ∗ f 2 ∗ f 3 ∗ f 4 ∗ f 5) :=
  bigSep_univ_eq_bigSepL [0, 1, 2, 3, 4, 5] (by decide) (by decide) f

/-- The kernel's own semaphores. -/
abbrev osem : Fin 6 × Fin 16 → SemLoc sig := fun x => .dma (dsem x.1 x.2)

theorem dec_csem (k : CI) : dec (csem k) = some k := by
  cases k with
  | none => exact dec_bar
  | some x => exact dec_dma x.1 x.2

theorem csem_inj : Function.Injective csem := fun k k' h => by
  have := congrArg dec h
  rw [dec_csem, dec_csem] at this
  exact Option.some.inj this

theorem kcell_inj : Function.Injective kcell := by
  rintro ⟨c, k⟩ ⟨c', k'⟩ h
  have h1 : c = c' := congrArg (fun g : GSem nD τ sig => g.1.1) h
  have h2 : csem k = csem k' := congrArg Prod.snd h
  rw [h1, csem_inj h2]

theorem ownSemFacts : Pipeline.OwnSemFacts cfg0.spec osem where
  isScoped := by decide
  inj := fun x y h => Option.some.inj (csem_inj (a₁ := some x) (a₂ := some y) h)
  disj := by decide

/-- All cells of all devices. -/
def theCells : Finset (GSem nD τ sig) := Finset.univ.map ⟨kcell, kcell_inj⟩

/-! ## The tokens -/

/-- A slot's duty tokens: the barrier's, and two rounds of each array. -/
abbrev TK : Type := Option (Fin 6 × Fin 2)

/-- The token of kind `k` of slot `p` at device `c`'s cells. -/
def tokOf (x : Dev nD × Fin 16 × TK) : GSem nD τ sig × ℕ × Fin 16 :=
  match x.2.2 with
  | none => (barCell x.1, 0, x.2.1)
  | some (a, r) => (cell x.1 a x.2.1, r.val, 0)

theorem tokOf_inj : Function.Injective tokOf := by
  rintro ⟨c, p, k⟩ ⟨c', p', k'⟩ h
  have h0 : c = c' := by
    have := congrArg (fun x : GSem nD τ sig × ℕ × Fin 16 => x.1.1.1) h
    rcases k with _ | ⟨a, r⟩ <;> rcases k' with _ | ⟨a', r'⟩ <;> exact this
  subst h0
  have h1 := congrArg (fun x : GSem nD τ sig × ℕ × Fin 16 => dec x.1.2) h
  have h2 := congrArg (fun x : GSem nD τ sig × ℕ × Fin 16 => x.2) h
  rcases k with _ | ⟨a, r⟩ <;> rcases k' with _ | ⟨a', r'⟩
  · have e : p = p' := congrArg Prod.snd h2
    rw [e]
  · have e : dec (.reg barS) = dec (.dma (dsem a' p')) := h1
    rw [dec_bar, dec_dma] at e; cases e
  · have e : dec (.dma (dsem a p)) = dec (.reg barS) := h1
    rw [dec_bar, dec_dma] at e; cases e
  · have e : dec (.dma (dsem a p)) = dec (.dma (dsem a' p')) := h1
    rw [dec_dma, dec_dma] at e
    have e2 : r = r' := Fin.ext (congrArg Prod.fst h2)
    cases e; rw [e2]

def theToks : Finset (GSem nD τ sig × ℕ × Fin 16) := Finset.univ.map ⟨tokOf, tokOf_inj⟩

/-- The ring turned by `p`. -/
def turn (p : Fin 16) : Dev nD ≃ Dev nD := ⟨fun c => dup c p, fun c => ddn c p, fun c => ddn_dup c p, fun c => dup_ddn c p⟩

/-- From the device that pays with a token to the one whose cell it is of. -/
def tgt (k : TK) (p : Fin 16) : Dev nD ≃ Dev nD :=
  match k with
  | none => turn p
  | some (0, _) => Equiv.refl _
  | some (1, _) => (turn p).symm
  | some (2, _) => Equiv.refl _
  | some (3, _) => turn p
  | some (4, _) => Equiv.refl _
  | some (5, _) => (turn p).symm

/-- The tokens device `c` pays slot `p`'s duties with. -/
def ptoks (c : Dev nD) (p : Fin 16) : sProp 𝕄 :=
  bigSep Finset.univ fun k : TK => dutyTok ER (tokOf (tgt k p c, p, k)).1 (tokOf (tgt k p c, p, k)).2.1 (tokOf (tgt k p c, p, k)).2.2

omit [FloatOps F] in
/-- The tokens dealt to those who pay with them. -/
theorem deal : bigSep theToks (fun x => (dutyTok ER x.1 x.2.1 x.2.2 : sProp (MT nD τ sig ℕ (Elt F) ℕ UU ℕ)))
    = bigSep Finset.univ fun c : Dev nD => bigSep Finset.univ fun p : Fin 16 => ptoks c p := by
  unfold theToks
  rw [bigSep_map, bigSep_univ_prod, big_swap]
  rw [bigSep_congr (s := Finset.univ) (fun (y : Fin 16 × TK) _ => bigSep_univ_equiv (tgt y.2 y.1) _)]
  rw [big_swap]
  refine bigSep_congr fun c _ => ?_
  rw [bigSep_univ_prod]
  rfl

/-- As atoms of the slot. -/
theorem ptoks_atoms (c : Dev nD) (p : Fin 16) :
    ptoks (F := F) c p ⊢ atoms D c p [.tB, .tS 0, .tR 0, .tG 0, .tH 0, .tS 1, .tR 1, .tG 1, .tH 1, .tS 2, .tR 2] := by
  unfold ptoks
  rw [big_option, bigSep_univ_eq_bigSepL [(0, 0), (1, 0), (2, 0), (3, 0), (0, 1), (1, 1), (2, 1), (3, 1), (4, 0), (5, 0), (4, 1), (5, 1)]
    (by decide) (by decide)]
  simp only [atoms_cons, atoms_nil]
  show iprop(atom D c p .tB ∗ atom D c p (.tS 0) ∗ atom D c p (.tR 0) ∗ atom D c p (.tG 0) ∗ atom D c p (.tH 0)
      ∗ atom D c p (.tS 1) ∗ atom D c p (.tR 1) ∗ atom D c p (.tG 1) ∗ atom D c p (.tH 1) ∗ atom D c p (.tS 2) ∗ atom D c p (.tR 2)
      ∗ dutyTok ER (cell c 4 p) 1 0 ∗ dutyTok ER (cell (ddn c p) 5 p) 1 0) ⊢ _
  iintro ⟨H1, H2, H3, H4, H5, H6, H7, H8, H9, Ha, Hb, -, -⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Ha]; · iexact Ha
  isplitl [Hb]; · iexact Hb
  iempintro

/-! ## The credits -/

/-- The kind of cell a payment goes to, and the way round the ring. -/
def Pay.kind : Pay → CI | .bar _ => none | .rs l p => some (rK l, p) | .ag _ p => some (3, p)
def Pay.to : Pay → Dev nD ≃ Dev nD | .bar o => turn o | .rs _ p => (turn p).symm | .ag _ p => turn p

theorem pay_cell (a : Pay) (d : Dev nD) : a.cell d = kcell (a.to d, a.kind) := by cases a <;> rfl

/-- Payments added up at one cell, and as separate credits. -/
def tot : List Pay → Tally ℕ
  | [] => 0
  | a :: l => tot l + Finsupp.single a.ix a.amt
def crL (g : GSem nD τ sig) : List Pay → sProp 𝕄
  | [] => iprop(emp)
  | a :: l => iprop(crL g l ∗ cred (tallyAt g a.ix a.amt))

/-- The payments made to a cell of kind `k`. -/
def due (k : CI) : List Pay := pays.filter fun a => a.kind = k

omit [FloatOps F] in
theorem cred_tot (g : GSem nD τ sig) (l : List Pay) : cred (tallyOn g (tot l)) ⊢ crL (F := F) g l := by
  induction l with
  | nil => unfold tot crL; rw [tallyOn_zero, cred_zero]
  | cons a l ih =>
    unfold tot crL
    have e : (tallyOn g (tot l + Finsupp.single a.ix a.amt) : CellTallies nD τ sig ℕ) = tallyOn g (tot l) + tallyAt g a.ix a.amt := by
      unfold tallyAt tallyOn; rw [← Pi.single_add]
    rw [e]
    exact (cred_add _ _).1.trans (sep_mono_left ih)

/-- What all devices together owe a cell. -/
theorem owed_all (c : Dev nD) (k : CI) (u : ℕ) (l : List Pay) :
    (∑ d : Dev nD, owL d l (kcell (c, k)) u) = tot (l.filter fun a => a.kind = k) u := by
  induction l with
  | nil => exact Finset.sum_const_zero
  | cons a l ih =>
    have h : ∀ d : Dev nD, owL d (a :: l) (kcell (c, k)) u = owL d l (kcell (c, k)) u + (if (kcell (c, k) = a.cell d ∧ u = a.ix) then a.amt else 0) := fun d => by
      show (owL d l + tallyAt (a.cell d) a.ix a.amt) (kcell (c, k)) u = _
      rw [Pi.add_apply, Finsupp.add_apply, tallyAt_apply]
    rw [Finset.sum_congr rfl fun d _ => h d, Finset.sum_add_distrib, ih]
    by_cases hk : a.kind = k
    · rw [List.filter_cons_of_pos (by simpa using hk)]
      show _ = (tot (l.filter fun a => a.kind = k) + Finsupp.single a.ix a.amt) u
      rw [Finsupp.add_apply]
      refine congrArg (fun z => tot (l.filter fun a => a.kind = k) u + z) ?_
      have e : ∀ d : Dev nD, (if (kcell (c, k) = a.cell d ∧ u = a.ix) then a.amt else 0) = if a.to.symm c = d then (if u = a.ix then a.amt else 0) else 0 := fun d => by
        rw [pay_cell, hk]
        by_cases h : a.to.symm c = d
        · have h' : c = a.to d := (Equiv.symm_apply_eq _).mp h
          rw [if_pos h, ← h']
          by_cases hu : u = a.ix
          · rw [if_pos hu, if_pos ⟨rfl, hu⟩]
          · rw [if_neg hu, if_neg fun x => hu x.2]
        · rw [if_neg h, if_neg fun x => h ((Equiv.symm_apply_eq _).mpr (Prod.mk.inj (kcell_inj x.1)).1)]
      rw [Finset.sum_congr rfl fun d _ => e d, Finset.sum_ite_eq, if_pos (Finset.mem_univ _), Finsupp.single_apply]
      simp only [eq_comm]
    · rw [List.filter_cons_of_neg (by simpa using hk)]
      rw [Finset.sum_eq_zero fun d _ => if_neg fun h => hk ?_, Nat.add_zero]
      have := h.1
      rw [pay_cell] at this
      exact (congrArg Prod.snd (kcell_inj this)).symm

omit [FloatOps F] in
/-- A cell's launch credit, payment by payment. -/
theorem cell_credit (c : Dev nD) (k : CI) :
    cred (tallyOn (kcell (c, k)) (launchCredit (Pipeline.owing fun d : Dev nD => owL d pays) 0 (kcell (c, k)))) ⊢ crL (F := F) (kcell (c, k)) (due k) := by
  have e : launchCredit (Pipeline.owing fun d : Dev nD => owL d pays) 0 (kcell (c, k)) = tot (due k) := by
    ext u; rw [Pipeline.launchCredit_owing]; exact owed_all c k u pays
  rw [e]; exact cred_tot _ _

/-- Slot `p`'s launch credits. -/
def crd (c : Dev nD) (p : Fin 16) : sProp 𝕄 := bigSep Finset.univ fun a : Fin 6 => crL (cell c a p) (due (some (a, p)))

theorem crd_atoms (c : Dev nD) (p : Fin 16) (hp : p ≠ 0) : crd (F := F) c p ⊢ atoms D c p [.cR 0, .cR 1, .cR 2, .cH 0, .cH 1] := by
  unfold crd
  rw [big_six, show due (some (1, p)) = [.rs 0 p, .rs 1 p] from by revert p; decide +kernel,
    show due (some (3, p)) = [.ag 0 p, .ag 1 p] from by revert p; decide +kernel,
    show due (some (5, p)) = [.rs 2 p] from by revert p; decide +kernel]
  simp only [atoms_cons, atoms_nil]
  show iprop(_ ∗ ((emp ∗ atom D c p (.cR 1)) ∗ atom D c p (.cR 0)) ∗ _ ∗ ((emp ∗ atom D c p (.cH 1)) ∗ atom D c p (.cH 0)) ∗ _ ∗ (emp ∗ atom D c p (.cR 2))) ⊢ _
  iintro ⟨-, ⟨⟨-, H2⟩, H1⟩, -, ⟨⟨-, H4⟩, H3⟩, -, ⟨-, H5⟩⟩
  isplitl [H1]; · iexact H1
  isplitl [H2]; · iexact H2
  isplitl [H5]; · iexact H5
  isplitl [H3]; · iexact H3
  isplitl [H4]; · iexact H4
  iempintro

omit [FloatOps F] in
/-- The launch's credit of a device: its barrier's fifteen units, and the slots'. -/
theorem credits (c : Dev nD) : Pipeline.launchCred (fun d : Dev nD => owL d pays) c
    ⊢ iprop(cred (tallyAt (barCell c) 1 15) ∗ bigSep Finset.univ fun p : Fin 16 => crd (F := F) c p) := by
  unfold Pipeline.launchCred
  refine (bigSep_subset (Finset.subset_univ (Finset.univ.map ⟨csem, csem_inj⟩))).trans ?_
  rw [bigSep_map, big_option (F := F), big_slots (F := F)]
  refine sep_mono ?_ (bigSep_mono fun p _ => bigSep_mono fun a _ => cell_credit c (some (a, p)))
  have e : launchCredit (Pipeline.owing fun d : Dev nD => owL d pays) 0 (barCell c) = Finsupp.single 1 15 := by
    ext u; rw [Pipeline.launchCredit_owing]
    refine (owed_all c none u pays).trans ?_
    rw [show (pays.filter fun a => a.kind = none) = down.reverse.map .bar from by decide +kernel]
    simp only [down, List.reverse_cons, List.reverse_nil, List.nil_append, List.cons_append, List.map, tot, Pay.ix, Pay.amt, zero_add, ← Finsupp.single_add]
  show cred (tallyOn (barCell c) (launchCredit (Pipeline.owing fun d : Dev nD => owL d pays) 0 (barCell c))) ⊢ _
  rw [e]; exact .rfl

/-! ## The cells opened for all devices -/

/-- The launch element of the cells' algebra. -/
def u₀ : UU := (initOf (Pipeline.cells cfgs cellOf_inj) (Pipeline.launchToks cfgs cellOf_inj), initOf theCells theToks)

/-- A device's positions. -/
def posn (c : Dev nD) : sProp 𝕄 := bigSep Finset.univ fun k : CI => iprop(atPos ER (kcell (c, k)) 0 ∅ 0 ∗ reached ER (kcell (c, k)) 0)
/-- What the launch element holds for device `c`. -/
def G (c : Dev nD) : sProp 𝕄 :=
  iprop((bigSep Finset.univ fun k : CI => roundState ER (sched D) (kcell (c, k)) 0) ∗ posn c ∗ bigSep Finset.univ fun p : Fin 16 => ptoks c p)
/-- What a device starts with: every cell's record, its positions and its tokens. -/
def G' (c : Dev nD) : sProp 𝕄 := iprop(∃ K : Dev nD × CI → ℕ, recs D K ∗ posn c ∗ bigSep Finset.univ fun p : Fin 16 => ptoks c p)

omit [FloatOps F] in
theorem big_cells (f : GSem nD τ sig → sProp (MT nD τ sig ℕ (Elt F) ℕ UU ℕ)) :
    bigSep theCells f = bigSep Finset.univ fun c : Dev nD => bigSep Finset.univ fun k : CI => f (kcell (c, k)) := by
  unfold theCells; rw [bigSep_map, bigSep_univ_prod]; rfl

theorem fund_cells : BI.own (ER (initOf theCells theToks)) ⊢ (|==> bigSep Finset.univ (G D) : sProp (MT nD τ sig ℕ (Elt F) ℕ UU ℕ)) := by
  iintro H
  imod (Rounds.fund ER (sched D) theCells theToks) $$ H with ⟨H1, H2, H3, H4⟩
  imodintro
  ihave H1 := (Entails.of_eq (big_cells fun g => roundState ER (sched D) g 0)) $$ H1
  ihave H2 := (Entails.of_eq (big_cells fun g => reached ER g 0)) $$ H2
  ihave H3 := (Entails.of_eq (big_cells fun g => atPos ER g 0 ∅ 0)) $$ H3
  ihave H4 := (Entails.of_eq (deal (F := F))) $$ H4
  unfold G posn
  simp only [bigSep_sep']
  isplitl [H1]; · iexact H1
  isplitl [H2 H3]
  · isplitl [H3]; · iexact H3
    iexact H2
  iexact H4

omit [FloatOps F] in
/-- A device's semaphores, as its cells' counters. -/
theorem sems (c : Dev nD) : (bigSep Finset.univ fun k : CI => semVal (kcell (c, k)) 0 : sProp (MT nD τ sig ℕ (Elt F) ℕ UU ℕ))
    = iprop(unscopedSems0 c ∗ Pipeline.ownSems0 (Ix := ℕ) (Name := ℕ) (U := UU) (Lvl := ℕ) (Val := Elt F) (τ := τ) osem c) := by
  rw [big_option]
  unfold unscopedSems0
  rw [bigSep_eq_bigSepL_of_eq [SemLoc.reg barS] (by decide) (by decide)]
  rfl

theorem cells_open (c : Dev nD) :
    iprop(Pipeline.ownSems0 (Ix := ℕ) (Name := ℕ) (U := UU) (Lvl := ℕ) (Val := Elt F) (τ := τ) osem c ∗ unscopedSems0 c ∗ G D c)
      ⊢ |={Set.univ}=> iprop((bigSep Finset.univ fun k : CI => iprop(∃ κ : ℕ, cellInv ER (sched D) κ (kcell (c, k))))
          ∗ posn c ∗ bigSep Finset.univ fun p : Fin 16 => ptoks c p) := by
  have h : iprop((bigSep Finset.univ fun k : CI => semVal (kcell (c, k)) 0) ∗ bigSep Finset.univ fun k : CI => roundState ER (sched D) (kcell (c, k)) 0)
      ⊢ (|={Set.univ}=> bigSep Finset.univ fun k : CI => iprop(∃ κ : ℕ, cellInv ER (sched D) κ (kcell (c, k))) : sProp (MT nD τ sig ℕ (Elt F) ℕ UU ℕ)) := by
    rw [← bigSep_sep']
    exact (bigSep_mono fun k _ => (Rounds.body_intro ER (sched D) (kcell (c, k))).trans inv_alloc).trans (bigSep_fupd _ _)
  unfold G
  iintro ⟨H1, H2, H3, H4⟩
  ihave Hv := (Entails.of_eq (sems (F := F) c).symm) $$ [H1 H2]
  · isplitl [H2]; · iexact H2
    iexact H1
  imod h $$ [Hv H3] with Hi
  · isplitl [Hv]; · iexact Hv
    iexact H3
  imodintro
  isplitl [Hi]; · iexact Hi
  iexact H4

theorem gather :
    (bigSep Finset.univ fun c : Dev nD => iprop((bigSep Finset.univ fun k : CI => iprop(∃ κ : ℕ, cellInv ER (sched D) κ (kcell (c, k))))
          ∗ posn c ∗ bigSep Finset.univ fun p : Fin 16 => ptoks c p) : sProp (MT nD τ sig ℕ (Elt F) ℕ UU ℕ))
      ⊢ bigSep Finset.univ (G' D) := by
  have hr : (bigSep Finset.univ fun c : Dev nD => posn (F := F) c)
      ⊢ iprop((bigSep Finset.univ fun c : Dev nD => posn (F := F) c) ∗ bigSep Finset.univ fun x : Dev nD × CI => reached ER (kcell x) 0) := by
    rw [bigSep_univ_prod, ← bigSep_sep']
    refine bigSep_mono fun c _ => ?_
    show posn (F := F) c ⊢ _
    unfold posn
    rw [bigSep_sep']
    iintro ⟨H1, #H2⟩
    isplitl [H1]
    · isplitl [H1]; · iexact H1
      iexact H2
    iexact H2
  rw [bigSep_sep', ← bigSep_univ_prod (fun x : Dev nD × CI => iprop(∃ κ : ℕ, cellInv ER (sched D) κ (kcell x))), bigSep_sep']
  iintro ⟨HI, Hp, Ht⟩
  ihave HK := (bigSep_exists_pi Finset.univ (fun (x : Dev nD × CI) (κ : ℕ) => (cellInv ER (sched D) κ (kcell x) : sProp 𝕄))) $$ HI
  icases HK with ⟨%K, #HI⟩
  ihave Hp := hr $$ Hp
  icases Hp with ⟨Hp, #HR⟩
  have hg : ∀ c ∈ (Finset.univ : Finset (Dev nD)), iprop(recs D K ∗ (posn c ∗ bigSep Finset.univ fun p : Fin 16 => ptoks c p)) ⊢ G' D c := fun c _ => by
    unfold G'
    iintro ⟨H1, H2⟩
    iexists K
    isplitl [H1]; · iexact H1
    iexact H2
  iapply ((sep_mono_left (bigSep_of_persistent Finset.univ (recs D K))).trans
    ((Entails.of_eq (bigSep_sep' Finset.univ (fun _ : Dev nD => recs D K) (fun c => iprop(posn c ∗ bigSep Finset.univ fun p : Fin 16 => ptoks c p))).symm).trans (bigSep_mono hg)))
  isplitr
  · unfold recs; rw [bigSep_sep']
    isplitr; · iexact HI
    iexact HR
  rw [bigSep_sep']
  isplitl [Hp]; · iexact Hp
  iexact Ht

/-- The launch's step over all devices. -/
theorem glob : (bigSep Finset.univ fun c : Dev nD =>
      iprop(Pipeline.ownSems0 (Ix := ℕ) (Name := ℕ) (U := UU) (Lvl := ℕ) (Val := Elt F) (τ := τ) osem c ∗ unscopedSems0 c ∗ G D c) : sProp (MT nD τ sig ℕ (Elt F) ℕ UU ℕ))
    ⊢ |={Set.univ}=> bigSep Finset.univ (G' D) :=
  ((bigSep_mono fun c _ => cells_open D c).trans (bigSep_fupd _ _)).trans (BI.fupd_mono (gather D))

end Cert.Mlp
-- ==== Proof.Body.lean ====
/-
# The kernel on one device

The program is walked once, at a symbolic device. Each printed part is one bullet: its steps in program order, each by the
lemma of its kind. Between phases the slots' stages are written out again.
-/
module

public import proofs.«01_k».proof.Proof.Sums

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (D : In F) (K : Dev nD × CI → ℕ)

variable {c : Dev nD} {v v' : Fin 16 → ℕ} {n : ℕ} {R S S' : sProp (MT nD τ sig ℕ (Elt F) ℕ UU ℕ)} {α : Type} {Q : α → sProp (MT nD τ sig ℕ (Elt F) ℕ UU ℕ)}

set_option maxHeartbeats 40000000 in
set_option maxRecDepth 20000 in
/-- The kernel on device `c`: from a start with nothing sent, to an end with every copy landed and the result stored. -/
theorem kern_spec (Q : PUnit → sProp (MT nD τ sig ℕ (Elt F) ℕ UU ℕ))
    (h : St D K c (stg 100 36) 90 true 16 (some 2) true true ⊢ |={Set.univ}=> Q ⟨⟩) :
    St D K c (stg 100 0) 0 false 0 none true false ⊢ WP c kern Q := by
  unfold kern
  rw [cc0_body_eq_skeleton]; unfold cc0_body_skel
  apply seq
  · intro P0 hP0; rw [k0_part109_eq_skeleton]; unfold k0_part109_skel
    apply seq
    · intro P hP; rw [k0_part1_eq_skeleton]; unfold k0_part1_skel; simp only [semSignalWord, semWaitWord, Prog.lift, Prog.bind_op, Prog.bind_ret, Prog.pure_eq_ret, wp_deviceId]
      iterate 2 refine sig_step D K (h := ?_)
      exact ret hP
    apply seq
    · intro P hP; rw [k0_part2_eq_skeleton]; unfold k0_part2_skel; simp only [semSignalWord, semWaitWord, Prog.lift, Prog.bind_op, Prog.bind_ret, Prog.pure_eq_ret, wp_deviceId]
      iterate 2 refine sig_step D K (h := ?_)
      exact ret hP
    apply seq
    · intro P hP; rw [k0_part3_eq_skeleton]; unfold k0_part3_skel; simp only [semSignalWord, semWaitWord, Prog.lift, Prog.bind_op, Prog.bind_ret, Prog.pure_eq_ret, wp_deviceId]
      iterate 3 refine sig_step D K (h := ?_)
      exact ret hP
    apply seq
    · intro P hP; rw [k0_part4_eq_skeleton]; unfold k0_part4_skel; simp only [semSignalWord, semWaitWord, Prog.lift, Prog.bind_op, Prog.bind_ret, Prog.pure_eq_ret, wp_deviceId]
      iterate 2 refine sig_step D K (h := ?_)
      exact ret hP
    apply seq
    · intro P hP; rw [k0_part5_eq_skeleton]; unfold k0_part5_skel; simp only [semSignalWord, semWaitWord, Prog.lift, Prog.bind_op, Prog.bind_ret, Prog.pure_eq_ret, wp_deviceId]
      iterate 3 refine sig_step D K (h := ?_)
      exact ret hP
    apply seq
    · intro P hP; rw [k0_part6_eq_skeleton]; unfold k0_part6_skel; simp only [semSignalWord, semWaitWord, Prog.lift, Prog.bind_op, Prog.bind_ret, Prog.pure_eq_ret, wp_deviceId]
      iterate 2 refine sig_step D K (h := ?_)
      exact ret hP
    apply seq
    · intro P hP; rw [k0_part7_eq_skeleton]; unfold k0_part7_skel; simp only [semSignalWord, semWaitWord, Prog.lift, Prog.bind_op, Prog.bind_ret, Prog.pure_eq_ret, wp_deviceId]
      refine sig_step D K (h := ?_)
      refine norm D K 100 1 15 (h := ?_)
      refine ld_x D K 0 (h := ?_)
      refine ld_xb D K fun w => ?_
      refine st_xb D K 0 (hq := rfl) (h := ?_)
      refine ld_x D K 1 (h := ?_)
      exact ret hP
    apply seq
    · intro P hP; rw [k0_part8_eq_skeleton]; unfold k0_part8_skel; simp only [semSignalWord, semWaitWord, Prog.lift, Prog.bind_op, Prog.bind_ret, Prog.pure_eq_ret, wp_deviceId]
      refine ld_xb D K fun w => ?_
      refine st_xb D K 1 (hq := rfl) (h := ?_)
      refine ld_x D K 2 (h := ?_)
      refine ld_xb D K fun w => ?_
      refine st_xb D K 2 (hq := rfl) (h := ?_)
      refine ld_x D K 3 (h := ?_)
      exact ret hP
    apply seq
    · intro P hP; rw [k0_part9_eq_skeleton]; unfold k0_part9_skel; simp only [semSignalWord, semWaitWord, Prog.lift, Prog.bind_op, Prog.bind_ret, Prog.pure_eq_ret, wp_deviceId]
      refine ld_xb D K fun w => ?_
      refine st_xb D K 3 (hq := rfl) (h := ?_)
      refine ld_x D K 4 (h := ?_)
      refine ld_xb D K fun w => ?_
      refine st_xb D K 4 (hq := rfl) (h := ?_)
      refine ld_x D K 5 (h := ?_)
      exact ret hP
    apply seq
    · intro P hP; rw [k0_part10_eq_skeleton]; unfold k0_part10_skel; simp only [semSignalWord, semWaitWord, Prog.lift, Prog.bind_op, Prog.bind_ret, Prog.pure_eq_ret, wp_deviceId]
      refine ld_xb D K fun w => ?_
      refine st_xb D K 5 (hq := rfl) (h := ?_)
      refine ld_x D K 6 (h := ?_)
      refine ld_xb D K fun w => ?_
      refine st_xb D K 6 (hq := rfl) (h := ?_)
      refine ld_x D K 7 (h := ?_)
      exact ret hP
    apply seq
    · intro P hP; rw [k0_part11_eq_skeleton]; unfold k0_part11_skel; simp only [semSignalWord, semWaitWord, Prog.lift, Prog.bind_op, Prog.bind_ret, Prog.pure_eq_ret, wp_deviceId]
      refine ld_xb D K fun w => ?_
      refine st_xb D K 7 (hq := rfl) (h := ?_)
      refine ld_x D K 8 (h := ?_)
      refine ld_xb D K fun w => ?_
      refine st_xb D K 8 (hq := rfl) (h := ?_)
      refine ld_x D K 9 (h := ?_)
      exact ret hP
    apply seq
    · intro P hP; rw [k0_part12_eq_skeleton]; unfold k0_part12_skel; simp only [semSignalWord, semWaitWord, Prog.lift, Prog.bind_op, Prog.bind_ret, Prog.pure_eq_ret, wp_deviceId]
      refine ld_xb D K fun w => ?_
      refine st_xb D K 9 (hq := rfl) (h := ?_)
      refine ld_x D K 10 (h := ?_)
      refine ld_xb D K fun w => ?_
      refine st_xb D K 10 (hq := rfl) (h := ?_)
      refine ld_x D K 11 (h := ?_)
      exact ret hP
    apply seq
    · intro P hP; rw [k0_part13_eq_skeleton]; unfold k0_part13_skel; simp only [semSignalWord, semWaitWord, Prog.lift, Prog.bind_op, Prog.bind_ret, Prog.pure_eq_ret, wp_deviceId]
      refine ld_xb D K fun w => ?_
      refine st_xb D K 11 (hq := rfl) (h := ?_)
      refine ld_x D K 12 (h := ?_)
      refine ld_xb D K fun w => ?_
      refine st_xb D K 12 (hq := rfl) (h := ?_)
      refine ld_x D K 13 (h := ?_)
      exact ret hP
    apply seq
    · intro P hP; rw [k0_part14_eq_skeleton]; unfold k0_part14_skel; simp only [semSignalWord, semWaitWord, Prog.lift, Prog.bind_op, Prog.bind_ret, Prog.pure_eq_ret, wp_deviceId]
      refine ld_xb D K fun w => ?_
      refine st_xb D K 13 (hq := rfl) (h := ?_)
      refine ld_x D K 14 (h := ?_)
      refine ld_xb D K fun w => ?_
      refine st_xb D K 14 (hq := rfl) (h := ?_)
      refine ld_x D K 15 (h := ?_)
      exact ret hP
    apply seq
    · intro P hP; rw [k0_part15_eq_skeleton]; unfold k0_part15_skel; simp only [semSignalWord, semWaitWord, Prog.lift, Prog.bind_op, Prog.bind_ret, Prog.pure_eq_ret, wp_deviceId]
      refine ld_xb D K fun w => ?_
      refine st_xb D K 15 (hq := rfl) (h := ?_)
      refine ld_xbq D K 3 (h := ?_)
      refine ld_wi D K 0 (h := ?_)
      refine ld_wo D K 0 (h := ?_)
      refine ld_pb D K fun w => ?_
      refine st_pb D K 0 3 (hw := (shapeCast_self _ _)) (h := ?_)
      refine ld_pf D K 3 1 (h := fun w => ?_)
      refine st_pf D K 0 3 1 3 (hw := (shapeCast_self _ _)) (h := ?_)
      refine bar_step D K (v' := qup 3 11 (stg 100 2)) (by decide) (h := ?_)
      exact ret hP
    apply seq
    · intro P hP; rw [k0_part16_eq_skeleton]; unfold k0_part16_skel; simp only [semSignalWord, semWaitWord, Prog.lift, Prog.bind_op, Prog.bind_ret, Prog.pure_eq_ret, wp_deviceId]
      iterate 2 refine rs_step D K 0 (h := ?_)
      exact ret hP
    apply seq
    · intro P hP; rw [k0_part17_eq_skeleton]; unfold k0_part17_skel; simp only [semSignalWord, semWaitWord, Prog.lift, Prog.bind_op, Prog.bind_ret, Prog.pure_eq_ret, wp_deviceId]
      refine rs_step D K 0 (h := ?_)
      exact ret hP
    apply seq
    · intro P hP; rw [k0_part18_eq_skeleton]; unfold k0_part18_skel; simp only [semSignalWord, semWaitWord, Prog.lift, Prog.bind_op, Prog.bind_ret, Prog.pure_eq_ret, wp_deviceId]
      refine rs_step D K 0 (h := ?_)
      refine ld_xbq D K 2 (h := ?_)
      refine ld_wi D K 0 (h := ?_)
      refine ld_wo D K 0 (h := ?_)
      refine ld_pb D K fun w => ?_
      refine st_pb D K 0 2 (hw := (shapeCast_self _ _)) (h := ?_)
      refine ld_pf D K 2 2 (h := fun w => ?_)
      refine st_pf D K 0 2 2 11 (hw := (shapeCast_self _ _)) (h := ?_)
      exact ret hP
    apply seq
    · intro P hP; rw [k0_part19_eq_skeleton]; unfold k0_part19_skel; simp only [semSignalWord, semWaitWord, Prog.lift, Prog.bind_op, Prog.bind_ret, Prog.pure_eq_ret, wp_deviceId]
      iterate 2 refine rs_step D K 0 (h := ?_)
      exact ret hP
    apply seq
    · intro P hP; rw [k0_part20_eq_skeleton]; unfold k0_part20_skel; simp only [semSignalWord, semWaitWord, Prog.lift, Prog.bind_op, Prog.bind_ret, Prog.pure_eq_ret, wp_deviceId]
      refine rs_step D K 0 (h := ?_)
      exact ret hP
    apply seq
    · intro P hP; rw [k0_part21_eq_skeleton]; unfold k0_part21_skel; simp only [semSignalWord, semWaitWord, Prog.lift, Prog.bind_op, Prog.bind_ret, Prog.pure_eq_ret, wp_deviceId]
      refine rs_step D K 0 (h := ?_)
      refine ld_xbq D K 1 (h := ?_)
      refine ld_wi D K 0 (h := ?_)
      refine ld_wo D K 0 (h := ?_)
      refine ld_pb D K fun w => ?_
      refine st_pb D K 0 1 (hw := (shapeCast_self _ _)) (h := ?_)
      refine ld_pf D K 1 2 (h := fun w => ?_)
      refine st_pf D K 0 1 2 11 (hw := (shapeCast_self _ _)) (h := ?_)
      exact ret hP
    apply seq
    · intro P hP; rw [k0_part22_eq_skeleton]; unfold k0_part22_skel; simp only [semSignalWord, semWaitWord, Prog.lift, Prog.bind_op, Prog.bind_ret, Prog.pure_eq_ret, wp_deviceId]
      iterate 2 refine rs_step D K 0 (h := ?_)
      exact ret hP
    apply seq
    · intro P hP; rw [k0_part23_eq_skeleton]; unfold k0_part23_skel; simp only [semSignalWord, semWaitWord, Prog.lift, Prog.bind_op, Prog.bind_ret, Prog.pure_eq_ret, wp_deviceId]
      refine rs_step D K 0 (h := ?_)
      exact ret hP
    apply seq
    · intro P hP; rw [k0_part24_eq_skeleton]; unfold k0_part24_skel; simp only [semSignalWord, semWaitWord, Prog.lift, Prog.bind_op, Prog.bind_ret, Prog.pure_eq_ret, wp_deviceId]
      refine rs_step D K 0 (h := ?_)
      refine ld_xbq D K 0 (h := ?_)
      refine ld_wi D K 0 (h := ?_)
      refine ld_wo D K 0 (h := ?_)
      refine ld_pb D K fun w => ?_
      refine st_pb D K 0 0 (hw := (shapeCast_self _ _)) (h := ?_)
      refine ld_pf D K 0 2 (h := fun w => ?_)
      refine st_pf D K 0 0 2 11 (hw := (shapeCast_self _ _)) (h := ?_)
      exact ret hP
    apply seq
    · intro P hP; rw [k0_part25_eq_skeleton]; unfold k0_part25_skel; simp only [semSignalWord, semWaitWord, Prog.lift, Prog.bind_op, Prog.bind_ret, Prog.pure_eq_ret, wp_deviceId]
      iterate 2 refine rs_step D K 0 (h := ?_)
      exact ret hP
    apply seq
    · intro P hP; rw [k0_part26_eq_skeleton]; unfold k0_part26_skel; simp only [semSignalWord, semWaitWord, Prog.lift, Prog.bind_op, Prog.bind_ret, Prog.pure_eq_ret, wp_deviceId]
      refine rs_step D K 0 (h := ?_)
      refine norm D K 100 12 30 (h := ?_)
      refine ld_pb0 D K 0 (h := ?_)
      refine rsr_step D K 0 15 (h := ?_)
      refine ld_cr D K 0 15 (h := ?_)
      exact ret hP
    apply seq
    · intro P hP; rw [k0_part27_eq_skeleton]; unfold k0_part27_skel; simp only [semSignalWord, semWaitWord, Prog.lift, Prog.bind_op, Prog.bind_ret, Prog.pure_eq_ret, wp_deviceId]
      refine rsr_step D K 0 14 (h := ?_)
      refine ld_cr D K 0 14 (h := ?_)
      refine rsr_step D K 0 13 (h := ?_)
      refine ld_cr D K 0 13 (h := ?_)
      exact ret hP
    apply seq
    · intro P hP; rw [k0_part28_eq_skeleton]; unfold k0_part28_skel; simp only [semSignalWord, semWaitWord, Prog.lift, Prog.bind_op, Prog.bind_ret, Prog.pure_eq_ret, wp_deviceId]
      refine rsr_step D K 0 12 (h := ?_)
      refine ld_cr D K 0 12 (h := ?_)
      refine rsr_step D K 0 11 (h := ?_)
      refine ld_cr D K 0 11 (h := ?_)
      refine rsr_step D K 0 10 (h := ?_)
      refine ld_cr D K 0 10 (h := ?_)
      exact ret hP
    apply seq
    · intro P hP; rw [k0_part29_eq_skeleton]; unfold k0_part29_skel; simp only [semSignalWord, semWaitWord, Prog.lift, Prog.bind_op, Prog.bind_ret, Prog.pure_eq_ret, wp_deviceId]
      refine rsr_step D K 0 9 (h := ?_)
      refine ld_cr D K 0 9 (h := ?_)
      refine rsr_step D K 0 8 (h := ?_)
      refine ld_cr D K 0 8 (h := ?_)
      exact ret hP
    apply seq
    · intro P hP; rw [k0_part30_eq_skeleton]; unfold k0_part30_skel; simp only [semSignalWord, semWaitWord, Prog.lift, Prog.bind_op, Prog.bind_ret, Prog.pure_eq_ret, wp_deviceId]
      refine rsr_step D K 0 7 (h := ?_)
      refine ld_cr D K 0 7 (h := ?_)
      refine rsr_step D K 0 6 (h := ?_)
      refine ld_cr D K 0 6 (h := ?_)
      refine rsr_step D K 0 5 (h := ?_)
      refine ld_cr D K 0 5 (h := ?_)
      exact ret hP
    apply seq
    · intro P hP; rw [k0_part31_eq_skeleton]; unfold k0_part31_skel; simp only [semSignalWord, semWaitWord, Prog.lift, Prog.bind_op, Prog.bind_ret, Prog.pure_eq_ret, wp_deviceId]
      refine rsr_step D K 0 4 (h := ?_)
      refine ld_cr D K 0 4 (h := ?_)
      refine rsr_step D K 0 3 (h := ?_)
      refine ld_cr D K 0 3 (h := ?_)
      exact ret hP
    apply seq
    · intro P hP; rw [k0_part32_eq_skeleton]; unfold k0_part32_skel; simp only [semSignalWord, semWaitWord, Prog.lift, Prog.bind_op, Prog.bind_ret, Prog.pure_eq_ret, wp_deviceId]
      refine rsr_step D K 0 2 (h := ?_)
      refine ld_cr D K 0 2 (h := ?_)
      refine rsr_step D K 0 1 (h := ?_)
      refine ld_cr D K 0 1 (h := ?_)
      refine norm D K 100 15 30 (h := ?_)
      refine rss_step D K 0 15 (h := ?_)
      refine rss_step D K 0 14 (h := ?_)
      exact ret hP
    apply seq
    · intro P hP; rw [k0_part33_eq_skeleton]; unfold k0_part33_skel; simp only [semSignalWord, semWaitWord, Prog.lift, Prog.bind_op, Prog.bind_ret, Prog.pure_eq_ret, wp_deviceId]
      refine rss_step D K 0 13 (h := ?_)
      refine rss_step D K 0 12 (h := ?_)
      refine rss_step D K 0 11 (h := ?_)
      refine rss_step D K 0 10 (h := ?_)
      exact ret hP
    apply seq
    · intro P hP; rw [k0_part34_eq_skeleton]; unfold k0_part34_skel; simp only [semSignalWord, semWaitWord, Prog.lift, Prog.bind_op, Prog.bind_ret, Prog.pure_eq_ret, wp_deviceId]
      refine rss_step D K 0 9 (h := ?_)
      refine rss_step D K 0 8 (h := ?_)
      refine rss_step D K 0 7 (h := ?_)
      refine rss_step D K 0 6 (h := ?_)
      exact ret hP
    apply seq
    · intro P hP; rw [k0_part35_eq_skeleton]; unfold k0_part35_skel; simp only [semSignalWord, semWaitWord, Prog.lift, Prog.bind_op, Prog.bind_ret, Prog.pure_eq_ret, wp_deviceId]
      refine rss_step D K 0 5 (h := ?_)
      refine rss_step D K 0 4 (h := ?_)
      refine rss_step D K 0 3 (h := ?_)
      refine rss_step D K 0 2 (h := ?_)
      exact ret hP
    apply seq
    · intro P hP; rw [k0_part36_eq_skeleton]; unfold k0_part36_skel; simp only [semSignalWord, semWaitWord, Prog.lift, Prog.bind_op, Prog.bind_ret, Prog.pure_eq_ret, wp_deviceId]
      refine rss_step D K 0 1 (h := ?_)
      refine norm D K 100 16 30 (h := ?_)
      refine ld_xg0 D K (h := fun w => ?_)
      refine st_xg0 D K 0 (hw := sum_zero D c) (h := ?_)
      refine ag_step D K 0 (h := ?_)
      exact ret hP
    apply seq
    · intro P hP; rw [k0_part37_eq_skeleton]; unfold k0_part37_skel; simp only [semSignalWord, semWaitWord, Prog.lift, Prog.bind_op, Prog.bind_ret, Prog.pure_eq_ret, wp_deviceId]
      iterate 2 refine ag_step D K 0 (h := ?_)
      exact ret hP
    apply seq
    · intro P hP; rw [k0_part38_eq_skeleton]; unfold k0_part38_skel; simp only [semSignalWord, semWaitWord, Prog.lift, Prog.bind_op, Prog.bind_ret, Prog.pure_eq_ret, wp_deviceId]
      refine ag_step D K 0 (h := ?_)
      exact ret hP
    apply seq
    · intro P hP; rw [k0_part39_eq_skeleton]; unfold k0_part39_skel; simp only [semSignalWord, semWaitWord, Prog.lift, Prog.bind_op, Prog.bind_ret, Prog.pure_eq_ret, wp_deviceId]
      iterate 2 refine ag_step D K 0 (h := ?_)
      exact ret hP
    apply seq
    · intro P hP; rw [k0_part40_eq_skeleton]; unfold k0_part40_skel; simp only [semSignalWord, semWaitWord, Prog.lift, Prog.bind_op, Prog.bind_ret, Prog.pure_eq_ret, wp_deviceId]
      iterate 2 refine ag_step D K 0 (h := ?_)
      exact ret hP
    apply seq
    · intro P hP; rw [k0_part41_eq_skeleton]; unfold k0_part41_skel; simp only [semSignalWord, semWaitWord, Prog.lift, Prog.bind_op, Prog.bind_ret, Prog.pure_eq_ret, wp_deviceId]
      iterate 2 refine ag_step D K 0 (h := ?_)
      exact ret hP
    apply seq
    · intro P hP; rw [k0_part42_eq_skeleton]; unfold k0_part42_skel; simp only [semSignalWord, semWaitWord, Prog.lift, Prog.bind_op, Prog.bind_ret, Prog.pure_eq_ret, wp_deviceId]
      refine ag_step D K 0 (h := ?_)
      exact ret hP
    apply seq
    · intro P hP; rw [k0_part43_eq_skeleton]; unfold k0_part43_skel; simp only [semSignalWord, semWaitWord, Prog.lift, Prog.bind_op, Prog.bind_ret, Prog.pure_eq_ret, wp_deviceId]
      iterate 2 refine ag_step D K 0 (h := ?_)
      exact ret hP
    apply seq
    · intro P hP; rw [k0_part44_eq_skeleton]; unfold k0_part44_skel; simp only [semSignalWord, semWaitWord, Prog.lift, Prog.bind_op, Prog.bind_ret, Prog.pure_eq_ret, wp_deviceId]
      iterate 2 refine ag_step D K 0 (h := ?_)
      refine norm D K 101 18 45 (h := ?_)
      exact ret hP
    apply seq
    · intro P hP; rw [k0_part45_eq_skeleton]; unfold k0_part45_skel; simp only [semSignalWord, semWaitWord, Prog.lift, Prog.bind_op, Prog.bind_ret, Prog.pure_eq_ret, wp_deviceId]
      refine agr_step D K 0 15 (h := ?_)
      refine agr_step D K 0 14 (h := ?_)
      refine agr_step D K 0 13 (h := ?_)
      refine agr_step D K 0 12 (h := ?_)
      refine ld_xgq D K 0 3 20 (h := ?_)
      exact ret hP
    apply seq
    · intro P hP; rw [k0_part46_eq_skeleton]; unfold k0_part46_skel; simp only [semSignalWord, semWaitWord, Prog.lift, Prog.bind_op, Prog.bind_ret, Prog.pure_eq_ret, wp_deviceId]
      refine ld_wi D K 1 (h := ?_)
      refine ld_wo D K 1 (h := ?_)
      refine ld_pb D K fun w => ?_
      refine st_pb D K 1 3 (hw := ((shapeCast_self _ _).trans (prod_one D c _))) (h := ?_)
      refine ld_pf D K 3 20 (h := fun w => ?_)
      refine st_pf D K 1 3 20 21 (hw := ((shapeCast_self _ _).trans (congrArg tr (prod_one D c _)))) (h := ?_)
      exact ret hP
    apply seq
    · intro P hP; rw [k0_part47_eq_skeleton]; unfold k0_part47_skel; simp only [semSignalWord, semWaitWord, Prog.lift, Prog.bind_op, Prog.bind_ret, Prog.pure_eq_ret, wp_deviceId]
      iterate 2 refine rs_step D K 1 (h := ?_)
      exact ret hP
    apply seq
    · intro P hP; rw [k0_part48_eq_skeleton]; unfold k0_part48_skel; simp only [semSignalWord, semWaitWord, Prog.lift, Prog.bind_op, Prog.bind_ret, Prog.pure_eq_ret, wp_deviceId]
      iterate 2 refine rs_step D K 1 (h := ?_)
      exact ret hP
    apply seq
    · intro P hP; rw [k0_part49_eq_skeleton]; unfold k0_part49_skel; simp only [semSignalWord, semWaitWord, Prog.lift, Prog.bind_op, Prog.bind_ret, Prog.pure_eq_ret, wp_deviceId]
      refine agr_step D K 0 11 (h := ?_)
      refine agr_step D K 0 10 (h := ?_)
      refine agr_step D K 0 9 (h := ?_)
      refine agr_step D K 0 8 (h := ?_)
      refine ld_xgq D K 0 2 20 (h := ?_)
      exact ret hP
    apply seq
    · intro P hP; rw [k0_part50_eq_skeleton]; unfold k0_part50_skel; simp only [semSignalWord, semWaitWord, Prog.lift, Prog.bind_op, Prog.bind_ret, Prog.pure_eq_ret, wp_deviceId]
      refine ld_wi D K 1 (h := ?_)
      refine ld_wo D K 1 (h := ?_)
      refine ld_pb D K fun w => ?_
      refine st_pb D K 1 2 (hw := ((shapeCast_self _ _).trans (prod_one D c _))) (h := ?_)
      refine ld_pf D K 2 20 (h := fun w => ?_)
      refine st_pf D K 1 2 20 21 (hw := ((shapeCast_self _ _).trans (congrArg tr (prod_one D c _)))) (h := ?_)
      exact ret hP
    apply seq
    · intro P hP; rw [k0_part51_eq_skeleton]; unfold k0_part51_skel; simp only [semSignalWord, semWaitWord, Prog.lift, Prog.bind_op, Prog.bind_ret, Prog.pure_eq_ret, wp_deviceId]
      iterate 2 refine rs_step D K 1 (h := ?_)
      exact ret hP
    apply seq
    · intro P hP; rw [k0_part52_eq_skeleton]; unfold k0_part52_skel; simp only [semSignalWord, semWaitWord, Prog.lift, Prog.bind_op, Prog.bind_ret, Prog.pure_eq_ret, wp_deviceId]
      iterate 2 refine rs_step D K 1 (h := ?_)
      exact ret hP
    apply seq
    · intro P hP; rw [k0_part53_eq_skeleton]; unfold k0_part53_skel; simp only [semSignalWord, semWaitWord, Prog.lift, Prog.bind_op, Prog.bind_ret, Prog.pure_eq_ret, wp_deviceId]
      refine agr_step D K 0 7 (h := ?_)
      refine agr_step D K 0 6 (h := ?_)
      refine agr_step D K 0 5 (h := ?_)
      refine agr_step D K 0 4 (h := ?_)
      refine ld_xgq D K 0 1 20 (h := ?_)
      exact ret hP
    apply seq
    · intro P hP; rw [k0_part54_eq_skeleton]; unfold k0_part54_skel; simp only [semSignalWord, semWaitWord, Prog.lift, Prog.bind_op, Prog.bind_ret, Prog.pure_eq_ret, wp_deviceId]
      refine ld_wi D K 1 (h := ?_)
      refine ld_wo D K 1 (h := ?_)
      refine ld_pb D K fun w => ?_
      refine st_pb D K 1 1 (hw := ((shapeCast_self _ _).trans (prod_one D c _))) (h := ?_)
      refine ld_pf D K 1 20 (h := fun w => ?_)
      refine st_pf D K 1 1 20 21 (hw := ((shapeCast_self _ _).trans (congrArg tr (prod_one D c _)))) (h := ?_)
      exact ret hP
    apply seq
    · intro P hP; rw [k0_part55_eq_skeleton]; unfold k0_part55_skel; simp only [semSignalWord, semWaitWord, Prog.lift, Prog.bind_op, Prog.bind_ret, Prog.pure_eq_ret, wp_deviceId]
      iterate 2 refine rs_step D K 1 (h := ?_)
      exact ret hP
    apply seq
    · intro P hP; rw [k0_part56_eq_skeleton]; unfold k0_part56_skel; simp only [semSignalWord, semWaitWord, Prog.lift, Prog.bind_op, Prog.bind_ret, Prog.pure_eq_ret, wp_deviceId]
      iterate 2 refine rs_step D K 1 (h := ?_)
      exact ret hP
    apply seq
    · intro P hP; rw [k0_part57_eq_skeleton]; unfold k0_part57_skel; simp only [semSignalWord, semWaitWord, Prog.lift, Prog.bind_op, Prog.bind_ret, Prog.pure_eq_ret, wp_deviceId]
      refine agr_step D K 0 3 (h := ?_)
      refine agr_step D K 0 2 (h := ?_)
      refine agr_step D K 0 1 (h := ?_)
      refine ld_xgq D K 0 0 20 (h := ?_)
      refine ld_wi D K 1 (h := ?_)
      refine ld_wo D K 1 (h := ?_)
      exact ret hP
    apply seq
    · intro P hP; rw [k0_part58_eq_skeleton]; unfold k0_part58_skel; simp only [semSignalWord, semWaitWord, Prog.lift, Prog.bind_op, Prog.bind_ret, Prog.pure_eq_ret, wp_deviceId]
      refine ld_pb D K fun w => ?_
      refine st_pb D K 1 0 (hw := ((shapeCast_self _ _).trans (prod_one D c _))) (h := ?_)
      refine ld_pf D K 0 20 (h := fun w => ?_)
      refine st_pf D K 1 0 20 21 (hw := ((shapeCast_self _ _).trans (congrArg tr (prod_one D c _)))) (h := ?_)
      refine rs_step D K 1 (h := ?_)
      exact ret hP
    apply seq
    · intro P hP; rw [k0_part59_eq_skeleton]; unfold k0_part59_skel; simp only [semSignalWord, semWaitWord, Prog.lift, Prog.bind_op, Prog.bind_ret, Prog.pure_eq_ret, wp_deviceId]
      refine rs_step D K 1 (h := ?_)
      exact ret hP
    apply seq
    · intro P hP; rw [k0_part60_eq_skeleton]; unfold k0_part60_skel; simp only [semSignalWord, semWaitWord, Prog.lift, Prog.bind_op, Prog.bind_ret, Prog.pure_eq_ret, wp_deviceId]
      refine rs_step D K 1 (h := ?_)
      refine norm D K 101 22 60 (h := ?_)
      refine ags_step D K 0 15 (h := ?_)
      refine ags_step D K 0 14 (h := ?_)
      refine ags_step D K 0 13 (h := ?_)
      refine ags_step D K 0 12 (h := ?_)
      exact ret hP
    exact ret hP0
  apply seq
  · intro P1 hP1; rw [k0_part110_eq_skeleton]; unfold k0_part110_skel
    apply seq
    · intro P hP; rw [k0_part61_eq_skeleton]; unfold k0_part61_skel; simp only [semSignalWord, semWaitWord, Prog.lift, Prog.bind_op, Prog.bind_ret, Prog.pure_eq_ret, wp_deviceId]
      refine ags_step D K 0 11 (h := ?_)
      refine ags_step D K 0 10 (h := ?_)
      refine ags_step D K 0 9 (h := ?_)
      refine ags_step D K 0 8 (h := ?_)
      refine ags_step D K 0 7 (h := ?_)
      exact ret hP
    apply seq
    · intro P hP; rw [k0_part62_eq_skeleton]; unfold k0_part62_skel; simp only [semSignalWord, semWaitWord, Prog.lift, Prog.bind_op, Prog.bind_ret, Prog.pure_eq_ret, wp_deviceId]
      refine ags_step D K 0 6 (h := ?_)
      refine ags_step D K 0 5 (h := ?_)
      refine ags_step D K 0 4 (h := ?_)
      refine ags_step D K 0 3 (h := ?_)
      refine ags_step D K 0 2 (h := ?_)
      exact ret hP
    apply seq
    · intro P hP; rw [k0_part63_eq_skeleton]; unfold k0_part63_skel; simp only [semSignalWord, semWaitWord, Prog.lift, Prog.bind_op, Prog.bind_ret, Prog.pure_eq_ret, wp_deviceId]
      refine ags_step D K 0 1 (h := ?_)
      refine norm D K 101 23 60 (h := ?_)
      refine collect D K 0 (h := ?_)
      refine ld_pb0 D K 1 (h := ?_)
      refine rsr_step D K 1 15 (h := ?_)
      refine ld_cr D K 1 15 (h := ?_)
      refine rsr_step D K 1 14 (h := ?_)
      refine ld_cr D K 1 14 (h := ?_)
      exact ret hP
    apply seq
    · intro P hP; rw [k0_part64_eq_skeleton]; unfold k0_part64_skel; simp only [semSignalWord, semWaitWord, Prog.lift, Prog.bind_op, Prog.bind_ret, Prog.pure_eq_ret, wp_deviceId]
      refine rsr_step D K 1 13 (h := ?_)
      refine ld_cr D K 1 13 (h := ?_)
      refine rsr_step D K 1 12 (h := ?_)
      refine ld_cr D K 1 12 (h := ?_)
      refine rsr_step D K 1 11 (h := ?_)
      exact ret hP
    apply seq
    · intro P hP; rw [k0_part65_eq_skeleton]; unfold k0_part65_skel; simp only [semSignalWord, semWaitWord, Prog.lift, Prog.bind_op, Prog.bind_ret, Prog.pure_eq_ret, wp_deviceId]
      refine ld_cr D K 1 11 (h := ?_)
      refine rsr_step D K 1 10 (h := ?_)
      refine ld_cr D K 1 10 (h := ?_)
      refine rsr_step D K 1 9 (h := ?_)
      refine ld_cr D K 1 9 (h := ?_)
      exact ret hP
    apply seq
    · intro P hP; rw [k0_part66_eq_skeleton]; unfold k0_part66_skel; simp only [semSignalWord, semWaitWord, Prog.lift, Prog.bind_op, Prog.bind_ret, Prog.pure_eq_ret, wp_deviceId]
      refine rsr_step D K 1 8 (h := ?_)
      refine ld_cr D K 1 8 (h := ?_)
      refine rsr_step D K 1 7 (h := ?_)
      refine ld_cr D K 1 7 (h := ?_)
      refine rsr_step D K 1 6 (h := ?_)
      exact ret hP
    apply seq
    · intro P hP; rw [k0_part67_eq_skeleton]; unfold k0_part67_skel; simp only [semSignalWord, semWaitWord, Prog.lift, Prog.bind_op, Prog.bind_ret, Prog.pure_eq_ret, wp_deviceId]
      refine ld_cr D K 1 6 (h := ?_)
      refine rsr_step D K 1 5 (h := ?_)
      refine ld_cr D K 1 5 (h := ?_)
      refine rsr_step D K 1 4 (h := ?_)
      refine ld_cr D K 1 4 (h := ?_)
      exact ret hP
    apply seq
    · intro P hP; rw [k0_part68_eq_skeleton]; unfold k0_part68_skel; simp only [semSignalWord, semWaitWord, Prog.lift, Prog.bind_op, Prog.bind_ret, Prog.pure_eq_ret, wp_deviceId]
      refine rsr_step D K 1 3 (h := ?_)
      refine ld_cr D K 1 3 (h := ?_)
      refine rsr_step D K 1 2 (h := ?_)
      refine ld_cr D K 1 2 (h := ?_)
      refine rsr_step D K 1 1 (h := ?_)
      exact ret hP
    apply seq
    · intro P hP; rw [k0_part69_eq_skeleton]; unfold k0_part69_skel; simp only [semSignalWord, semWaitWord, Prog.lift, Prog.bind_op, Prog.bind_ret, Prog.pure_eq_ret, wp_deviceId]
      refine ld_cr D K 1 1 (h := ?_)
      refine norm D K 100 25 60 (h := ?_)
      refine rss_step D K 1 15 (h := ?_)
      refine rss_step D K 1 14 (h := ?_)
      refine rss_step D K 1 13 (h := ?_)
      exact ret hP
    apply seq
    · intro P hP; rw [k0_part70_eq_skeleton]; unfold k0_part70_skel; simp only [semSignalWord, semWaitWord, Prog.lift, Prog.bind_op, Prog.bind_ret, Prog.pure_eq_ret, wp_deviceId]
      refine rss_step D K 1 12 (h := ?_)
      refine rss_step D K 1 11 (h := ?_)
      refine rss_step D K 1 10 (h := ?_)
      refine rss_step D K 1 9 (h := ?_)
      refine rss_step D K 1 8 (h := ?_)
      exact ret hP
    apply seq
    · intro P hP; rw [k0_part71_eq_skeleton]; unfold k0_part71_skel; simp only [semSignalWord, semWaitWord, Prog.lift, Prog.bind_op, Prog.bind_ret, Prog.pure_eq_ret, wp_deviceId]
      refine rss_step D K 1 7 (h := ?_)
      refine rss_step D K 1 6 (h := ?_)
      refine rss_step D K 1 5 (h := ?_)
      refine rss_step D K 1 4 (h := ?_)
      exact ret hP
    apply seq
    · intro P hP; rw [k0_part72_eq_skeleton]; unfold k0_part72_skel; simp only [semSignalWord, semWaitWord, Prog.lift, Prog.bind_op, Prog.bind_ret, Prog.pure_eq_ret, wp_deviceId]
      refine rss_step D K 1 3 (h := ?_)
      refine rss_step D K 1 2 (h := ?_)
      refine rss_step D K 1 1 (h := ?_)
      refine norm D K 100 26 60 (h := ?_)
      refine ld_xg0 D K (h := fun w => ?_)
      refine st_xg0 D K 1 (hw := sum_one D c) (h := ?_)
      exact ret hP
    apply seq
    · intro P hP; rw [k0_part73_eq_skeleton]; unfold k0_part73_skel; simp only [semSignalWord, semWaitWord, Prog.lift, Prog.bind_op, Prog.bind_ret, Prog.pure_eq_ret, wp_deviceId]
      iterate 2 refine ag_step D K 1 (h := ?_)
      exact ret hP
    apply seq
    · intro P hP; rw [k0_part74_eq_skeleton]; unfold k0_part74_skel; simp only [semSignalWord, semWaitWord, Prog.lift, Prog.bind_op, Prog.bind_ret, Prog.pure_eq_ret, wp_deviceId]
      refine ag_step D K 1 (h := ?_)
      exact ret hP
    apply seq
    · intro P hP; rw [k0_part75_eq_skeleton]; unfold k0_part75_skel; simp only [semSignalWord, semWaitWord, Prog.lift, Prog.bind_op, Prog.bind_ret, Prog.pure_eq_ret, wp_deviceId]
      iterate 2 refine ag_step D K 1 (h := ?_)
      exact ret hP
    apply seq
    · intro P hP; rw [k0_part76_eq_skeleton]; unfold k0_part76_skel; simp only [semSignalWord, semWaitWord, Prog.lift, Prog.bind_op, Prog.bind_ret, Prog.pure_eq_ret, wp_deviceId]
      iterate 2 refine ag_step D K 1 (h := ?_)
      exact ret hP
    apply seq
    · intro P hP; rw [k0_part77_eq_skeleton]; unfold k0_part77_skel; simp only [semSignalWord, semWaitWord, Prog.lift, Prog.bind_op, Prog.bind_ret, Prog.pure_eq_ret, wp_deviceId]
      iterate 2 refine ag_step D K 1 (h := ?_)
      exact ret hP
    apply seq
    · intro P hP; rw [k0_part78_eq_skeleton]; unfold k0_part78_skel; simp only [semSignalWord, semWaitWord, Prog.lift, Prog.bind_op, Prog.bind_ret, Prog.pure_eq_ret, wp_deviceId]
      refine ag_step D K 1 (h := ?_)
      exact ret hP
    apply seq
    · intro P hP; rw [k0_part79_eq_skeleton]; unfold k0_part79_skel; simp only [semSignalWord, semWaitWord, Prog.lift, Prog.bind_op, Prog.bind_ret, Prog.pure_eq_ret, wp_deviceId]
      iterate 2 refine ag_step D K 1 (h := ?_)
      exact ret hP
    apply seq
    · intro P hP; rw [k0_part80_eq_skeleton]; unfold k0_part80_skel; simp only [semSignalWord, semWaitWord, Prog.lift, Prog.bind_op, Prog.bind_ret, Prog.pure_eq_ret, wp_deviceId]
      iterate 2 refine ag_step D K 1 (h := ?_)
      exact ret hP
    apply seq
    · intro P hP; rw [k0_part81_eq_skeleton]; unfold k0_part81_skel; simp only [semSignalWord, semWaitWord, Prog.lift, Prog.bind_op, Prog.bind_ret, Prog.pure_eq_ret, wp_deviceId]
      refine ag_step D K 1 (h := ?_)
      refine norm D K 102 28 75 (h := ?_)
      refine agr_step D K 1 15 (h := ?_)
      refine agr_step D K 1 14 (h := ?_)
      exact ret hP
    apply seq
    · intro P hP; rw [k0_part82_eq_skeleton]; unfold k0_part82_skel; simp only [semSignalWord, semWaitWord, Prog.lift, Prog.bind_op, Prog.bind_ret, Prog.pure_eq_ret, wp_deviceId]
      refine agr_step D K 1 13 (h := ?_)
      refine agr_step D K 1 12 (h := ?_)
      refine ld_xgq D K 1 3 30 (h := ?_)
      refine ld_wi D K 2 (h := ?_)
      refine ld_wo D K 2 (h := ?_)
      refine ld_pb D K fun w => ?_
      refine st_pb D K 2 3 (hw := ((shapeCast_self _ _).trans (prod_two D c _))) (h := ?_)
      refine ld_pf D K 3 30 (h := fun w => ?_)
      refine st_pf D K 2 3 30 31 (hw := ((shapeCast_self _ _).trans (congrArg tr (prod_two D c _)))) (h := ?_)
      exact ret hP
    apply seq
    · intro P hP; rw [k0_part83_eq_skeleton]; unfold k0_part83_skel; simp only [semSignalWord, semWaitWord, Prog.lift, Prog.bind_op, Prog.bind_ret, Prog.pure_eq_ret, wp_deviceId]
      refine rs_step D K 2 (h := ?_)
      exact ret hP
    apply seq
    · intro P hP; rw [k0_part84_eq_skeleton]; unfold k0_part84_skel; simp only [semSignalWord, semWaitWord, Prog.lift, Prog.bind_op, Prog.bind_ret, Prog.pure_eq_ret, wp_deviceId]
      iterate 2 refine rs_step D K 2 (h := ?_)
      exact ret hP
    apply seq
    · intro P hP; rw [k0_part85_eq_skeleton]; unfold k0_part85_skel; simp only [semSignalWord, semWaitWord, Prog.lift, Prog.bind_op, Prog.bind_ret, Prog.pure_eq_ret, wp_deviceId]
      refine rs_step D K 2 (h := ?_)
      refine agr_step D K 1 11 (h := ?_)
      refine agr_step D K 1 10 (h := ?_)
      exact ret hP
    apply seq
    · intro P hP; rw [k0_part86_eq_skeleton]; unfold k0_part86_skel; simp only [semSignalWord, semWaitWord, Prog.lift, Prog.bind_op, Prog.bind_ret, Prog.pure_eq_ret, wp_deviceId]
      refine agr_step D K 1 9 (h := ?_)
      refine agr_step D K 1 8 (h := ?_)
      refine ld_xgq D K 1 2 30 (h := ?_)
      refine ld_wi D K 2 (h := ?_)
      refine ld_wo D K 2 (h := ?_)
      refine ld_pb D K fun w => ?_
      refine st_pb D K 2 2 (hw := ((shapeCast_self _ _).trans (prod_two D c _))) (h := ?_)
      refine ld_pf D K 2 30 (h := fun w => ?_)
      refine st_pf D K 2 2 30 31 (hw := ((shapeCast_self _ _).trans (congrArg tr (prod_two D c _)))) (h := ?_)
      exact ret hP
    apply seq
    · intro P hP; rw [k0_part87_eq_skeleton]; unfold k0_part87_skel; simp only [semSignalWord, semWaitWord, Prog.lift, Prog.bind_op, Prog.bind_ret, Prog.pure_eq_ret, wp_deviceId]
      refine rs_step D K 2 (h := ?_)
      exact ret hP
    apply seq
    · intro P hP; rw [k0_part88_eq_skeleton]; unfold k0_part88_skel; simp only [semSignalWord, semWaitWord, Prog.lift, Prog.bind_op, Prog.bind_ret, Prog.pure_eq_ret, wp_deviceId]
      iterate 2 refine rs_step D K 2 (h := ?_)
      exact ret hP
    apply seq
    · intro P hP; rw [k0_part89_eq_skeleton]; unfold k0_part89_skel; simp only [semSignalWord, semWaitWord, Prog.lift, Prog.bind_op, Prog.bind_ret, Prog.pure_eq_ret, wp_deviceId]
      refine rs_step D K 2 (h := ?_)
      refine agr_step D K 1 7 (h := ?_)
      refine agr_step D K 1 6 (h := ?_)
      exact ret hP
    apply seq
    · intro P hP; rw [k0_part90_eq_skeleton]; unfold k0_part90_skel; simp only [semSignalWord, semWaitWord, Prog.lift, Prog.bind_op, Prog.bind_ret, Prog.pure_eq_ret, wp_deviceId]
      refine agr_step D K 1 5 (h := ?_)
      refine agr_step D K 1 4 (h := ?_)
      refine ld_xgq D K 1 1 30 (h := ?_)
      refine ld_wi D K 2 (h := ?_)
      refine ld_wo D K 2 (h := ?_)
      refine ld_pb D K fun w => ?_
      refine st_pb D K 2 1 (hw := ((shapeCast_self _ _).trans (prod_two D c _))) (h := ?_)
      refine ld_pf D K 1 30 (h := fun w => ?_)
      refine st_pf D K 2 1 30 31 (hw := ((shapeCast_self _ _).trans (congrArg tr (prod_two D c _)))) (h := ?_)
      exact ret hP
    apply seq
    · intro P hP; rw [k0_part91_eq_skeleton]; unfold k0_part91_skel; simp only [semSignalWord, semWaitWord, Prog.lift, Prog.bind_op, Prog.bind_ret, Prog.pure_eq_ret, wp_deviceId]
      refine rs_step D K 2 (h := ?_)
      exact ret hP
    apply seq
    · intro P hP; rw [k0_part92_eq_skeleton]; unfold k0_part92_skel; simp only [semSignalWord, semWaitWord, Prog.lift, Prog.bind_op, Prog.bind_ret, Prog.pure_eq_ret, wp_deviceId]
      iterate 2 refine rs_step D K 2 (h := ?_)
      exact ret hP
    apply seq
    · intro P hP; rw [k0_part93_eq_skeleton]; unfold k0_part93_skel; simp only [semSignalWord, semWaitWord, Prog.lift, Prog.bind_op, Prog.bind_ret, Prog.pure_eq_ret, wp_deviceId]
      refine rs_step D K 2 (h := ?_)
      refine agr_step D K 1 3 (h := ?_)
      refine agr_step D K 1 2 (h := ?_)
      exact ret hP
    apply seq
    · intro P hP; rw [k0_part94_eq_skeleton]; unfold k0_part94_skel; simp only [semSignalWord, semWaitWord, Prog.lift, Prog.bind_op, Prog.bind_ret, Prog.pure_eq_ret, wp_deviceId]
      refine agr_step D K 1 1 (h := ?_)
      refine ld_xgq D K 1 0 30 (h := ?_)
      refine ld_wi D K 2 (h := ?_)
      refine ld_wo D K 2 (h := ?_)
      refine ld_pb D K fun w => ?_
      refine st_pb D K 2 0 (hw := ((shapeCast_self _ _).trans (prod_two D c _))) (h := ?_)
      refine ld_pf D K 0 30 (h := fun w => ?_)
      refine st_pf D K 2 0 30 31 (hw := ((shapeCast_self _ _).trans (congrArg tr (prod_two D c _)))) (h := ?_)
      exact ret hP
    apply seq
    · intro P hP; rw [k0_part95_eq_skeleton]; unfold k0_part95_skel; simp only [semSignalWord, semWaitWord, Prog.lift, Prog.bind_op, Prog.bind_ret, Prog.pure_eq_ret, wp_deviceId]
      iterate 2 refine rs_step D K 2 (h := ?_)
      exact ret hP
    apply seq
    · intro P hP; rw [k0_part96_eq_skeleton]; unfold k0_part96_skel; simp only [semSignalWord, semWaitWord, Prog.lift, Prog.bind_op, Prog.bind_ret, Prog.pure_eq_ret, wp_deviceId]
      refine rs_step D K 2 (h := ?_)
      refine norm D K 102 32 90 (h := ?_)
      refine ags_step D K 1 15 (h := ?_)
      refine ags_step D K 1 14 (h := ?_)
      exact ret hP
    apply seq
    · intro P hP; rw [k0_part97_eq_skeleton]; unfold k0_part97_skel; simp only [semSignalWord, semWaitWord, Prog.lift, Prog.bind_op, Prog.bind_ret, Prog.pure_eq_ret, wp_deviceId]
      refine ags_step D K 1 13 (h := ?_)
      refine ags_step D K 1 12 (h := ?_)
      refine ags_step D K 1 11 (h := ?_)
      refine ags_step D K 1 10 (h := ?_)
      refine ags_step D K 1 9 (h := ?_)
      exact ret hP
    apply seq
    · intro P hP; rw [k0_part98_eq_skeleton]; unfold k0_part98_skel; simp only [semSignalWord, semWaitWord, Prog.lift, Prog.bind_op, Prog.bind_ret, Prog.pure_eq_ret, wp_deviceId]
      refine ags_step D K 1 8 (h := ?_)
      refine ags_step D K 1 7 (h := ?_)
      refine ags_step D K 1 6 (h := ?_)
      refine ags_step D K 1 5 (h := ?_)
      refine ags_step D K 1 4 (h := ?_)
      exact ret hP
    apply seq
    · intro P hP; rw [k0_part99_eq_skeleton]; unfold k0_part99_skel; simp only [semSignalWord, semWaitWord, Prog.lift, Prog.bind_op, Prog.bind_ret, Prog.pure_eq_ret, wp_deviceId]
      refine ags_step D K 1 3 (h := ?_)
      refine ags_step D K 1 2 (h := ?_)
      refine ags_step D K 1 1 (h := ?_)
      refine norm D K 102 33 90 (h := ?_)
      refine collect D K 1 (h := ?_)
      refine ld_pb0 D K 2 (h := ?_)
      refine rsr_step D K 2 15 (h := ?_)
      refine ld_cr D K 2 15 (h := ?_)
      exact ret hP
    apply seq
    · intro P hP; rw [k0_part100_eq_skeleton]; unfold k0_part100_skel; simp only [semSignalWord, semWaitWord, Prog.lift, Prog.bind_op, Prog.bind_ret, Prog.pure_eq_ret, wp_deviceId]
      refine rsr_step D K 2 14 (h := ?_)
      refine ld_cr D K 2 14 (h := ?_)
      refine rsr_step D K 2 13 (h := ?_)
      refine ld_cr D K 2 13 (h := ?_)
      exact ret hP
    apply seq
    · intro P hP; rw [k0_part101_eq_skeleton]; unfold k0_part101_skel; simp only [semSignalWord, semWaitWord, Prog.lift, Prog.bind_op, Prog.bind_ret, Prog.pure_eq_ret, wp_deviceId]
      refine rsr_step D K 2 12 (h := ?_)
      refine ld_cr D K 2 12 (h := ?_)
      refine rsr_step D K 2 11 (h := ?_)
      refine ld_cr D K 2 11 (h := ?_)
      refine rsr_step D K 2 10 (h := ?_)
      refine ld_cr D K 2 10 (h := ?_)
      exact ret hP
    apply seq
    · intro P hP; rw [k0_part102_eq_skeleton]; unfold k0_part102_skel; simp only [semSignalWord, semWaitWord, Prog.lift, Prog.bind_op, Prog.bind_ret, Prog.pure_eq_ret, wp_deviceId]
      refine rsr_step D K 2 9 (h := ?_)
      refine ld_cr D K 2 9 (h := ?_)
      refine rsr_step D K 2 8 (h := ?_)
      refine ld_cr D K 2 8 (h := ?_)
      exact ret hP
    apply seq
    · intro P hP; rw [k0_part103_eq_skeleton]; unfold k0_part103_skel; simp only [semSignalWord, semWaitWord, Prog.lift, Prog.bind_op, Prog.bind_ret, Prog.pure_eq_ret, wp_deviceId]
      refine rsr_step D K 2 7 (h := ?_)
      refine ld_cr D K 2 7 (h := ?_)
      refine rsr_step D K 2 6 (h := ?_)
      refine ld_cr D K 2 6 (h := ?_)
      refine rsr_step D K 2 5 (h := ?_)
      refine ld_cr D K 2 5 (h := ?_)
      exact ret hP
    apply seq
    · intro P hP; rw [k0_part104_eq_skeleton]; unfold k0_part104_skel; simp only [semSignalWord, semWaitWord, Prog.lift, Prog.bind_op, Prog.bind_ret, Prog.pure_eq_ret, wp_deviceId]
      refine rsr_step D K 2 4 (h := ?_)
      refine ld_cr D K 2 4 (h := ?_)
      refine rsr_step D K 2 3 (h := ?_)
      refine ld_cr D K 2 3 (h := ?_)
      exact ret hP
    apply seq
    · intro P hP; rw [k0_part105_eq_skeleton]; unfold k0_part105_skel; simp only [semSignalWord, semWaitWord, Prog.lift, Prog.bind_op, Prog.bind_ret, Prog.pure_eq_ret, wp_deviceId]
      refine rsr_step D K 2 2 (h := ?_)
      refine ld_cr D K 2 2 (h := ?_)
      refine rsr_step D K 2 1 (h := ?_)
      refine ld_cr D K 2 1 (h := ?_)
      refine norm D K 100 35 90 (h := ?_)
      refine rss_step D K 2 15 (h := ?_)
      exact ret hP
    apply seq
    · intro P hP; rw [k0_part106_eq_skeleton]; unfold k0_part106_skel; simp only [semSignalWord, semWaitWord, Prog.lift, Prog.bind_op, Prog.bind_ret, Prog.pure_eq_ret, wp_deviceId]
      refine rss_step D K 2 14 (h := ?_)
      refine rss_step D K 2 13 (h := ?_)
      refine rss_step D K 2 12 (h := ?_)
      refine rss_step D K 2 11 (h := ?_)
      exact ret hP
    apply seq
    · intro P hP; rw [k0_part107_eq_skeleton]; unfold k0_part107_skel; simp only [semSignalWord, semWaitWord, Prog.lift, Prog.bind_op, Prog.bind_ret, Prog.pure_eq_ret, wp_deviceId]
      refine rss_step D K 2 10 (h := ?_)
      refine rss_step D K 2 9 (h := ?_)
      refine rss_step D K 2 8 (h := ?_)
      refine rss_step D K 2 7 (h := ?_)
      refine rss_step D K 2 6 (h := ?_)
      exact ret hP
    apply seq
    · intro P hP; rw [k0_part108_eq_skeleton]; unfold k0_part108_skel; simp only [semSignalWord, semWaitWord, Prog.lift, Prog.bind_op, Prog.bind_ret, Prog.pure_eq_ret, wp_deviceId]
      refine rss_step D K 2 5 (h := ?_)
      refine rss_step D K 2 4 (h := ?_)
      refine rss_step D K 2 3 (h := ?_)
      refine rss_step D K 2 2 (h := ?_)
      exact ret hP
    simp only [semSignalWord, semWaitWord, Prog.lift, Prog.bind_op, Prog.bind_ret, Prog.pure_eq_ret, wp_deviceId]
    refine rss_step D K 2 1 (h := ?_)
    refine norm D K 100 36 90 (h := ?_)
    refine ld_out D K fun w => ?_
    refine st_out D K (hw := sum_two D c) (h := ?_)
    exact ret hP1
  exact fin h

end Cert.Mlp
-- ==== Proof.Region.lean ====
/-
# The launch of the kernel

What a device has at launch, sorted into the slots' first stage; what it has at the end, put together again; and the run of
the whole program on all devices.
-/
module

public import proofs.«01_k».proof.Proof.Ghost
public import proofs.«01_k».proof.Proof.Body
public import proofs.«01_k».proof.Proof.Gen.KernelIdeal.Launch
public import proofs.«01_k».proof.Proof.Gen.KernelIdeal.Points
public import Idealize.ShloMosaic.Lib.Quiescent

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (D : In F) (K : Dev nD × CI → ℕ)

/-! ## Buffers cut into slots -/

omit [FloatOps F] in
/-- A whole buffer is its slots, -/
theorem cut16 (ℓ : Loc nD τ sig) (S : Fin 16 → Finset (Idx ℓ)) (hd : ∀ p p', p ≠ p' → Disjoint (S p) (S p')) (hc : Finset.univ.biUnion S = Finset.univ) :
    iprop(∃ f : Buf (Elt F) ℓ, ℓ ↦{fullShare} f) ⊢ (bigSep Finset.univ fun p => iprop(∃ f : Buf (Elt F) ℓ, ℓ ↦[S p]{fullShare} f) : sProp (MT nD τ sig ℕ (Elt F) ℕ UU ℕ)) := by
  iintro ⟨%f, H⟩
  have h : (ℓ ↦{fullShare} f : sProp 𝕄) ⊢ bigSep Finset.univ fun p => iprop(∃ f : Buf (Elt F) ℓ, ℓ ↦[S p]{fullShare} f) := by
    rw [← hc, pointsTo_biUnion Finset.univ S fun p _ p' _ h => hd p p' h]
    refine bigSep_mono fun p _ => ?_
    show (ℓ ↦[S p]{fullShare} f : sProp 𝕄) ⊢ iprop(∃ f : Buf (Elt F) ℓ, ℓ ↦[S p]{fullShare} f)
    iintro H; iexists f; iexact H
  iapply h; iexact H

omit [FloatOps F] in
/-- and its slots are the whole buffer. -/
theorem join16 (ℓ : Loc nD τ sig) (S : Fin 16 → Finset (Idx ℓ)) (hd : ∀ p p', p ≠ p' → Disjoint (S p) (S p')) (hc : Finset.univ.biUnion S = Finset.univ) :
    (bigSep Finset.univ fun p => iprop(∃ f : Buf (Elt F) ℓ, ℓ ↦[S p]{fullShare} f) : sProp (MT nD τ sig ℕ (Elt F) ℕ UU ℕ)) ⊢ iprop(∃ f : Buf (Elt F) ℓ, ℓ ↦{fullShare} f) := by
  by_cases hn : Nonempty (Buf (Elt F) ℓ)
  · iintro H
    ihave H := (bigSep_exists_pi Finset.univ (fun (p : Fin 16) (f : Buf (Elt F) ℓ) => (ℓ ↦[S p]{fullShare} f : sProp 𝕄))) $$ H
    icases H with ⟨%fs, H⟩
    ihave H := (pointsTo_biUnion_join Finset.univ S fs (fs 0) fun p _ p' _ h => hd p p' h) $$ H
    icases H with ⟨%g, -, H⟩
    iexists g
    have e : (ℓ ↦[Finset.univ.biUnion S]{fullShare} g : sProp 𝕄) ⊢ ℓ ↦{fullShare} g := by rw [hc]
    iapply e; iexact H
  · refine (bigSep_elim (Finset.mem_univ (0 : Fin 16))).trans ?_
    show iprop(∃ f : Buf (Elt F) ℓ, ℓ ↦[S 0]{fullShare} f) ⊢ iprop(∃ f : Buf (Elt F) ℓ, ℓ ↦{fullShare} f)
    iintro ⟨%f, H⟩
    exact absurd ⟨f⟩ hn

/-- The four buffers held by slots. -/
def bufs (c : Dev nD) (p : Fin 16) : sProp 𝕄 := iprop(gar c (crS 0 p) ∗ gar c (crS 2 p) ∗ gar c (xgS p) ∗ gar c (pfS p))

/-- A buffer, its contents unknown. -/
abbrev any (c : Dev nD) (b : Ref sig .tc) : sProp 𝕄 := iprop(∃ f : Buf (Elt F) ((c : Thread nD τ).loc b), ((c : Thread nD τ).loc b) ↦{fullShare} f)

theorem r3_sets {b : Ref sig .tc} (V : View sig .tc .vmem S16x32x256 .bf16) : (Finset.univ.biUnion fun p : Fin 16 => (V.slice (r3 p)).set) = V.set := by
  show _ = Finset.univ.map V.emb
  rw [← r3_cover, Finset.map_eq_image, Finset.biUnion_image]
  refine Finset.biUnion_congr rfl fun t _ => ?_
  rw [View.set_slice, Finset.map_eq_image]

theorem crA_set (p : Fin 16) : ((crA p).view.set : Finset (View.whole (sig := sig) (κ := .tc) cc0_scratch4).ty.Idx) = ((View.whole cc0_scratch4).slice (r3 p)).set :=
  View.set_reshape _ _
theorem crA_disj {p p' : Fin 16} (h : p ≠ p') :
    Disjoint ((crA p).view.set : Finset (View.whole (sig := sig) (κ := .tc) cc0_scratch4).ty.Idx) (crA p').view.set := by
  rw [crA_set, crA_set, View.set_slice, View.set_slice]; exact (Finset.disjoint_map _).2 (r3_disj h)
theorem crA_cover : Finset.biUnion (α := Fin 16) (β := (View.whole (sig := sig) (κ := .tc) cc0_scratch4).ty.Idx) Finset.univ (fun p => (crA p).view.set) = Finset.univ :=
  (congrArg (Finset.biUnion Finset.univ) (funext crA_set)).trans ((r3_sets (b := cc0_scratch4) (View.whole cc0_scratch4)).trans (View.set_whole _))
theorem crC_set (p : Fin 16) : ((crC p).view.set : Finset (View.whole (sig := sig) (κ := .tc) cc0_scratch5).ty.Idx) = ((View.whole cc0_scratch5).slice (r3 p)).set :=
  View.set_reshape _ _
theorem crC_disj {p p' : Fin 16} (h : p ≠ p') :
    Disjoint ((crC p).view.set : Finset (View.whole (sig := sig) (κ := .tc) cc0_scratch5).ty.Idx) (crC p').view.set := by
  rw [crC_set, crC_set, View.set_slice, View.set_slice]; exact (Finset.disjoint_map _).2 (r3_disj h)
theorem crC_cover : Finset.biUnion (α := Fin 16) (β := (View.whole (sig := sig) (κ := .tc) cc0_scratch5).ty.Idx) Finset.univ (fun p => (crC p).view.set) = Finset.univ :=
  (congrArg (Finset.biUnion Finset.univ) (funext crC_set)).trans ((r3_sets (b := cc0_scratch5) (View.whole cc0_scratch5)).trans (View.set_whole _))

omit [FloatOps F] in
theorem bufs_cut (c : Dev nD) : iprop(any c cc0_scratch4 ∗ any c cc0_scratch5 ∗ any c cc0_scratch1 ∗ any c cc0_scratch3)
    ⊢ (bigSep Finset.univ fun p => bufs (F := F) c p) := by
  unfold bufs
  simp only [bigSep_sep']
  exact BI.sep_mono (cut16 ((c : Thread nD τ).loc cc0_scratch4) (fun p => (crA p).view.set) (fun p p' h => crA_disj h) crA_cover)
    (BI.sep_mono (cut16 ((c : Thread nD τ).loc cc0_scratch5) (fun p => (crC p).view.set) (fun p p' h => crC_disj h) crC_cover)
      (BI.sep_mono (cut16 ((c : Thread nD τ).loc cc0_scratch1) (fun p => (xgS p).view.set) (fun p p' h => sets_disj (View.whole cc0_scratch1) h) ((sets_cover (View.whole cc0_scratch1)).trans (View.set_whole _)))
        (cut16 ((c : Thread nD τ).loc cc0_scratch3) (fun p => (pfS p).view.set) (fun p p' h => sets_disj (View.whole cc0_scratch3) h) ((sets_cover (View.whole cc0_scratch3)).trans (View.set_whole _)))))

omit [FloatOps F] in
theorem bufs_join (c : Dev nD) : (bigSep Finset.univ fun p => bufs (F := F) c p)
    ⊢ iprop(any c cc0_scratch4 ∗ any c cc0_scratch5 ∗ any c cc0_scratch1 ∗ any c cc0_scratch3) := by
  unfold bufs
  simp only [bigSep_sep']
  exact BI.sep_mono (join16 ((c : Thread nD τ).loc cc0_scratch4) (fun p => (crA p).view.set) (fun p p' h => crA_disj h) crA_cover)
    (BI.sep_mono (join16 ((c : Thread nD τ).loc cc0_scratch5) (fun p => (crC p).view.set) (fun p p' h => crC_disj h) crC_cover)
      (BI.sep_mono (join16 ((c : Thread nD τ).loc cc0_scratch1) (fun p => (xgS p).view.set) (fun p p' h => sets_disj (View.whole cc0_scratch1) h) ((sets_cover (View.whole cc0_scratch1)).trans (View.set_whole _)))
        (join16 ((c : Thread nD τ).loc cc0_scratch3) (fun p => (pfS p).view.set) (fun p p' h => sets_disj (View.whole cc0_scratch3) h) ((sets_cover (View.whole cc0_scratch3)).trans (View.set_whole _)))))

/-! ## Slots at the start and at the end -/

/-- The positions of a slot's cells. -/
def pos6 (c : Dev nD) (p : Fin 16) : sProp 𝕄 := bigSep Finset.univ fun a : Fin 6 => iprop(atPos ER (cell c a p) 0 ∅ 0 ∗ reached ER (cell c a p) 0)

omit [FloatOps F] in
theorem posn_eq (c : Dev nD) : posn (F := F) c = iprop((atPos ER (barCell c) 0 ∅ 0 ∗ reached ER (barCell c) 0) ∗ bigSep Finset.univ fun p => pos6 (F := F) c p) := by
  unfold posn; rw [big_option, big_slots]; rfl

theorem pos6_atoms (c : Dev nD) (p : Fin 16) : pos6 (F := F) c p ⊢ atoms D c p [.at 0 0, .at 1 0, .at 2 0, .at 3 0, .at 4 0, .at 5 0] := by
  unfold pos6
  rw [big_six]
  simp only [atoms_cons, atoms_nil]
  show iprop(atom D c p (.at 0 0) ∗ atom D c p (.at 1 0) ∗ atom D c p (.at 2 0) ∗ atom D c p (.at 3 0) ∗ atom D c p (.at 4 0) ∗ atom D c p (.at 5 0)) ⊢ _
  iintro ⟨H1, H2, H3, H4, H5, H6⟩
  isplitl [H1]; · iexact H1
  isplitl [H2]; · iexact H2
  isplitl [H3]; · iexact H3
  isplitl [H4]; · iexact H4
  isplitl [H5]; · iexact H5
  isplitl [H6]; · iexact H6
  iempintro

/-- What a slot is launched with. -/
def ini (c : Dev nD) (p : Fin 16) : sProp 𝕄 := iprop(ptoks c p ∗ crd c p ∗ pos6 c p ∗ bufs c p)

theorem ini_slot (c : Dev nD) (p : Fin 16) (hp : p ≠ 0) : ini (F := F) c p ⊢ slot D c p 0 := by
  unfold slot
  rw [atoms_perm D c p (show (al 0).Perm ([.tB, .tS 0, .tR 0, .tG 0, .tH 0, .tS 1, .tR 1, .tG 1, .tH 1, .tS 2, .tR 2] ++ ([.cR 0, .cR 1, .cR 2, .cH 0, .cH 1]
    ++ ([.at 0 0, .at 1 0, .at 2 0, .at 3 0, .at 4 0, .at 5 0] ++ [.cr0, .cr2, .xgo, .pbo]))) by decide), atoms_append, atoms_append, atoms_append]
  unfold ini bufs
  refine BI.sep_mono (ptoks_atoms D c p) (BI.sep_mono (crd_atoms D c p hp) (BI.sep_mono (pos6_atoms D c p) ?_))
  simp only [atoms_cons, atoms_nil]
  show iprop(atom D c p .cr0 ∗ atom D c p .cr2 ∗ atom D c p .xgo ∗ atom D c p .pbo) ⊢ _
  iintro ⟨H1, H2, H3, H4⟩
  isplitl [H1]; · iexact H1
  isplitl [H2]; · iexact H2
  isplitl [H3]; · iexact H3
  isplitl [H4]; · iexact H4
  iempintro

theorem ini_zero (c : Dev nD) : ini (F := F) c 0 ⊢ iprop(slot D c 0 100 ∗ rst c ∗ x0st c true) := by
  unfold slot
  rw [atoms_perm D c 0 (show (al 100).Perm ([.at 0 0, .at 1 0, .at 2 0, .at 3 0, .at 4 0, .at 5 0] ++ [.pbo]) by decide), atoms_append]
  unfold ini bufs rst x0st
  rw [if_pos rfl]
  simp only [atoms_cons D c 0 .pbo, atoms_nil]
  iintro ⟨-, -, H1, H2, H3, H4, H5⟩
  ihave H1 := (pos6_atoms D c 0) $$ H1
  isplitl [H1 H5]
  · isplitl [H1]; · iexact H1
    isplitl [H5]
    · iapply (Entails.of_eq (show atom D c 0 .pbo = gar c (pfS 0) from rfl).symm); iexact H5
    iempintro
  isplitl [H2 H3]
  · isplitl [H2]; · iexact H2
    iexact H3
  iexact H4

theorem start_slots (c : Dev nD) : (bigSep Finset.univ fun p => ini (F := F) c p) ⊢ iprop(slots D c (stg 100 0) ∗ rst c ∗ x0st c true) := by
  rw [slots_split D c (stg 100 0) 0, bigSep_erase (Finset.mem_univ (0 : Fin 16))]
  have h : (bigSep (Finset.univ.erase (0 : Fin 16)) fun p => ini (F := F) c p) ⊢ bigSep (Finset.univ.erase (0 : Fin 16)) fun q => slot D c q (stg 100 0 q) :=
    bigSep_mono fun p hp => by
      have hp' := Finset.ne_of_mem_erase hp
      rw [show stg 100 0 p = 0 from if_neg hp']
      exact ini_slot D c p hp'
  show iprop(ini (F := F) c 0 ∗ bigSep (Finset.univ.erase (0 : Fin 16)) fun p => ini (F := F) c p)
    ⊢ iprop((slot D c 0 100 ∗ bigSep (Finset.univ.erase (0 : Fin 16)) fun q => slot D c q (stg 100 0 q)) ∗ rst c ∗ x0st c true)
  iintro ⟨H1, H2⟩
  ihave H1 := (ini_zero D c) $$ H1
  icases H1 with ⟨H1, H3, H4⟩
  ihave H2 := h $$ H2
  isplitl [H1 H2]
  · isplitl [H1]; · iexact H1
    iexact H2
  isplitl [H3]; · iexact H3
  iexact H4

/-- The positions of a slot's cells at the end. -/
def endp (c : Dev nD) (p : Fin 16) : sProp 𝕄 := bigSep Finset.univ fun a : Fin 6 => atPos ER (cell c a p) (if p = 0 then 0 else if a.val < 4 then 2 else 1) ∅ 0

theorem end_slot (c : Dev nD) (p : Fin 16) (hp : p ≠ 0) : slot D c p 36 ⊢ iprop(endp c p ∗ bufs c p) := by
  unfold slot
  rw [atoms_perm D c p (show (al 36).Perm [.at 0 2, .at 1 2, .at 2 2, .at 3 2, .at 4 1, .at 5 1, .crv 1, .crv 2, .xgv 1, .pbo] by decide)]
  unfold endp bufs
  rw [big_six]
  simp only [atoms_cons, atoms_nil, if_neg hp, atom]
  show _ ⊢ iprop((atPos ER (cell c 0 p) 2 ∅ 0 ∗ atPos ER (cell c 1 p) 2 ∅ 0 ∗ atPos ER (cell c 2 p) 2 ∅ 0 ∗ atPos ER (cell c 3 p) 2 ∅ 0 ∗ atPos ER (cell c 4 p) 1 ∅ 0
    ∗ atPos ER (cell c 5 p) 1 ∅ 0) ∗ gar c (crS 1 p) ∗ gar c (crS 2 p) ∗ gar c (xgS p) ∗ gar c (pfS p))
  iintro ⟨⟨H0, -⟩, ⟨H1, -⟩, ⟨H2, -⟩, ⟨H3, -⟩, ⟨H4, -⟩, ⟨H5, -⟩, H6, H7, H8, H9, -⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iapply (hol_gar c (crS 1 p) _); iexact H6
  isplitl [H7]; · iapply (hol_gar c (crS 2 p) _); iexact H7
  isplitl [H8]; · iapply (hol_gar c (xgS p) _); iexact H8
  iexact H9

theorem end_zero (c : Dev nD) : iprop(slot D c 0 100 ∗ rst c ∗ x0st c true) ⊢ iprop(endp c 0 ∗ bufs c 0) := by
  unfold slot
  rw [atoms_perm D c 0 (show (al 100).Perm [.at 0 0, .at 1 0, .at 2 0, .at 3 0, .at 4 0, .at 5 0, .pbo] by decide)]
  unfold endp bufs rst x0st
  rw [big_six, if_pos rfl]
  simp only [atoms_cons, atoms_nil, if_pos, atom]
  iintro ⟨⟨⟨H0, -⟩, ⟨H1, -⟩, ⟨H2, -⟩, ⟨H3, -⟩, ⟨H4, -⟩, ⟨H5, -⟩, H9, -⟩, ⟨H6, H7⟩, H8⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [H7]; · iexact H7
  isplitl [H8]; · iexact H8
  iexact H9

theorem end_slots (c : Dev nD) : iprop(slots D c (stg 100 36) ∗ rst c ∗ x0st c true) ⊢ bigSep Finset.univ fun p => iprop(endp (F := F) c p ∗ bufs c p) := by
  rw [slots_split D c (stg 100 36) 0, bigSep_erase (Finset.mem_univ (0 : Fin 16))]
  have h : (bigSep (Finset.univ.erase (0 : Fin 16)) fun q => slot D c q (stg 100 36 q)) ⊢ bigSep (Finset.univ.erase (0 : Fin 16)) fun p => iprop(endp (F := F) c p ∗ bufs c p) :=
    bigSep_mono fun p hp => by
      have hp' := Finset.ne_of_mem_erase hp
      rw [show stg 100 36 p = 36 from if_neg hp']
      exact end_slot D c p hp'
  show iprop((slot D c 0 100 ∗ bigSep (Finset.univ.erase (0 : Fin 16)) fun q => slot D c q (stg 100 36 q)) ∗ rst c ∗ x0st c true)
    ⊢ iprop((endp (F := F) c 0 ∗ bufs c 0) ∗ bigSep (Finset.univ.erase (0 : Fin 16)) fun p => iprop(endp (F := F) c p ∗ bufs c p))
  iintro ⟨⟨H1, H2⟩, H3, H4⟩
  ihave H2 := h $$ H2
  isplitr [H2]
  · iapply (end_zero D c)
    isplitl [H1]; · iexact H1
    isplitl [H3]; · iexact H3
    iexact H4
  iexact H2

theorem cell_end (c : Dev nD) (p : Fin 16) (a : Fin 6) :
    iprop(recs D K ∗ atPos ER (cell c a p) (if p = 0 then 0 else if a.val < 4 then 2 else 1) ∅ 0) ⊢ |={Set.univ}=> semVal (cell c a p) 0 := by
  refine (sep_mono_left (recs_cell D K c a p)).trans ?_
  iintro ⟨⟨#H1, -⟩, H2⟩
  iapply (Rounds.cell_close ER (sched D) (Set.mem_univ (K (c, some (a, p)))) (fun h => h) (R := if p = 0 then 0 else if a.val < 4 then 2 else 1)
    (duties_late D c a p _ (by by_cases h : p = 0; · exact Or.inl h
                               · exact Or.inr (by rw [if_neg h]))))
  isplitr; · iexact H1
  iexact H2

/-- A persistent fact goes to every conjunct. -/
theorem big_pers {ι : Type} [DecidableEq ι] {T : Finset ι} {X : sProp (MT nD τ sig ℕ (Elt F) ℕ UU ℕ)} [BI.Persistent X] {f g : ι → sProp (MT nD τ sig ℕ (Elt F) ℕ UU ℕ)}
    (h : ∀ i, iprop(X ∗ f i) ⊢ |={Set.univ}=> g i) : iprop(X ∗ bigSep T f) ⊢ |={Set.univ}=> bigSep T g :=
  ((sep_mono_left (bigSep_of_persistent T X)).trans ((Entails.of_eq (bigSep_sep' T (fun _ => X) f).symm).trans (bigSep_mono fun i _ => h i))).trans (bigSep_fupd _ _)

/-- All of a device's own cells closed. -/
theorem cells_end (c : Dev nD) :
    iprop(recs D K ∗ bigSep Finset.univ fun p => endp (F := F) c p)
      ⊢ |={Set.univ}=> Pipeline.ownSems0 (Ix := ℕ) (Name := ℕ) (U := UU) (Lvl := ℕ) (Val := Elt F) (τ := τ) osem c := by
  unfold Pipeline.ownSems0
  rw [big_slots]
  exact big_pers fun p => big_pers fun a => cell_end D K c p a

theorem bar_end (c : Dev nD) : iprop(recs D K ∗ bst (F := F) c true) ⊢ |={Set.univ}=> unscopedSems0 c := by
  refine (sep_mono_left (recs_bar D K c)).trans ?_
  unfold bst unscopedSems0
  rw [if_pos rfl, bigSep_eq_bigSepL_of_eq [SemLoc.reg barS] (by decide) (by decide)]
  show _ ⊢ |={Set.univ}=> semVal (barCell c) 0
  iintro ⟨⟨#H1, -⟩, H2⟩
  iapply (Rounds.cell_close ER (sched D) (Set.mem_univ (K (c, none))) (fun h => h) (R := 1) (duties_bar_late D c))
  isplitr; · iexact H1
  iexact H2

/-! ## The pipeline's data -/

/-- What the body starts from, -/
def Φ₀ (c : Dev nD) : sProp 𝕄 :=
  iprop(∃ K : Dev nD × CI → ℕ, recs D K ∗ levAts L lv ∗ slots D c (stg 100 0) ∗ bst c false ∗ xbst D c 0 ∗ pbst D c none ∗ x0st c true ∗ rst c)
/-- and what it leaves. -/
def Φ₁ (c : Dev nD) : sProp 𝕄 :=
  iprop(unscopedSems0 c ∗ Pipeline.ownSems0 (Ix := ℕ) (Name := ℕ) (U := UU) (Lvl := ℕ) (Val := Elt F) (τ := τ) osem c
    ∗ any c cc0_scratch0 ∗ any c cc0_scratch1 ∗ any c cc0_scratch2 ∗ any c cc0_scratch3 ∗ any c cc0_scratch4 ∗ any c cc0_scratch5)

theorem start_intro (c : Dev nD) :
    iprop((G' D c ∗ Pipeline.launchCred (fun d : Dev nD => owL d pays) c ∗ levAts L lv)
      ∗ any c cc0_scratch0 ∗ any c cc0_scratch1 ∗ any c cc0_scratch2 ∗ any c cc0_scratch3 ∗ any c cc0_scratch4 ∗ any c cc0_scratch5) ⊢ Φ₀ D c := by
  unfold G' Φ₀ bst xbst pbst buf
  rw [if_neg Bool.false_ne_true]
  iintro ⟨⟨⟨%K, #HK, Hp, Ht⟩, Hc, #HL⟩, ⟨%f0, B0⟩, B1, ⟨%f2, B2⟩, B3, B4, B5⟩
  ihave Hc := (credits (F := F) c) $$ Hc
  icases Hc with ⟨Hb, Hc⟩
  ihave Hp := (Entails.of_eq (posn_eq (F := F) c)) $$ Hp
  icases Hp with ⟨⟨Hpb, -⟩, Hp⟩
  ihave HB := (bufs_cut (F := F) c) $$ [B1 B3 B4 B5]
  · isplitl [B4]; · iexact B4
    isplitl [B5]; · iexact B5
    isplitl [B1]; · iexact B1
    iexact B3
  have h : iprop((bigSep Finset.univ fun p => ptoks (F := F) c p) ∗ (bigSep Finset.univ fun p => crd (F := F) c p) ∗ (bigSep Finset.univ fun p => pos6 (F := F) c p)
      ∗ bigSep Finset.univ fun p => bufs (F := F) c p) ⊢ iprop(slots D c (stg 100 0) ∗ rst c ∗ x0st c true) := by
    refine BIBase.Entails.trans ?_ (start_slots D c)
    unfold ini; simp only [bigSep_sep']; exact .rfl
  ihave H := h $$ [Ht Hc Hp HB]
  · isplitl [Ht]; · iexact Ht
    isplitl [Hc]; · iexact Hc
    isplitl [Hp]; · iexact Hp
    iexact HB
  icases H with ⟨HS, HR, HX⟩
  iexists K
  isplitr; · iexact HK
  isplitr; · iexact HL
  isplitl [HS]; · iexact HS
  isplitl [Hpb Hb]
  · isplitl [Hpb]; · iexact Hpb
    iexact Hb
  isplitl [B0]
  · iexists f0
    isplitr; · ipureintro; exact fun q hq => absurd hq (Nat.not_lt_zero _)
    iexact B0
  isplitl [B2]
  · iexists f2
    isplitr; · ipureintro; exact fun l hl => by cases hl
    iexact B2
  isplitl [HX]; · iexact HX
  iexact HR

theorem end_intro (c : Dev nD) :
    iprop(recs D K ∗ slots D c (stg 100 36) ∗ bst c true ∗ xbst D c 16 ∗ pbst D c (some 2) ∗ x0st c true ∗ rst c) ⊢ |={Set.univ}=> Φ₁ (F := F) c := by
  unfold Φ₁ xbst pbst buf
  iintro ⟨#HK, HS, Hb, ⟨%f0, -, B0⟩, ⟨%f2, -, B2⟩, HX, HR⟩
  ihave H := (end_slots D c) $$ [HS HX HR]
  · isplitl [HS]; · iexact HS
    isplitl [HR]; · iexact HR
    iexact HX
  ihave H := (Entails.of_eq (bigSep_sep' Finset.univ (fun p => endp (F := F) c p) (fun p => bufs c p))) $$ H
  icases H with ⟨He, HB⟩
  ihave HB := (bufs_join (F := F) c) $$ HB
  icases HB with ⟨B4, B5, B1, B3⟩
  imod (bar_end D K c) $$ [Hb] with Hb
  · isplitr; · iexact HK
    iexact Hb
  imod (cells_end D K c) $$ [He] with He
  · isplitr; · iexact HK
    iexact He
  imodintro
  isplitl [Hb]; · iexact Hb
  isplitl [He]; · iexact He
  isplitl [B0]; · iexists f0; iexact B0
  isplitl [B1]; · iexact B1
  isplitl [B2]; · iexists f2; iexact B2
  isplitl [B3]; · iexact B3
  isplitl [B4]; · iexact B4
  iexact B5

end Cert.Mlp
-- ==== Proof.Run.lean ====
/-
# The run of the program

The pipeline around the kernel has one point and fetches whole arrays. Its data on a device, the obligation of its body
(`kern_spec`), and the run of the program on sixteen devices, for any floats and any memory.
-/
module

public import proofs.«01_k».proof.Proof.Region
public import Idealize.ShloMosaic.Lib.Pipeline.CollectiveSegs

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- The inputs the devices fetch. -/
def fin₀ : In F where
  X c := (win0_0.blk (0 : Fin 1)).view.read (Elt F) (m ((c : Thread nD τ).loc main_arg0))
  WI l c := match l with
    | 0 => (win0_1.blk (0 : Fin 1)).view.read (Elt F) (m ((c : Thread nD τ).loc main_arg1))
    | 1 => (win0_3.blk (0 : Fin 1)).view.read (Elt F) (m ((c : Thread nD τ).loc main_arg2))
    | 2 => (win0_5.blk (0 : Fin 1)).view.read (Elt F) (m ((c : Thread nD τ).loc main_arg3))
  WO l c := match l with
    | 0 => (win0_2.blk (0 : Fin 1)).view.read (Elt F) (m ((c : Thread nD τ).loc main_arg4))
    | 1 => (win0_4.blk (0 : Fin 1)).view.read (Elt F) (m ((c : Thread nD τ).loc main_arg5))
    | 2 => (win0_6.blk (0 : Fin 1)).view.read (Elt F) (m ((c : Thread nD τ).loc main_arg6))

abbrev DD : In F := fin₀ m

/-- The pipeline's data on device `c`: the arrays as launched, the staging buffers after the body, the state before and after it, and what
    the device owes. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (DD m).X c
    | ⟨1, _⟩ => (DD m).WI 0 c
    | ⟨2, _⟩ => (DD m).WO 0 c
    | ⟨3, _⟩ => (DD m).WI 1 c
    | ⟨4, _⟩ => (DD m).WO 1 c
    | ⟨5, _⟩ => (DD m).WI 2 c
    | ⟨6, _⟩ => (DD m).WO 2 c
    | ⟨7, _⟩ => accV (DD m) 2 c
  Φ t := match t with
    | ⟨0, _⟩ => Φ₀ (DD m) c
    | ⟨_ + 1, _⟩ => Φ₁ c
  q _ := fullShare
  owed t := match t with
    | ⟨0, _⟩ => owL c pays
    | ⟨_ + 1, _⟩ => 0

omit [FloatOps F] in
theorem owns_buf (c : Dev nD) (b : Ref sig .tc) (X : b.ty.Contents (Elt F)) :
    (owns (Ix := ℕ) (Name := ℕ) (U := UU) (Lvl := ℕ) (c : Thread nD τ) (Memref.whole b) fullShare X : sProp (MT nD τ sig ℕ (Elt F) ℕ UU ℕ)) = buf c b (fun f => f = X) := by
  unfold owns buf; simp only [Memref.view_whole, View.read_whole, View.set_whole]

/-- What the body is given, -/
def bodyPre (c : Dev nD) : sProp 𝕄 :=
  iprop(Φ₀ (DD m) c ∗ (dats m ρ 0 c).owesAt 0 t0_0.castSucc
    ∗ (∃ d, buf c cc0_stg0_0 (fun f => f = (dats m ρ 0 c).before (0 : Fin 8) t0_0 d))
    ∗ (∃ d, buf c cc0_stg1_0 (fun f => f = (dats m ρ 0 c).before (1 : Fin 8) t0_0 d))
    ∗ (∃ d, buf c cc0_stg2_0 (fun f => f = (dats m ρ 0 c).before (2 : Fin 8) t0_0 d))
    ∗ (∃ d, buf c cc0_stg3_0 (fun f => f = (dats m ρ 0 c).before (3 : Fin 8) t0_0 d))
    ∗ (∃ d, buf c cc0_stg4_0 (fun f => f = (dats m ρ 0 c).before (4 : Fin 8) t0_0 d))
    ∗ (∃ d, buf c cc0_stg5_0 (fun f => f = (dats m ρ 0 c).before (5 : Fin 8) t0_0 d))
    ∗ (∃ d, buf c cc0_stg6_0 (fun f => f = (dats m ρ 0 c).before (6 : Fin 8) t0_0 d))
    ∗ (∃ d, buf c cc0_stg7_0 (fun f => f = (dats m ρ 0 c).before (7 : Fin 8) t0_0 d)))

/-- and what it gives back. -/
def bodyPost (c : Dev nD) : sProp 𝕄 :=
  iprop(Φ₁ (F := F) c ∗ (dats m ρ 0 c).owesAt 0 t0_0.succ
    ∗ buf c cc0_stg0_0 (fun f => f = (DD m).X c) ∗ buf c cc0_stg1_0 (fun f => f = (DD m).WI 0 c) ∗ buf c cc0_stg2_0 (fun f => f = (DD m).WO 0 c)
    ∗ buf c cc0_stg3_0 (fun f => f = (DD m).WI 1 c) ∗ buf c cc0_stg4_0 (fun f => f = (DD m).WO 1 c) ∗ buf c cc0_stg5_0 (fun f => f = (DD m).WI 2 c)
    ∗ buf c cc0_stg6_0 (fun f => f = (DD m).WO 2 c) ∗ buf c cc0_stg7_0 (fun f => f = accV (DD m) 2 c))

theorem before_0 (c : Dev nD) (d) : (dats m ρ 0 c).before (0 : Fin 8) t0_0 d = (DD m).X c := by
  unfold Dat.before; rw [if_pos (fetch0_0 _)]; rfl
theorem before_1 (c : Dev nD) (d) : (dats m ρ 0 c).before (1 : Fin 8) t0_0 d = (DD m).WI 0 c := by
  unfold Dat.before; rw [if_pos (fetch0_1 _)]; rfl
theorem before_2 (c : Dev nD) (d) : (dats m ρ 0 c).before (2 : Fin 8) t0_0 d = (DD m).WO 0 c := by
  unfold Dat.before; rw [if_pos (fetch0_2 _)]; rfl
theorem before_3 (c : Dev nD) (d) : (dats m ρ 0 c).before (3 : Fin 8) t0_0 d = (DD m).WI 1 c := by
  unfold Dat.before; rw [if_pos (fetch0_3 _)]; rfl
theorem before_4 (c : Dev nD) (d) : (dats m ρ 0 c).before (4 : Fin 8) t0_0 d = (DD m).WO 1 c := by
  unfold Dat.before; rw [if_pos (fetch0_4 _)]; rfl
theorem before_5 (c : Dev nD) (d) : (dats m ρ 0 c).before (5 : Fin 8) t0_0 d = (DD m).WI 2 c := by
  unfold Dat.before; rw [if_pos (fetch0_5 _)]; rfl
theorem before_6 (c : Dev nD) (d) : (dats m ρ 0 c).before (6 : Fin 8) t0_0 d = (DD m).WO 2 c := by
  unfold Dat.before; rw [if_pos (fetch0_6 _)]; rfl

theorem body_in (c : Dev nD) : bodyPre m ρ c ⊢ iprop(∃ K, St (DD m) K c (stg 100 0) 0 false 0 none true false) := by
  unfold bodyPre
  simp only [before_0, before_1, before_2, before_3, before_4, before_5, before_6]
  unfold Φ₀ Dat.owesAt Pipeline.owesWithin
  rw [show (dats m ρ 0 c).owed t0_0.castSucc = owL c (pays.drop 0) from rfl]
  iintro ⟨⟨%K, #HK, #HL, HS, Hb, Hx, Hp, H0, HR⟩, ⟨%W, -, HO⟩, ⟨%d0, I0⟩, ⟨%d1, I1⟩, ⟨%d2, I2⟩, ⟨%d3, I3⟩, ⟨%d4, I4⟩, ⟨%d5, I5⟩, ⟨%d6, I6⟩, ⟨%d7, I7⟩⟩
  iexists K
  unfold St core inp ost buf
  icases I7 with ⟨%f7, -, I7⟩
  isplitl [HS HO]
  · isplitr; · iexact HK
    isplitr; · iexact HL
    isplitl [HS]; · iexact HS
    iexists W; iexact HO
  isplitl [Hb]; · iexact Hb
  isplitl [Hx]; · iexact Hx
  isplitl [Hp]; · iexact Hp
  isplitl [H0]; · iexact H0
  isplitl [I7]
  · iexists f7
    isplitr; · ipureintro; exact fun h => absurd h Bool.false_ne_true
    iexact I7
  isplitr [HR]
  · isplitl [I0]; · iexact I0
    isplitl [I1]; · iexact I1
    isplitl [I3]; · iexact I3
    isplitl [I5]; · iexact I5
    isplitl [I2]; · iexact I2
    isplitl [I4]; · iexact I4
    iexact I6
  iexact HR

theorem body_out (K : Dev nD × CI → ℕ) (c : Dev nD) : St (DD m) K c (stg 100 36) 90 true 16 (some 2) true true ⊢ |={Set.univ}=> bodyPost m ρ c := by
  unfold bodyPost Dat.owesAt Pipeline.owesWithin St core inp ost
  rw [show (dats m ρ 0 c).owed t0_0.succ = owL c (pays.drop 90) from rfl]
  iintro ⟨⟨#HK, -, HS, ⟨%W, HO⟩⟩, Hb, Hx, Hp, H0, I7, ⟨I0, I1, I3, I5, I2, I4, I6⟩, HR⟩
  imod (end_intro (DD m) K c) $$ [HS Hb Hx Hp H0 HR] with H
  · isplitr; · iexact HK
    isplitl [HS]; · iexact HS
    isplitl [Hb]; · iexact Hb
    isplitl [Hx]; · iexact Hx
    isplitl [Hp]; · iexact Hp
    isplitl [H0]; · iexact H0
    iexact HR
  imodintro
  isplitl [H]; · iexact H
  isplitl [HO]
  · iexists W
    isplitr; · ipureintro; exact fun _ _ => Or.inl trivial
    iexact HO
  isplitl [I0]; · iexact I0
  isplitl [I1]; · iexact I1
  isplitl [I2]; · iexact I2
  isplitl [I3]; · iexact I3
  isplitl [I4]; · iexact I4
  isplitl [I5]; · iexact I5
  isplitl [I6]; · iexact I6
  unfold buf
  icases I7 with ⟨%f, %hf, I7⟩
  iexists f
  isplitr; · ipureintro; exact hf rfl
  iexact I7

set_option maxRecDepth 100000 in
/-- The body's obligation on device `c`. -/
theorem body_obligation (c : Dev nD) : BodyObligation (dats (F := F) m ρ 0 c) (defs₀ (F := F)) 𝒱₀ 0 Set.univ := fun t => by
  rw [show t = t0_0 from fin_N0 t]
  rw [show (bigSep Finset.univ : (Fin cfg0.W → sProp 𝕄) → sProp 𝕄) = fun Φ => _ from funext fun Φ => bigSep_W0 Φ]
  simp only [owns_buf]
  show bodyPre m ρ c ⊢ WP c kern (fun _ => bodyPost m ρ c)
  refine (body_in m ρ c).trans ?_
  iintro ⟨%K, H⟩
  iapply (kern_spec (DD m) K (fun _ => bodyPost m ρ c) (body_out m ρ K c))
  iexact H

/-! ## The run -/

theorem share_eq (p : Fin 1) (c : Dev nD) (w) : (dats m ρ p c).share w = fullShare := by unfold Dat.share; split <;> rfl

theorem waits (c : Dev nD) : (levAts L lv : sProp (MT nD τ sig ℕ (Elt F) ℕ UU ℕ)) ⊢ Pipeline.cellsWaits cfgs (dats m ρ) 0 0 c :=
  Pipeline.cellsWaits_intro cfgs (dats m ρ) 0 0 c fun w s t => by
    rcases t with ⟨_ | _, ht⟩
    · exact mayWait c _ 0 pays (by decide) (by decide)
    · exact mayWait c _ 0 [] (by decide) (fun a ha => by cases ha)

/-- What a device takes from the launch into its region. -/
def start (c : Dev nD) : sProp 𝕄 := iprop(G' (DD m) c ∗ Pipeline.launchCred (fun d : Dev nD => owL d pays) c ∗ levAts L lv)

theorem start_of (c : Dev nD) :
    iprop(Pipeline.unscopedRestP Pipeline.Prefetch.none cfg0.spec c (fun b => m ((c : Thread nD τ).loc b)) ∗ levAts L lv
        ∗ Pipeline.launchCred (fun d : Dev nD => owL d pays) c ∗ prngReg c (ρ c) ∗ G' (DD m) c)
      ⊢ |={Set.univ}=> iprop(start m c ∗ emp) := by
  unfold start
  iintro ⟨-, H1, H2, -, H3⟩
  imodintro
  isplitl
  · isplitl [H3]; · iexact H3
    isplitl [H2]; · iexact H2
    iexact H1
  iempintro

theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (DD m) c from rfl, scopedRest0_eq]
  refine BIBase.Entails.trans ?_ (start_intro (DD m) c)
  unfold start
  iintro ⟨H1, -, H2⟩
  isplitl [H1]; · iexact H1
  iexact H2

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  exact .rfl

/-- What array `w` of device `c` holds in the end. -/
def finalA (c : Dev nD) (w : Fin cfg0.W) : Buf (Elt F) ((cfg0.win w).arr.view.loc (c : Thread nD τ)) := (dats m ρ 0 c).arrAt w cfg0.N

/-- Every array of every device holds it. -/
def Done : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On sixteen devices, for any floats, from any memory whose counters are at zero, every fair run of the program ends, each array as
    `finalA` says and every counter at zero. -/
theorem run_main : θ_run defs (onTc (τ := τ) (main (F := F))) (s₀ m ρ) (fun r => Done m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ 0)
    (hdistinct := winFacts0.arr_inj)
    (O₀ := fun d => owL d pays) (howed₀ := fun _ => rfl) (howedN := fun _ => rfl)
    (L := L) (lv := lv) (hL := L_of_ne) (hwaits := waits m ρ)
    (G := G (DD m)) (G' := G' (DD m)) (u₀ := u₀)
    (hu₀ := by
      unfold u₀
      iintro Hu
      ihave H := (ownU_pair _ _) $$ Hu
      icases H with ⟨H1, H2⟩
      imod (fund_cells (DD m)) $$ H2 with H2
      imodintro
      isplitl [H1] <;> iassumption)
    (hglob := glob (DD m))
    (hA := fun _ _ => rfl) (hpf := fun _ k => k.elim0)
    (X := start m) (Y := fun c => unscopedSems0 c) (Z := fun _ => iprop(emp))
    (hX := start_of m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are as they were, -/
theorem final_in (c : Dev nD) (w : Fin 8) (hw : w ≠ 7) : finalA m ρ c w = m ((cfg0.win w).arr.view.loc (c : Thread nD τ)) :=
  (dats (F := F) m ρ 0 c).arrAt_in w (by revert w; decide) _

/-- and the result holds what the last layer leaves. -/
theorem final_out (c : Dev nD) : (win0_7.blk (0 : Fin 1)).view.read (Elt F) (finalA m ρ c (7 : Fin 8)) = accV (DD m) 2 c := by
  unfold finalA
  rw [show cfg0.N = ((0 : Fin 1) : Fin cfg0.N).val + 1 from rfl, (dats m ρ 0 c).arrAt_succ (7 : Fin 8) (0 : Fin 1)]
  rw [show (cfg0.win (7 : Fin 8)).flush (0 : Fin 1) = true from flush0_7 _, if_pos rfl]
  exact View.read_write_univ _ _

end Cert.Mlp
-- ==== Proof.Frames.lean ====
/-
# The three frames
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Mlp

open Idealize.ShloMosaic Idealize.SL.Sem

/-- The run of the program leaves the arguments and the counters as they were, for any floats. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0) :=
  (θ_run Cert.KernelIdeal.defs _ _).mono
    (fun r h => ⟨fun c => ⟨(h.1 c (0 : Fin 8)).trans (final_in m ρ c 0 (by decide)), (h.1 c (1 : Fin 8)).trans (final_in m ρ c 1 (by decide)),
      (h.1 c (3 : Fin 8)).trans (final_in m ρ c 3 (by decide)), (h.1 c (5 : Fin 8)).trans (final_in m ρ c 5 (by decide)),
      (h.1 c (2 : Fin 8)).trans (final_in m ρ c 2 (by decide)), (h.1 c (4 : Fin 8)).trans (final_in m ρ c 4 (by decide)),
      (h.1 c (6 : Fin 8)).trans (final_in m ρ c 6 (by decide))⟩, h.2⟩)
    (run_main m ρ)

/-- The frame at `Ideal`. -/
theorem frame_ideal : Cert.quiescent_KernelIdeal := fun m ρ _ => frame_any (F := Ideal) m ρ

/-- So does the reference's. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

end Cert.Mlp
-- ==== Proof.FrameK.lean ====
/-
# The frame of the program at `Bits`

The printed program at `Bits` and the one at `Ideal` have one text, so their body tables are equal and the run of the one is the run
of the other.
-/
module

public import proofs.«01_k».proof.Defs
public import proofs.«01_k».proof.Proof.Frames
public import proofs.«01_k».proof.Proof.Gen.Kernel

@[expose] public section

noncomputable section

namespace Cert.Mlp

open Idealize.ShloMosaic Idealize.SL.Sem

set_option maxRecDepth 100000 in
/-- The kernels of the two programs are one, -/
theorem body_eq {F : FTy → Type} [FloatOps F] : @Cert.Kernel.cc0_body F _ Cert.Kernel.Gen.facts = @Cert.KernelIdeal.cc0_body F _ Cert.KernelIdeal.Gen.facts := rfl

set_option maxRecDepth 100000 in
/-- so are their tables, -/
theorem table_eq {F : FTy → Type} [FloatOps F] : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => funext fun a => ?_)
  obtain ⟨_ | n, h⟩ := l
  · obtain ⟨t, s⟩ := a
    rfl
  · exact absurd h (by omega)

set_option maxRecDepth 100000 in
/-- and the tables of the programs. -/
theorem defs_eq {F : FTy → Type} [FloatOps F] : @Cert.Kernel.defs F _ Cert.Kernel.Gen.facts = @Cert.KernelIdeal.defs F _ Cert.KernelIdeal.Gen.facts :=
  congrArg (Pipeline.defs Cert.KernelIdeal.pcfgs) (table_eq (F := F))

set_option maxRecDepth 100000 in
/-- The frame at `Bits`. -/
theorem frame_bits : Cert.quiescent_Kernel := by
  intro m ρ _
  rw [defs_eq]
  exact frame_any (F := Bits) m ρ

end Cert.Mlp
-- ==== Proof.Layer.lean ====
/-
# What a layer computes over the reals

At `Ideal` the sum that a device forms of its own slot and the fifteen that it received is the row of the whole layer: the sum over the
devices is the sum over the 8192 hidden units, 512 from each.
-/
module

public import proofs.«01_k».proof.Proof.Proto
public import Idealize.ShloMosaic.Lib.MatmulPlain
public import Idealize.ShloMosaic.Lib.Pipeline.Value
public import Mathlib.Logic.Equiv.Fin.Basic

@[expose] public section

noncomputable section

namespace Cert.Mlp

open Cert.KernelIdeal Cert.KernelIdeal.Gen
open Idealize.ShloMosaic
open scoped BigOperators

/-- One entry of a layer: the row `x` through `n` hidden units with input weights `wi` and output weights `wo`. -/
def net {n : ℕ} (x : Fin 256 → EReal) (wi : Fin 256 → Fin n → EReal) (wo : Fin n → EReal) : EReal :=
  ∑ h : Fin n, max (∑ q : Fin 256, x q * wi q h) 0 * wo h

/-- The hidden units in sixteen parts of 512. -/
theorem net_parts (x : Fin 256 → EReal) (wi : Fin 256 → Fin 8192 → EReal) (wo : Fin 8192 → EReal)
    (wi' : Fin 16 → Fin 256 → Fin 512 → EReal) (wo' : Fin 16 → Fin 512 → EReal)
    (hi : ∀ d q (h : Fin 512), wi' d q h = wi q ⟨d.val * 512 + h.val, by omega⟩)
    (ho : ∀ d (h : Fin 512), wo' d h = wo ⟨d.val * 512 + h.val, by omega⟩) :
    ∑ d : Fin 16, net x (wi' d) (wo' d) = net x wi wo := by
  unfold net
  rw [← Fintype.sum_prod_type' (f := fun (d : Fin 16) (h : Fin 512) => max (∑ q : Fin 256, x q * wi' d q h) 0 * wo' d h)]
  refine Fintype.sum_equiv (finProdFinEquiv (m := 16) (n := 512)) _ _ fun p => ?_
  have e : (finProdFinEquiv (m := 16) (n := 512) p : Fin 8192) = ⟨p.1.val * 512 + p.2.val, by omega⟩ :=
    Fin.ext (by show p.2.val + 512 * p.1.val = p.1.val * 512 + p.2.val; omega)
  rw [show (finProdFinEquiv (m := 16) (n := 512) p) = _ from e, ho]
  simp only [hi]

/-- A quarter's product at an entry. -/
theorem mm_apply (x : Vec Ideal S128x256 .f32) (wi : Vec Ideal S256x512 .f32) (wo : Vec Ideal S512x256 .f32) (r : Fin 128) (k : Fin 256) :
    mm x wi wo (ix2 r k) = net (fun q => x (ix2 r q)) (fun q h => wi (ix2 q h)) (fun h => wo (ix2 h k)) := by
  unfold mm k0_pay17 net
  rw [shapeCast_self, shapeCast_self]
  refine (Ideal.matmul_plain_apply (M := 128) (K := 512) (N := 256) none _ _ _ r k).trans ?_
  refine (congrArg (· + _) Ideal.ofBits_zero_f32).trans ((zero_add _).trans (Finset.sum_congr rfl fun h _ => ?_))
  refine congrArg (· * wo (ix2 h k)) ?_
  refine congrArg₂ max ?_ Ideal.ofBits_zero_f32
  refine (Ideal.matmul_plain_apply (M := 128) (K := 256) (N := 512) none _ _ _ r h).trans ?_
  exact (congrArg (· + _) Ideal.ofBits_zero_f32).trans (zero_add _)

/-- A slot of the product comes from the same slot of the input. -/
theorem slot_apply (xi : Fin 16 → Vec Ideal S32x256 .f32) (wi : Vec Ideal S256x512 .f32) (wo : Vec Ideal S512x256 .f32) (p : Fin 16)
    (r : Fin 32) (k : Fin 256) :
    sl (jt p) (Pof xi wi wo (jq p)) (ix2 r k) = net (fun q => xi p (ix2 r q)) (fun q h => wi (ix2 q h)) (fun h => wo (ix2 h k)) := by
  unfold Pof
  refine (mm_apply _ wi wo _ k).trans ?_
  refine congrArg (fun x : Fin 256 → EReal => net x _ _) (funext fun q => ?_)
  have h := congrFun (sl_cat4 (jt p) fun t => xi (qs (jq p) t)) (ix2 r q)
  refine Eq.trans h (congrArg (fun s => xi s (ix2 r q)) (Fin.ext ?_))
  show 4 * (p.val / 4) + p.val % 4 = p.val
  omega

/-- The order of the additions does not matter. -/
theorem sum_slots (own : FVec Ideal S32x256 .f32) (recv : Fin 16 → FVec Ideal S32x256 .bf16) (i : S32x256.Idx) (g : Fin 16 → EReal)
    (h0 : own i = g 0) (h : ∀ p, recv p i = g p) : Aof own recv i = ∑ p : Fin 16, g p := by
  have e : Aof own recv i = down.foldl (fun a p => a + g p) (g 0) := by
    rw [← h0, ← funext h]
    rfl
  have f : ∀ (L : List (Fin 16)) (a : EReal), L.foldl (fun a p => a + g p) a = a + (L.map g).sum := by
    intro L
    induction L with
    | nil => intro a; exact (add_zero a).symm
    | cons p L ih => intro a; rw [List.foldl_cons, ih, List.map_cons, List.sum_cons, add_assoc]
  rw [e, f, Fin.sum_univ_def, ← List.sum_cons, ← List.map_cons]
  exact ((show (0 :: down).Perm (List.finRange 16) from by decide).map g).sum_eq

variable (D : In Ideal)

/-- What a device holds of a layer's result, from the whole input of the layer. -/
theorem acc_apply (l : Fin 3) (c : Dev nD) (X : Fin 512 → Fin 256 → EReal)
    (hx : ∀ d p (r : Fin 32) q, xin D l.val d p (ix2 r q) = X ⟨(ddn d p).val * 32 + r.val, by have : (ddn d p).val < 16 := (ddn d p).isLt; omega⟩ q)
    (r : Fin 32) (k : Fin 256) :
    accV D l c (ix2 r k) = ∑ d : Dev nD, net (X ⟨c.val * 32 + r.val, by have : c.val < 16 := c.isLt; omega⟩)
      (fun q h => D.WI l d (ix2 q h)) (fun h => D.WO l d (ix2 h k)) := by
  let g : Dev nD → EReal := fun d => net (X ⟨c.val * 32 + r.val, by have : c.val < 16 := c.isLt; omega⟩)
      (fun q h => D.WI l d (ix2 q h)) (fun h => D.WO l d (ix2 h k))
  have key : ∀ p : Fin 16, sl (jt p) (pV D l (dup c p) (jq p)) (ix2 r k) = g (dup c p) := by
    intro p
    refine (slot_apply _ _ _ p r k).trans ?_
    refine congrArg (fun x : Fin 256 → EReal => net x _ _) (funext fun q => (hx (dup c p) p r q).trans ?_)
    refine congrArg (fun R => X R q) (Fin.ext ?_)
    show (ddn (dup c p) p).val * 32 + r.val = c.val * 32 + r.val
    rw [ddn_dup]
  have z : dup c 0 = c := (by decide : ∀ c : Dev nD, dup c 0 = c) c
  refine (sum_slots _ _ _ (fun p => g (dup c p)) ?_ key).trans ?_
  · have := key 0
    rw [z] at this
    exact this.trans (congrArg g z.symm)
  · refine Function.Bijective.sum_comp (e := dup c) ?_ g
    exact (by decide : ∀ c : Dev nD, Function.Injective (dup c)) c |>.bijective_of_finite

end Cert.Mlp
-- ==== Proof.Value.lean ====
/-
# The value claim

Three layers, one after the other: what device `c` returns is block `c` of the rows of the reference's result.
-/
module

public import proofs.«01_k».proof.Defs
public import proofs.«01_k».proof.Proof.Layer
public import proofs.«01_k».proof.Proof.Run
public import proofs.«01_k».proof.Proof.Gen.Kernel
public import proofs.«01_k».proof.Proof.Gen.ReferenceIdeal.Run
public import Idealize.ShloMosaic.Lib.StackMember

@[expose] public section

noncomputable section

namespace Cert.Mlp

open Idealize.ShloMosaic Idealize.SL.Sem
open scoped BigOperators

/-! ## The reference -/

section Ref

open Cert.ReferenceIdeal Cert.ReferenceIdeal.Gen

/-- One layer of the reference. -/
def refL (x : FVec Ideal S512x256 .f32) (w : FVec Ideal S256x8192 .f32) (v : FVec Ideal S8192x256 .f32) : FVec Ideal S512x256 .f32 :=
  Host.dotGeneral dot_S512x8192_S8192x256_S512x256_1_0_0_1_n_n none
    (maximumf (Host.dotGeneral dot_S512x256_S256x8192_S512x8192_1_0_0_1_n_n none x w)
      (broadcastInDim S512x8192 ![] bcast_S_S512x8192 (constant S_ .f32 0x00000000#32))) v

/-- It at an entry. -/
theorem refL_apply (x : FVec Ideal S512x256 .f32) (w : FVec Ideal S256x8192 .f32) (v : FVec Ideal S8192x256 .f32) (R : Fin 512) (k : Fin 256) :
    refL x w v (ix2 R k) = net (fun q => x (ix2 R q)) (fun q h => w (ix2 q h)) (fun h => v (ix2 h k)) := by
  unfold refL net
  refine (StackMember.dotGeneral_plain_apply (m := 512) (k := 8192) (n := 256) none _ v R k).trans (Finset.sum_congr rfl fun h _ => ?_)
  refine congrArg (· * v (ix2 h k)) (congrArg₂ max ?_ Ideal.ofBits_zero_f32)
  exact StackMember.dotGeneral_plain_apply (m := 512) (k := 256) (n := 8192) none x w R h

end Ref

/-! ## The three layers -/

open Cert.KernelIdeal Cert.KernelIdeal.Gen

/-- One layer: from inputs that are rows of `x`, every device's result is its rows of the reference's layer. -/
theorem acc_ref (D : In Ideal) (l : Fin 3) (x : FVec Ideal S512x256 .f32) (w : FVec Ideal ⟨2, ![256, 8192]⟩ .f32) (v : FVec Ideal ⟨2, ![8192, 256]⟩ .f32)
    (hw : ∀ d, D.WI l d = Layout.block ⟨2, ![256, 512]⟩ ⟨2, ![256, 8192]⟩ 1 16 d w)
    (hv : ∀ d, D.WO l d = Layout.block ⟨2, ![512, 256]⟩ ⟨2, ![8192, 256]⟩ 0 16 d v)
    (hx : ∀ d p, xin D l.val d p = Layout.block ⟨2, ![32, 256]⟩ ⟨2, ![512, 256]⟩ 0 16 (ddn d p) x) (c : Dev nD) :
    accV D l c = Layout.block ⟨2, ![32, 256]⟩ ⟨2, ![512, 256]⟩ 0 16 c (refL x w v) := by
  funext i
  obtain ⟨r, k, rfl⟩ : ∃ (r : Fin 32) (k : Fin 256), i = ix2 r k :=
    ⟨i 0, i 1, by funext a; match a with | ⟨0, _⟩ => rfl | ⟨1, _⟩ => rfl⟩
  have row : ∀ (d : Fin 16) (r : Fin 32) (q : Fin 256) (y : FVec Ideal S512x256 .f32),
      (Layout.block ⟨2, ![32, 256]⟩ ⟨2, ![512, 256]⟩ 0 16 d y) (ix2 r q) = y (ix2 (n0 := 512) ⟨d.val * 32 + r.val, by omega⟩ q) := by
    intro d r q y
    refine congrArg y (funext fun a => ?_)
    match a with
    | ⟨0, _⟩ => rfl
    | ⟨1, _⟩ => rfl
  refine (acc_apply D l c (fun R q => x (ix2 R q)) (fun d p r q => ?_) r k).trans ?_
  · rw [hx]
    exact row (ddn d p) r q x
  · refine Eq.trans ?_ (row c r k _).symm
    rw [refL_apply]
    refine net_parts _ _ _ _ _ (fun d q h => ?_) (fun d h => ?_)
    · rw [hw]
      refine congrArg w (funext fun a => ?_)
      match a with
      | ⟨0, _⟩ => rfl
      | ⟨1, _⟩ => rfl
    · rw [hv]
      refine congrArg v (funext fun a => ?_)
      match a with
      | ⟨0, _⟩ => rfl
      | ⟨1, _⟩ => rfl

/-- All three. -/
theorem acc_all (D : In Ideal) (x : FVec Ideal S512x256 .f32) (w : Fin 3 → FVec Ideal ⟨2, ![256, 8192]⟩ .f32) (v : Fin 3 → FVec Ideal ⟨2, ![8192, 256]⟩ .f32)
    (hx : ∀ d, D.X d = x)
    (hw : ∀ l d, D.WI l d = Layout.block ⟨2, ![256, 512]⟩ ⟨2, ![256, 8192]⟩ 1 16 d (w l))
    (hv : ∀ l d, D.WO l d = Layout.block ⟨2, ![512, 256]⟩ ⟨2, ![8192, 256]⟩ 0 16 d (v l)) (c : Dev nD) :
    accV D 2 c = Layout.block ⟨2, ![32, 256]⟩ ⟨2, ![512, 256]⟩ 0 16 c
      (refL (refL (refL x (w 0) (v 0)) (w 1) (v 1)) (w 2) (v 2)) := by
  have h0 := acc_ref D 0 x (w 0) (v 0) (hw 0) (hv 0) fun d p => by
    funext i
    refine (congrFun (hx d) _).trans (congrArg x (funext fun a => Fin.ext ?_))
    match a with
    | ⟨0, _⟩ => show 32 * (ddn d p).val + 1 * (i 0).val = (ddn d p).val * 32 + (i 0).val; omega
    | ⟨1, _⟩ => show 0 + 1 * (i 1).val = (i 1).val; omega
  have h1 := acc_ref D 1 _ (w 1) (v 1) (hw 1) (hv 1) fun d p => (xin_one D d p).trans (h0 (ddn d p))
  exact acc_ref D 2 _ (w 2) (v 2) (hw 2) (hv 2) (fun d p => (xin_two D d p).trans (h1 (ddn d p))) c

/-! ## Each argument's block, and the result's, is the whole array -/

/-- Window 0's block is the whole argument. -/
theorem whole_0 (f : main_arg0.ty.Contents (Elt Ideal)) : (win0_0.blk (0 : Fin 1)).view.read (Elt Ideal) f = f :=
  Memref.read_access_unit_zero (Elt Ideal) main_arg0 (off := fun a => win0_0.index (0 : Fin 1) a * main_arg0.ty.shape.size a)
    (funext fun a => by fin_cases a <;> decide) _ f
/-- Window 1's block is the whole argument. -/
theorem whole_1 (f : main_arg1.ty.Contents (Elt Ideal)) : (win0_1.blk (0 : Fin 1)).view.read (Elt Ideal) f = f :=
  Memref.read_access_unit_zero (Elt Ideal) main_arg1 (off := fun a => win0_1.index (0 : Fin 1) a * main_arg1.ty.shape.size a)
    (funext fun a => by fin_cases a <;> decide) _ f
/-- Window 2's block is the whole argument. -/
theorem whole_2 (f : main_arg4.ty.Contents (Elt Ideal)) : (win0_2.blk (0 : Fin 1)).view.read (Elt Ideal) f = f :=
  Memref.read_access_unit_zero (Elt Ideal) main_arg4 (off := fun a => win0_2.index (0 : Fin 1) a * main_arg4.ty.shape.size a)
    (funext fun a => by fin_cases a <;> decide) _ f
/-- Window 3's block is the whole argument. -/
theorem whole_3 (f : main_arg2.ty.Contents (Elt Ideal)) : (win0_3.blk (0 : Fin 1)).view.read (Elt Ideal) f = f :=
  Memref.read_access_unit_zero (Elt Ideal) main_arg2 (off := fun a => win0_3.index (0 : Fin 1) a * main_arg2.ty.shape.size a)
    (funext fun a => by fin_cases a <;> decide) _ f
/-- Window 4's block is the whole argument. -/
theorem whole_4 (f : main_arg5.ty.Contents (Elt Ideal)) : (win0_4.blk (0 : Fin 1)).view.read (Elt Ideal) f = f :=
  Memref.read_access_unit_zero (Elt Ideal) main_arg5 (off := fun a => win0_4.index (0 : Fin 1) a * main_arg5.ty.shape.size a)
    (funext fun a => by fin_cases a <;> decide) _ f
/-- Window 5's block is the whole argument. -/
theorem whole_5 (f : main_arg3.ty.Contents (Elt Ideal)) : (win0_5.blk (0 : Fin 1)).view.read (Elt Ideal) f = f :=
  Memref.read_access_unit_zero (Elt Ideal) main_arg3 (off := fun a => win0_5.index (0 : Fin 1) a * main_arg3.ty.shape.size a)
    (funext fun a => by fin_cases a <;> decide) _ f
/-- Window 6's block is the whole argument. -/
theorem whole_6 (f : main_arg6.ty.Contents (Elt Ideal)) : (win0_6.blk (0 : Fin 1)).view.read (Elt Ideal) f = f :=
  Memref.read_access_unit_zero (Elt Ideal) main_arg6 (off := fun a => win0_6.index (0 : Fin 1) a * main_arg6.ty.shape.size a)
    (funext fun a => by fin_cases a <;> decide) _ f
/-- The result's block is the whole array. -/
theorem whole_7 (f : main_v1.ty.Contents (Elt Ideal)) : (win0_7.blk (0 : Fin 1)).view.read (Elt Ideal) f = f :=
  Memref.read_access_unit_zero (Elt Ideal) main_v1 (off := fun a => win0_7.index (0 : Fin 1) a * main_v1.ty.shape.size a)
    (funext fun a => by fin_cases a <;> decide) _ f

/-! ## The claim -/

/-- Over the reals the devices' results are the blocks of the reference's. -/
theorem algebraic : Cert.algebraic_KernelIdeal_ReferenceIdeal := by
  intro m ρ m' ρ' _ hagree
  refine ⟨refL (refL (refL (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg4)))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg5)))
      (m' (((0 : Dev Cert.ReferenceIdeal.nD).tc : Thread _ Cert.ReferenceIdeal.τ).loc Cert.ReferenceIdeal.main_arg3))
      (m' (((0 : Dev Cert.ReferenceIdeal.nD).tc : Thread _ Cert.ReferenceIdeal.τ).loc Cert.ReferenceIdeal.main_arg6)), ?_, ?_⟩
  · refine (θ_run Cert.KernelIdeal.defs _ _).mono
      (fun r h c => ⟨(h.1 c (7 : Fin 8)).trans ?_, (h.1 c (0 : Fin 8)).trans (final_in m ρ c 0 (by decide)),
        (h.1 c (1 : Fin 8)).trans (final_in m ρ c 1 (by decide)), (h.1 c (3 : Fin 8)).trans (final_in m ρ c 3 (by decide)),
        (h.1 c (5 : Fin 8)).trans (final_in m ρ c 5 (by decide)), (h.1 c (2 : Fin 8)).trans (final_in m ρ c 2 (by decide)),
        (h.1 c (4 : Fin 8)).trans (final_in m ρ c 4 (by decide)), (h.1 c (6 : Fin 8)).trans (final_in m ρ c 6 (by decide))⟩)
      (run_main m ρ)
    refine ((whole_7 _).symm.trans (final_out m ρ c)).trans ?_
    refine acc_all (DD m) _
      (fun l => match l with
        | 0 => m' (((0 : Dev Cert.ReferenceIdeal.nD).tc : Thread _ Cert.ReferenceIdeal.τ).loc Cert.ReferenceIdeal.main_arg1)
        | 1 => m' (((0 : Dev Cert.ReferenceIdeal.nD).tc : Thread _ Cert.ReferenceIdeal.τ).loc Cert.ReferenceIdeal.main_arg2)
        | 2 => m' (((0 : Dev Cert.ReferenceIdeal.nD).tc : Thread _ Cert.ReferenceIdeal.τ).loc Cert.ReferenceIdeal.main_arg3))
      (fun l => match l with
        | 0 => m' (((0 : Dev Cert.ReferenceIdeal.nD).tc : Thread _ Cert.ReferenceIdeal.τ).loc Cert.ReferenceIdeal.main_arg4)
        | 1 => m' (((0 : Dev Cert.ReferenceIdeal.nD).tc : Thread _ Cert.ReferenceIdeal.τ).loc Cert.ReferenceIdeal.main_arg5)
        | 2 => m' (((0 : Dev Cert.ReferenceIdeal.nD).tc : Thread _ Cert.ReferenceIdeal.τ).loc Cert.ReferenceIdeal.main_arg6))
      (fun d => ?_) (fun l d => ?_) (fun l d => ?_) c
    · exact (whole_0 _).trans (hagree d).1
    · match l with
      | 0 => exact (whole_1 _).trans (hagree d).2.1
      | 1 => exact (whole_3 _).trans (hagree d).2.2.1
      | 2 => exact (whole_5 _).trans (hagree d).2.2.2.1
    · match l with
      | 0 => exact (whole_2 _).trans (hagree d).2.2.2.2.1
      | 1 => exact (whole_4 _).trans (hagree d).2.2.2.2.2.1
      | 2 => exact (whole_6 _).trans (hagree d).2.2.2.2.2.2
  · exact (θ_run Cert.ReferenceIdeal.defs _ _).mono (fun r h => h 0) (Cert.ReferenceIdeal.Value.run (F := Ideal) m' ρ')

end Cert.Mlp
-- ==== Proof.lean ====
module

public import proofs.«01_k».proof.Defs
public import proofs.«01_k».proof.Proof.Frames
public import proofs.«01_k».proof.Proof.FrameK
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Mlp.frame_bits, Cert.Mlp.frame_ideal, Cert.Mlp.frame_reference, trivial, Cert.Mlp.algebraic⟩

end Cert.Proof

end
